-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_entries [hPre_finite_entries : Cert.Pre_finite_entries.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_entries.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_entries [hPre_finite_entries : Cert.Pre_finite_entries.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_entries.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite_entries [hKernel6Ideal : Cert.Kernel6Ideal.Facts] [hPre_finite_entries : Cert.Pre_finite_entries.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_entries m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite_entries [hReference6Ideal : Cert.Reference6Ideal.Facts] [hPre_finite_entries : Cert.Pre_finite_entries.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_entries m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v27_0)) (v1 : (c : Dev Cert.Kernel5Ideal.nD) → Buf (Elt Ideal) ((c.tc : Thread Cert.Kernel5Ideal.nD Cert.Kernel5Ideal.τ).loc Cert.Kernel5Ideal.main_v27_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v27_0) = v0 c
          ∧ r.2.mem ((c.tc : Thread Cert.Kernel5Ideal.nD Cert.Kernel5Ideal.τ).loc Cert.Kernel5Ideal.main_v27_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel6_Kernel6Ideal : Prop :=
  True

def algebraic_Kernel6Ideal_Reference6Ideal_pre_finite_entries [hKernel6Ideal : Cert.Kernel6Ideal.Facts] [hReference6Ideal : Cert.Reference6Ideal.Facts] [hPre_finite_entries : Cert.Pre_finite_entries.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_entries m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel6 : Cert.Kernel6.Facts) (hKernel6Ideal : Cert.Kernel6Ideal.Facts) (hReference6Ideal : Cert.Reference6Ideal.Facts) (hPre_finite_entries : Cert.Pre_finite_entries.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel6 (hKernel6 := hKernel6)
    ∧ quiescent_Kernel6Ideal (hKernel6Ideal := hKernel6Ideal)
    ∧ quiescent_Kernel6Ideal_pre_finite_entries (hKernel6Ideal := hKernel6Ideal) (hPre_finite_entries := hPre_finite_entries)
    ∧ quiescent_Reference6Ideal (hReference6Ideal := hReference6Ideal)
    ∧ quiescent_Reference6Ideal_pre_finite_entries (hReference6Ideal := hReference6Ideal) (hPre_finite_entries := hPre_finite_entries)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel6_Kernel6Ideal
    ∧ algebraic_Kernel6Ideal_Reference6Ideal_pre_finite_entries (hKernel6Ideal := hKernel6Ideal) (hReference6Ideal := hReference6Ideal) (hPre_finite_entries := hPre_finite_entries)
-- ==== Pre_finite_entries.lean ====
abbrev S2x8192x2560 : Shape := ⟨3, ![2, 8192, 2560]⟩
abbrev S2x256x2048 : Shape := ⟨3, ![2, 256, 2048]⟩
abbrev S_ : Shape := ⟨0, ![]⟩

class Facts : Prop where
  bitsLt_bf16_f32 : FTy.bits .bf16 < FTy.bits .f32
  bcast_S_S2x8192x2560 : S_.BroadcastsInDim S2x8192x2560 (![] : Fin 0 → Fin S2x8192x2560.rank)
  reducesTo_S2x8192x2560_S_d0_1_2 : S2x8192x2560.ReducesTo [0, 1, 2] S_
  h_S_ : 0 < S_.numel
  bcast_S_S2x256x2048 : S_.BroadcastsInDim S2x256x2048 (![] : Fin 0 → Fin S2x256x2048.rank)
  reducesTo_S2x256x2048_S_d0_1_2 : S2x256x2048.ReducesTo [0, 1, 2] S_

variable [Facts]

def fn {F : FTy → Type} [FloatOps F] (main_arg0 : FVec F S2x8192x2560 .bf16) (main_arg1 : FVec F S2x256x2048 .bf16) : IVec S_ 1 :=
  let main_v0 : FVec F S2x8192x2560 .f32 := (extf .f32 · bitsLt_bf16_f32) main_arg0
  let main_v1 : FVec F S2x8192x2560 .f32 := Host.absf main_v0
  let main_cst : FVec F S_ .f32 := constant S_ .f32 0x7F800000#32
  let main_v2 : FVec F S2x8192x2560 .f32 := broadcastInDim S2x8192x2560 ![] bcast_S_S2x8192x2560 main_cst
  let main_v3 : IVec S2x8192x2560 1 := cmpf .olt main_v1 main_v2
  let main_c : IVec S_ 1 := constantI S_ 1 1#1
  let main_v4 : IVec S_ 1 := (fun x v => Host.reduce IntOp.andi x v reducesTo_S2x8192x2560_S_d0_1_2 h_S_) main_v3 main_c
  let main_v5 : FVec F S2x256x2048 .f32 := (extf .f32 · bitsLt_bf16_f32) main_arg1
  let main_v6 : FVec F S2x256x2048 .f32 := Host.absf main_v5
  let main_cst_0 : FVec F S_ .f32 := constant S_ .f32 0x7F800000#32
  let main_v7 : FVec F S2x256x2048 .f32 := broadcastInDim S2x256x2048 ![] bcast_S_S2x256x2048 main_cst_0
  let main_v8 : IVec S2x256x2048 1 := cmpf .olt main_v6 main_v7
  let main_c_1 : IVec S_ 1 := constantI S_ 1 1#1
  let main_v9 : IVec S_ 1 := (fun x v => Host.reduce IntOp.andi x v reducesTo_S2x256x2048_S_d0_1_2 h_S_) main_v8 main_c_1
  let main_v10 : IVec S_ 1 := andi main_v4 main_v9
  main_v10
-- ==== Kernel.lean ====
abbrev S2x8192x2560 : Shape := ⟨3, ![2, 8192, 2560]⟩
abbrev S2x8192x2816 : Shape := ⟨3, ![2, 8192, 2816]⟩
abbrev S2x16x256x512 : Shape := ⟨4, ![2, 16, 256, 512]⟩
abbrev S2x64x256x128 : Shape := ⟨4, ![2, 64, 256, 128]⟩
abbrev S1x128 : Shape := ⟨2, ![1, 128]⟩
abbrev S2x2x128x512 : Shape := ⟨4, ![2, 2, 128, 512]⟩
abbrev S_ : Shape := ⟨0, ![]⟩
abbrev S2x8192x1024 : Shape := ⟨3, ![2, 8192, 1024]⟩
abbrev S1x128x1024 : Shape := ⟨3, ![1, 128, 1024]⟩
abbrev S1x8192x256 : Shape := ⟨3, ![1, 8192, 256]⟩
abbrev S1x16x256x512 : Shape := ⟨4, ![1, 16, 256, 512]⟩
abbrev S1x1x256x128 : Shape := ⟨4, ![1, 1, 256, 128]⟩
abbrev S1x128x512 : Shape := ⟨3, ![1, 128, 512]⟩
abbrev S1x8192x128 : Shape := ⟨3, ![1, 8192, 128]⟩
abbrev S1x128x128 : Shape := ⟨3, ![1, 128, 128]⟩
abbrev S8192x128 : Shape := ⟨2, ![8192, 128]⟩
abbrev S2x1x128 : Shape := ⟨3, ![2, 1, 128]⟩
abbrev S2048x128 : Shape := ⟨2, ![2048, 128]⟩
abbrev S2x128x128 : Shape := ⟨3, ![2, 128, 128]⟩
abbrev S512x128 : Shape := ⟨2, ![512, 128]⟩
abbrev S2x512x256 : Shape := ⟨3, ![2, 512, 256]⟩
abbrev S2x1x512 : Shape := ⟨3, ![2, 1, 512]⟩
abbrev S2x128x512 : Shape := ⟨3, ![2, 128, 512]⟩
abbrev S512x1 : Shape := ⟨2, ![512, 1]⟩
abbrev S1x512x128 : Shape := ⟨3, ![1, 512, 128]⟩
abbrev S512 : Shape := ⟨1, ![512]⟩
abbrev S1x512x256 : Shape := ⟨3, ![1, 512, 256]⟩
abbrev S512x256 : Shape := ⟨2, ![512, 256]⟩
abbrev S1 : Shape := ⟨1, ![1]⟩
abbrev S1x1 : Shape := ⟨2, ![1, 1]⟩
abbrev S1x1x128 : Shape := ⟨3, ![1, 1, 128]⟩
abbrev S128x128 : Shape := ⟨2, ![128, 128]⟩
abbrev S128x1024 : Shape := ⟨2, ![128, 1024]⟩
abbrev S1024x128 : Shape := ⟨2, ![1024, 128]⟩
abbrev S1x1x1 : Shape := ⟨3, ![1, 1, 1]⟩
abbrev S512x512 : Shape := ⟨2, ![512, 512]⟩
abbrev S256x128 : Shape := ⟨2, ![256, 128]⟩
abbrev S128 : Shape := ⟨1, ![128]⟩
abbrev S1x1x128x512 : Shape := ⟨4, ![1, 1, 128, 512]⟩
abbrev S128x512 : Shape := ⟨2, ![128, 512]⟩
abbrev S1x1x512 : Shape := ⟨3, ![1, 1, 512]⟩
abbrev S1x512 : Shape := ⟨2, ![1, 512]⟩
abbrev S128x256 : Shape := ⟨2, ![128, 256]⟩
abbrev S1x1x128x128 : Shape := ⟨4, ![1, 1, 128, 128]⟩

abbrev nBuf : Space → Nat
  | .hbm => 14
  | .vmem => 34
  | .smem => 0
  | _ => 0

abbrev bufTy : (tb : Table) → Fin (tcTables nBuf tb) → BufTy
  | .hbm, ⟨0, _⟩ => ⟨S2x8192x2560, .bf16⟩
  | .hbm, ⟨1, _⟩ => ⟨S2x8192x2816, .f32⟩
  | .hbm, ⟨2, _⟩ => ⟨S2x16x256x512, .bf16⟩
  | .hbm, ⟨3, _⟩ => ⟨S2x64x256x128, .bf16⟩
  | .hbm, ⟨4, _⟩ => ⟨S1x128, .f32⟩
  | .hbm, ⟨5, _⟩ => ⟨S1x128, .f32⟩
  | .hbm, ⟨6, _⟩ => ⟨S2x2x128x512, .f32⟩
  | .hbm, ⟨7, _⟩ => ⟨S2x2x128x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x128, .f32⟩
  | .hbm, ⟨13, _⟩ => ⟨S2x8192x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x16x256x512, .bf16⟩
  | .local _ .vmem, ⟨5, _⟩ => ⟨S1x16x256x512, .bf16⟩
  | .local _ .vmem, ⟨6, _⟩ => ⟨S1x1x256x128, .bf16⟩
  | .local _ .vmem, ⟨7, _⟩ => ⟨S1x1x256x128, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S1x128x512, .f32⟩
  | .local _ .vmem, ⟨11, _⟩ => ⟨S1x128x512, .f32⟩
  | .local _ .vmem, ⟨12, _⟩ => ⟨S1x8192x128, .f32⟩
  | .local _ .vmem, ⟨13, _⟩ => ⟨S1x8192x128, .f32⟩
  | .local _ .vmem, ⟨14, _⟩ => ⟨S1x128x128, .f32⟩
  | .local _ .vmem, ⟨15, _⟩ => ⟨S1x128x128, .f32⟩
  | .local _ .vmem, ⟨16, _⟩ => ⟨S1x128, .f32⟩
  | .local _ .vmem, ⟨17, _⟩ => ⟨S1x128, .f32⟩
  | .local _ .vmem, ⟨18, _⟩ => ⟨S2x2x128x512, .f32⟩
  | .local _ .vmem, ⟨19, _⟩ => ⟨S1x128, .f32⟩
  | .local _ .vmem, ⟨20, _⟩ => ⟨S1x128x1024, .bf16⟩
  | .local _ .vmem, ⟨21, _⟩ => ⟨S1x128x1024, .bf16⟩
  | .local _ .vmem, ⟨22, _⟩ => ⟨S8192x128, .bf16⟩
  | .local _ .vmem, ⟨23, _⟩ => ⟨S2x1x128, .f32⟩
  | .local _ .vmem, ⟨24, _⟩ => ⟨S8192x128, .i32⟩
  | .local _ .vmem, ⟨25, _⟩ => ⟨S2048x128, .i32⟩
  | .local _ .vmem, ⟨26, _⟩ => ⟨S2048x128, .i32⟩
  | .local _ .vmem, ⟨27, _⟩ => ⟨S8192x128, .bf16⟩
  | .local _ .vmem, ⟨28, _⟩ => ⟨S2x128x128, .bf16⟩
  | .local _ .vmem, ⟨29, _⟩ => ⟨S512x128, .bf16⟩
  | .local _ .vmem, ⟨30, _⟩ => ⟨S2x512x256, .bf16⟩
  | .local _ .vmem, ⟨31, _⟩ => ⟨S2x1x512, .f32⟩
  | .local _ .vmem, ⟨32, _⟩ => ⟨S2x1x512, .f32⟩
  | .local _ .vmem, ⟨33, _⟩ => ⟨S2x128x512, .f32⟩
  | _, _ => ⟨S2x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [BitOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_357 : BitVec 32 := 0#32
  let c16_i32 : BitVec 32 := 16#32
  let v641 : BitVec 32 := Scalar.addi c0_i32_357 c16_i32
  let c1_i32_358 : BitVec 32 := 1#32
  ⟨c0_i32_357, v641, c1_i32_358⟩
def k0_off1 (k0_t1 : Fin k0_t1_loop.trips) : Fin 3 → Nat :=
  let c0_369 : Index := 0#32
  let c0_i32_357 : BitVec 32 := 0#32
  let c1_i32_358 : BitVec 32 := 1#32
  let arg27 : BitVec 32 := Scf.iv c0_i32_357 c1_i32_358 k0_t1
  let c512_i32_368 : BitVec 32 := 512#32
  let v659 : BitVec 32 := Scalar.muli arg27 c512_i32_368
  let v660 : Index := Scalar.indexCast v659
  let c0_370 : Index := 0#32
  ![0, v660.toNat, 0]
def k0_off2 (k0_t1 : Fin k0_t1_loop.trips) : Fin 2 → Nat :=
  let c0_i32_357 : BitVec 32 := 0#32
  let c1_i32_358 : BitVec 32 := 1#32
  let arg27 : BitVec 32 := Scf.iv c0_i32_357 c1_i32_358 k0_t1
  let c512_i32_381 : BitVec 32 := 512#32
  let v688 : BitVec 32 := Scalar.muli arg27 c512_i32_381
  let v689 : Index := Scalar.indexCast v688
  let c0_382 : Index := 0#32
  ![v689.toNat, 0]
def k0_off3 (k0_t1 : Fin k0_t1_loop.trips) : Fin 3 → Nat :=
  let c0_384 : Index := 0#32
  let c0_i32_357 : BitVec 32 := 0#32
  let c1_i32_358 : BitVec 32 := 1#32
  let arg27 : BitVec 32 := Scf.iv c0_i32_357 c1_i32_358 k0_t1
  let c512_i32_383 : BitVec 32 := 512#32
  let v693 : BitVec 32 := Scalar.muli arg27 c512_i32_383
  let v694 : Index := Scalar.indexCast v693
  let c0_385 : Index := 0#32
  ![0, v694.toNat, 0]
@[reducible] def k0_t2_loop (i : grid0.Coords) : Scf.Loop 32 :=
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_143 : BitVec 32 := 1#32
  ⟨c0_i32_141, v230, c1_i32_143⟩
def k0_mult1 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c0_i32_356 : BitVec 32 := 0#32
  let v638 : BitVec 32 := Scalar.addi v637 c0_i32_356
  let c512_i32_357 : BitVec 32 := 512#32
  let v639 : BitVec 32 := Scalar.muli v638 c512_i32_357
  v639
def k0_off4 (i : grid0.Coords) (k0_t2 : Fin (k0_t2_loop i).trips) (c0_i32_356 : BitVec 32) : Fin 2 → Nat :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let v638 : BitVec 32 := Scalar.addi v637 c0_i32_356
  let c512_i32_357 : BitVec 32 := 512#32
  let v639 : BitVec 32 := Scalar.muli v638 c512_i32_357
  let v640 : BitVec 32 := v639
  let v641 : Index := Scalar.indexCast v640
  let c0_358 : Index := 0#32
  ![v641.toNat, 0]
def k0_mult2 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c1_i32_362 : BitVec 32 := 1#32
  let v645 : BitVec 32 := Scalar.addi v637 c1_i32_362
  let c512_i32_363 : BitVec 32 := 512#32
  let v646 : BitVec 32 := Scalar.muli v645 c512_i32_363
  v646
def k0_mult3 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c0_i32_368 : BitVec 32 := 0#32
  let v652 : BitVec 32 := Scalar.addi v637 c0_i32_368
  let c512_i32_377 : BitVec 32 := 512#32
  let v690 : BitVec 32 := Scalar.muli v652 c512_i32_377
  v690
def k0_mult4 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c0_i32_368 : BitVec 32 := 0#32
  let v652 : BitVec 32 := Scalar.addi v637 c0_i32_368
  let c512_i32_379 : BitVec 32 := 512#32
  let v696 : BitVec 32 := Scalar.muli v652 c512_i32_379
  let c0_i32_380 : BitVec 32 := 0#32
  let v697 : BitVec 32 := Scalar.addi v696 c0_i32_380
  v697
def k0_off5 (i : grid0.Coords) (k0_t2 : Fin (k0_t2_loop i).trips) (c0_i32_368 : BitVec 32) (c0_i32_380 : BitVec 32) : Fin 2 → Nat :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let v652 : BitVec 32 := Scalar.addi v637 c0_i32_368
  let c512_i32_379 : BitVec 32 := 512#32
  let v696 : BitVec 32 := Scalar.muli v652 c512_i32_379
  let v697 : BitVec 32 := Scalar.addi v696 c0_i32_380
  let v698 : BitVec 32 := v697
  let v699 : Index := Scalar.indexCast v698
  let c0_381 : Index := 0#32
  ![v699.toNat, 0]
def k0_mult5 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c0_i32_368 : BitVec 32 := 0#32
  let v652 : BitVec 32 := Scalar.addi v637 c0_i32_368
  let c512_i32_384 : BitVec 32 := 512#32
  let v705 : BitVec 32 := Scalar.muli v652 c512_i32_384
  let c128_i32_385 : BitVec 32 := 128#32
  let v706 : BitVec 32 := Scalar.addi v705 c128_i32_385
  v706
def k0_mult6 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c0_i32_368 : BitVec 32 := 0#32
  let v652 : BitVec 32 := Scalar.addi v637 c0_i32_368
  let c512_i32_389 : BitVec 32 := 512#32
  let v715 : BitVec 32 := Scalar.muli v652 c512_i32_389
  let c256_i32_390 : BitVec 32 := 256#32
  let v716 : BitVec 32 := Scalar.addi v715 c256_i32_390
  v716
def k0_mult7 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c0_i32_368 : BitVec 32 := 0#32
  let v652 : BitVec 32 := Scalar.addi v637 c0_i32_368
  let c512_i32_394 : BitVec 32 := 512#32
  let v725 : BitVec 32 := Scalar.muli v652 c512_i32_394
  let c384_i32_395 : BitVec 32 := 384#32
  let v726 : BitVec 32 := Scalar.addi v725 c384_i32_395
  v726
def k0_mult8 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c0_i32_368 : BitVec 32 := 0#32
  let v652 : BitVec 32 := Scalar.addi v637 c0_i32_368
  let c128_i32_401 : BitVec 32 := 128#32
  let v739 : BitVec 32 := Scalar.muli v652 c128_i32_401
  v739
def k0_off6 (i : grid0.Coords) (k0_t2 : Fin (k0_t2_loop i).trips) (c0_i32_368 : BitVec 32) : Fin 2 → Nat :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let v652 : BitVec 32 := Scalar.addi v637 c0_i32_368
  let c128_i32_401 : BitVec 32 := 128#32
  let v739 : BitVec 32 := Scalar.muli v652 c128_i32_401
  let v740 : BitVec 32 := v739
  let v741 : Index := Scalar.indexCast v740
  let c0_402 : Index := 0#32
  ![v741.toNat, 0]
def k0_mult9 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c0_i32_368 : BitVec 32 := 0#32
  let v652 : BitVec 32 := Scalar.addi v637 c0_i32_368
  let c128_i32_404 : BitVec 32 := 128#32
  let v746 : BitVec 32 := Scalar.muli v652 c128_i32_404
  v746
def k0_mult10 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c0_i32_406 : BitVec 32 := 0#32
  let v752 : BitVec 32 := Scalar.addi v637 c0_i32_406
  let c2_i32_407 : BitVec 32 := 2#32
  let v753 : BitVec 32 := Scalar.addi v752 c2_i32_407
  let c512_i32_408 : BitVec 32 := 512#32
  let v754 : BitVec 32 := Scalar.muli v753 c512_i32_408
  v754
def k0_off7 (i : grid0.Coords) (k0_t2 : Fin (k0_t2_loop i).trips) (c0_i32_406 : BitVec 32) : Fin 2 → Nat :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let v752 : BitVec 32 := Scalar.addi v637 c0_i32_406
  let c2_i32_407 : BitVec 32 := 2#32
  let v753 : BitVec 32 := Scalar.addi v752 c2_i32_407
  let c512_i32_408 : BitVec 32 := 512#32
  let v754 : BitVec 32 := Scalar.muli v753 c512_i32_408
  let v755 : BitVec 32 := v754
  let v756 : Index := Scalar.indexCast v755
  let c0_409 : Index := 0#32
  ![v756.toNat, 0]
def k0_mult11 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c1_i32_413 : BitVec 32 := 1#32
  let v760 : BitVec 32 := Scalar.addi v637 c1_i32_413
  let c512_i32_422 : BitVec 32 := 512#32
  let v798 : BitVec 32 := Scalar.muli v760 c512_i32_422
  v798
def k0_mult12 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c1_i32_413 : BitVec 32 := 1#32
  let v760 : BitVec 32 := Scalar.addi v637 c1_i32_413
  let c512_i32_424 : BitVec 32 := 512#32
  let v804 : BitVec 32 := Scalar.muli v760 c512_i32_424
  let c0_i32_425 : BitVec 32 := 0#32
  let v805 : BitVec 32 := Scalar.addi v804 c0_i32_425
  v805
def k0_mult13 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c1_i32_413 : BitVec 32 := 1#32
  let v760 : BitVec 32 := Scalar.addi v637 c1_i32_413
  let c512_i32_429 : BitVec 32 := 512#32
  let v813 : BitVec 32 := Scalar.muli v760 c512_i32_429
  let c128_i32_430 : BitVec 32 := 128#32
  let v814 : BitVec 32 := Scalar.addi v813 c128_i32_430
  v814
def k0_mult14 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c1_i32_413 : BitVec 32 := 1#32
  let v760 : BitVec 32 := Scalar.addi v637 c1_i32_413
  let c512_i32_434 : BitVec 32 := 512#32
  let v823 : BitVec 32 := Scalar.muli v760 c512_i32_434
  let c256_i32_435 : BitVec 32 := 256#32
  let v824 : BitVec 32 := Scalar.addi v823 c256_i32_435
  v824
def k0_mult15 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c1_i32_413 : BitVec 32 := 1#32
  let v760 : BitVec 32 := Scalar.addi v637 c1_i32_413
  let c512_i32_439 : BitVec 32 := 512#32
  let v833 : BitVec 32 := Scalar.muli v760 c512_i32_439
  let c384_i32_440 : BitVec 32 := 384#32
  let v834 : BitVec 32 := Scalar.addi v833 c384_i32_440
  v834
def k0_mult16 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c1_i32_413 : BitVec 32 := 1#32
  let v760 : BitVec 32 := Scalar.addi v637 c1_i32_413
  let c128_i32_446 : BitVec 32 := 128#32
  let v847 : BitVec 32 := Scalar.muli v760 c128_i32_446
  v847
def k0_mult17 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c1_i32_413 : BitVec 32 := 1#32
  let v760 : BitVec 32 := Scalar.addi v637 c1_i32_413
  let c128_i32_449 : BitVec 32 := 128#32
  let v854 : BitVec 32 := Scalar.muli v760 c128_i32_449
  v854
def k0_mult18 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c1_i32_451 : BitVec 32 := 1#32
  let v860 : BitVec 32 := Scalar.addi v637 c1_i32_451
  let c2_i32_452 : BitVec 32 := 2#32
  let v861 : BitVec 32 := Scalar.addi v860 c2_i32_452
  let c512_i32_453 : BitVec 32 := 512#32
  let v862 : BitVec 32 := Scalar.muli v861 c512_i32_453
  v862
def k0_mult19 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c2_i32_458 : BitVec 32 := 2#32
  let v868 : BitVec 32 := Scalar.addi v637 c2_i32_458
  let c512_i32_467 : BitVec 32 := 512#32
  let v906 : BitVec 32 := Scalar.muli v868 c512_i32_467
  v906
def k0_mult20 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c2_i32_458 : BitVec 32 := 2#32
  let v868 : BitVec 32 := Scalar.addi v637 c2_i32_458
  let c512_i32_469 : BitVec 32 := 512#32
  let v912 : BitVec 32 := Scalar.muli v868 c512_i32_469
  let c0_i32_470 : BitVec 32 := 0#32
  let v913 : BitVec 32 := Scalar.addi v912 c0_i32_470
  v913
def k0_mult21 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c2_i32_458 : BitVec 32 := 2#32
  let v868 : BitVec 32 := Scalar.addi v637 c2_i32_458
  let c512_i32_474 : BitVec 32 := 512#32
  let v921 : BitVec 32 := Scalar.muli v868 c512_i32_474
  let c128_i32_475 : BitVec 32 := 128#32
  let v922 : BitVec 32 := Scalar.addi v921 c128_i32_475
  v922
def k0_mult22 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c2_i32_458 : BitVec 32 := 2#32
  let v868 : BitVec 32 := Scalar.addi v637 c2_i32_458
  let c512_i32_479 : BitVec 32 := 512#32
  let v931 : BitVec 32 := Scalar.muli v868 c512_i32_479
  let c256_i32_480 : BitVec 32 := 256#32
  let v932 : BitVec 32 := Scalar.addi v931 c256_i32_480
  v932
def k0_mult23 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c2_i32_458 : BitVec 32 := 2#32
  let v868 : BitVec 32 := Scalar.addi v637 c2_i32_458
  let c512_i32_484 : BitVec 32 := 512#32
  let v941 : BitVec 32 := Scalar.muli v868 c512_i32_484
  let c384_i32_485 : BitVec 32 := 384#32
  let v942 : BitVec 32 := Scalar.addi v941 c384_i32_485
  v942
def k0_mult24 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c2_i32_458 : BitVec 32 := 2#32
  let v868 : BitVec 32 := Scalar.addi v637 c2_i32_458
  let c128_i32_491 : BitVec 32 := 128#32
  let v955 : BitVec 32 := Scalar.muli v868 c128_i32_491
  v955
def k0_mult25 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c2_i32_458 : BitVec 32 := 2#32
  let v868 : BitVec 32 := Scalar.addi v637 c2_i32_458
  let c128_i32_494 : BitVec 32 := 128#32
  let v962 : BitVec 32 := Scalar.muli v868 c128_i32_494
  v962
def k0_mult26 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c3_i32_496 : BitVec 32 := 3#32
  let v968 : BitVec 32 := Scalar.addi v637 c3_i32_496
  let c512_i32_505 : BitVec 32 := 512#32
  let v1006 : BitVec 32 := Scalar.muli v968 c512_i32_505
  v1006
def k0_mult27 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c3_i32_496 : BitVec 32 := 3#32
  let v968 : BitVec 32 := Scalar.addi v637 c3_i32_496
  let c512_i32_507 : BitVec 32 := 512#32
  let v1012 : BitVec 32 := Scalar.muli v968 c512_i32_507
  let c0_i32_508 : BitVec 32 := 0#32
  let v1013 : BitVec 32 := Scalar.addi v1012 c0_i32_508
  v1013
def k0_mult28 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c3_i32_496 : BitVec 32 := 3#32
  let v968 : BitVec 32 := Scalar.addi v637 c3_i32_496
  let c512_i32_512 : BitVec 32 := 512#32
  let v1021 : BitVec 32 := Scalar.muli v968 c512_i32_512
  let c128_i32_513 : BitVec 32 := 128#32
  let v1022 : BitVec 32 := Scalar.addi v1021 c128_i32_513
  v1022
def k0_mult29 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c3_i32_496 : BitVec 32 := 3#32
  let v968 : BitVec 32 := Scalar.addi v637 c3_i32_496
  let c512_i32_517 : BitVec 32 := 512#32
  let v1031 : BitVec 32 := Scalar.muli v968 c512_i32_517
  let c256_i32_518 : BitVec 32 := 256#32
  let v1032 : BitVec 32 := Scalar.addi v1031 c256_i32_518
  v1032
def k0_mult30 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c3_i32_496 : BitVec 32 := 3#32
  let v968 : BitVec 32 := Scalar.addi v637 c3_i32_496
  let c512_i32_522 : BitVec 32 := 512#32
  let v1041 : BitVec 32 := Scalar.muli v968 c512_i32_522
  let c384_i32_523 : BitVec 32 := 384#32
  let v1042 : BitVec 32 := Scalar.addi v1041 c384_i32_523
  v1042
def k0_mult31 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c3_i32_496 : BitVec 32 := 3#32
  let v968 : BitVec 32 := Scalar.addi v637 c3_i32_496
  let c128_i32_529 : BitVec 32 := 128#32
  let v1055 : BitVec 32 := Scalar.muli v968 c128_i32_529
  v1055
def k0_mult32 (i : grid0.Coords) (k0_t2 : Fin (k0_t2_loop i).trips) : BitVec 32 :=
  let c4_i32_355 : BitVec 32 := 4#32
  let c0_i32_141 : BitVec 32 := 0#32
  let c1_i32_143 : BitVec 32 := 1#32
  let arg27 : BitVec 32 := Scf.iv c0_i32_141 c1_i32_143 k0_t2
  let v637 : BitVec 32 := Scalar.muli c4_i32_355 arg27
  let c3_i32_496 : BitVec 32 := 3#32
  let v968 : BitVec 32 := Scalar.addi v637 c3_i32_496
  let c128_i32_532 : BitVec 32 := 128#32
  let v1062 : BitVec 32 := Scalar.muli v968 c128_i32_532
  v1062
@[reducible] def k0_t3_loop (i : grid0.Coords) : Scf.Loop 32 :=
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let v227 : BitVec 32 := Scalar.addi c0_i32_141 v226
  let c1_i32_144 : BitVec 32 := 1#32
  ⟨v230, v227, c1_i32_144⟩
def k0_mult33 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c0_i32_356 : BitVec 32 := 0#32
  let v638 : BitVec 32 := Scalar.addi v637 c0_i32_356
  let c512_i32_357 : BitVec 32 := 512#32
  let v639 : BitVec 32 := Scalar.muli v638 c512_i32_357
  v639
def k0_off8 (i : grid0.Coords) (k0_t3 : Fin (k0_t3_loop i).trips) (c0_i32_356 : BitVec 32) : Fin 2 → Nat :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let v638 : BitVec 32 := Scalar.addi v637 c0_i32_356
  let c512_i32_357 : BitVec 32 := 512#32
  let v639 : BitVec 32 := Scalar.muli v638 c512_i32_357
  let v640 : BitVec 32 := v639
  let v641 : Index := Scalar.indexCast v640
  let c0_358 : Index := 0#32
  ![v641.toNat, 0]
def k0_mult34 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c1_i32_362 : BitVec 32 := 1#32
  let v645 : BitVec 32 := Scalar.addi v637 c1_i32_362
  let c512_i32_363 : BitVec 32 := 512#32
  let v646 : BitVec 32 := Scalar.muli v645 c512_i32_363
  v646
def k0_mult35 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c0_i32_368 : BitVec 32 := 0#32
  let v652 : BitVec 32 := Scalar.addi v637 c0_i32_368
  let c512_i32_377 : BitVec 32 := 512#32
  let v690 : BitVec 32 := Scalar.muli v652 c512_i32_377
  v690
def k0_mult36 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c0_i32_368 : BitVec 32 := 0#32
  let v652 : BitVec 32 := Scalar.addi v637 c0_i32_368
  let c512_i32_379 : BitVec 32 := 512#32
  let v696 : BitVec 32 := Scalar.muli v652 c512_i32_379
  let c0_i32_380 : BitVec 32 := 0#32
  let v697 : BitVec 32 := Scalar.addi v696 c0_i32_380
  v697
def k0_off9 (i : grid0.Coords) (k0_t3 : Fin (k0_t3_loop i).trips) (c0_i32_368 : BitVec 32) (c0_i32_380 : BitVec 32) : Fin 2 → Nat :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let v652 : BitVec 32 := Scalar.addi v637 c0_i32_368
  let c512_i32_379 : BitVec 32 := 512#32
  let v696 : BitVec 32 := Scalar.muli v652 c512_i32_379
  let v697 : BitVec 32 := Scalar.addi v696 c0_i32_380
  let v698 : BitVec 32 := v697
  let v699 : Index := Scalar.indexCast v698
  let c0_381 : Index := 0#32
  ![v699.toNat, 0]
def k0_mult37 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c0_i32_368 : BitVec 32 := 0#32
  let v652 : BitVec 32 := Scalar.addi v637 c0_i32_368
  let c512_i32_384 : BitVec 32 := 512#32
  let v705 : BitVec 32 := Scalar.muli v652 c512_i32_384
  let c128_i32_385 : BitVec 32 := 128#32
  let v706 : BitVec 32 := Scalar.addi v705 c128_i32_385
  v706
def k0_mult38 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c0_i32_368 : BitVec 32 := 0#32
  let v652 : BitVec 32 := Scalar.addi v637 c0_i32_368
  let c512_i32_389 : BitVec 32 := 512#32
  let v715 : BitVec 32 := Scalar.muli v652 c512_i32_389
  let c256_i32_390 : BitVec 32 := 256#32
  let v716 : BitVec 32 := Scalar.addi v715 c256_i32_390
  v716
def k0_mult39 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c0_i32_368 : BitVec 32 := 0#32
  let v652 : BitVec 32 := Scalar.addi v637 c0_i32_368
  let c512_i32_394 : BitVec 32 := 512#32
  let v725 : BitVec 32 := Scalar.muli v652 c512_i32_394
  let c384_i32_395 : BitVec 32 := 384#32
  let v726 : BitVec 32 := Scalar.addi v725 c384_i32_395
  v726
def k0_mult40 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c0_i32_368 : BitVec 32 := 0#32
  let v652 : BitVec 32 := Scalar.addi v637 c0_i32_368
  let c128_i32_401 : BitVec 32 := 128#32
  let v739 : BitVec 32 := Scalar.muli v652 c128_i32_401
  v739
def k0_off10 (i : grid0.Coords) (k0_t3 : Fin (k0_t3_loop i).trips) (c0_i32_368 : BitVec 32) : Fin 2 → Nat :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let v652 : BitVec 32 := Scalar.addi v637 c0_i32_368
  let c128_i32_401 : BitVec 32 := 128#32
  let v739 : BitVec 32 := Scalar.muli v652 c128_i32_401
  let v740 : BitVec 32 := v739
  let v741 : Index := Scalar.indexCast v740
  let c0_402 : Index := 0#32
  ![v741.toNat, 0]
def k0_mult41 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c0_i32_368 : BitVec 32 := 0#32
  let v652 : BitVec 32 := Scalar.addi v637 c0_i32_368
  let c128_i32_404 : BitVec 32 := 128#32
  let v746 : BitVec 32 := Scalar.muli v652 c128_i32_404
  v746
def k0_mult42 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c0_i32_406 : BitVec 32 := 0#32
  let v752 : BitVec 32 := Scalar.addi v637 c0_i32_406
  let c2_i32_407 : BitVec 32 := 2#32
  let v753 : BitVec 32 := Scalar.addi v752 c2_i32_407
  let c512_i32_408 : BitVec 32 := 512#32
  let v754 : BitVec 32 := Scalar.muli v753 c512_i32_408
  v754
def k0_off11 (i : grid0.Coords) (k0_t3 : Fin (k0_t3_loop i).trips) (c0_i32_406 : BitVec 32) : Fin 2 → Nat :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let v752 : BitVec 32 := Scalar.addi v637 c0_i32_406
  let c2_i32_407 : BitVec 32 := 2#32
  let v753 : BitVec 32 := Scalar.addi v752 c2_i32_407
  let c512_i32_408 : BitVec 32 := 512#32
  let v754 : BitVec 32 := Scalar.muli v753 c512_i32_408
  let v755 : BitVec 32 := v754
  let v756 : Index := Scalar.indexCast v755
  let c0_409 : Index := 0#32
  ![v756.toNat, 0]
def k0_mult43 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c1_i32_413 : BitVec 32 := 1#32
  let v760 : BitVec 32 := Scalar.addi v637 c1_i32_413
  let c512_i32_422 : BitVec 32 := 512#32
  let v798 : BitVec 32 := Scalar.muli v760 c512_i32_422
  v798
def k0_mult44 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c1_i32_413 : BitVec 32 := 1#32
  let v760 : BitVec 32 := Scalar.addi v637 c1_i32_413
  let c512_i32_424 : BitVec 32 := 512#32
  let v804 : BitVec 32 := Scalar.muli v760 c512_i32_424
  let c0_i32_425 : BitVec 32 := 0#32
  let v805 : BitVec 32 := Scalar.addi v804 c0_i32_425
  v805
def k0_mult45 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c1_i32_413 : BitVec 32 := 1#32
  let v760 : BitVec 32 := Scalar.addi v637 c1_i32_413
  let c512_i32_429 : BitVec 32 := 512#32
  let v813 : BitVec 32 := Scalar.muli v760 c512_i32_429
  let c128_i32_430 : BitVec 32 := 128#32
  let v814 : BitVec 32 := Scalar.addi v813 c128_i32_430
  v814
def k0_mult46 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c1_i32_413 : BitVec 32 := 1#32
  let v760 : BitVec 32 := Scalar.addi v637 c1_i32_413
  let c512_i32_434 : BitVec 32 := 512#32
  let v823 : BitVec 32 := Scalar.muli v760 c512_i32_434
  let c256_i32_435 : BitVec 32 := 256#32
  let v824 : BitVec 32 := Scalar.addi v823 c256_i32_435
  v824
def k0_mult47 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c1_i32_413 : BitVec 32 := 1#32
  let v760 : BitVec 32 := Scalar.addi v637 c1_i32_413
  let c512_i32_439 : BitVec 32 := 512#32
  let v833 : BitVec 32 := Scalar.muli v760 c512_i32_439
  let c384_i32_440 : BitVec 32 := 384#32
  let v834 : BitVec 32 := Scalar.addi v833 c384_i32_440
  v834
def k0_mult48 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c1_i32_413 : BitVec 32 := 1#32
  let v760 : BitVec 32 := Scalar.addi v637 c1_i32_413
  let c128_i32_446 : BitVec 32 := 128#32
  let v847 : BitVec 32 := Scalar.muli v760 c128_i32_446
  v847
def k0_mult49 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c1_i32_413 : BitVec 32 := 1#32
  let v760 : BitVec 32 := Scalar.addi v637 c1_i32_413
  let c128_i32_449 : BitVec 32 := 128#32
  let v854 : BitVec 32 := Scalar.muli v760 c128_i32_449
  v854
def k0_mult50 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c1_i32_451 : BitVec 32 := 1#32
  let v860 : BitVec 32 := Scalar.addi v637 c1_i32_451
  let c2_i32_452 : BitVec 32 := 2#32
  let v861 : BitVec 32 := Scalar.addi v860 c2_i32_452
  let c512_i32_453 : BitVec 32 := 512#32
  let v862 : BitVec 32 := Scalar.muli v861 c512_i32_453
  v862
def k0_mult51 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c2_i32_458 : BitVec 32 := 2#32
  let v868 : BitVec 32 := Scalar.addi v637 c2_i32_458
  let c512_i32_467 : BitVec 32 := 512#32
  let v906 : BitVec 32 := Scalar.muli v868 c512_i32_467
  v906
def k0_mult52 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c2_i32_458 : BitVec 32 := 2#32
  let v868 : BitVec 32 := Scalar.addi v637 c2_i32_458
  let c512_i32_469 : BitVec 32 := 512#32
  let v912 : BitVec 32 := Scalar.muli v868 c512_i32_469
  let c0_i32_470 : BitVec 32 := 0#32
  let v913 : BitVec 32 := Scalar.addi v912 c0_i32_470
  v913
def k0_mult53 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c2_i32_458 : BitVec 32 := 2#32
  let v868 : BitVec 32 := Scalar.addi v637 c2_i32_458
  let c512_i32_474 : BitVec 32 := 512#32
  let v921 : BitVec 32 := Scalar.muli v868 c512_i32_474
  let c128_i32_475 : BitVec 32 := 128#32
  let v922 : BitVec 32 := Scalar.addi v921 c128_i32_475
  v922
def k0_mult54 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c2_i32_458 : BitVec 32 := 2#32
  let v868 : BitVec 32 := Scalar.addi v637 c2_i32_458
  let c512_i32_479 : BitVec 32 := 512#32
  let v931 : BitVec 32 := Scalar.muli v868 c512_i32_479
  let c256_i32_480 : BitVec 32 := 256#32
  let v932 : BitVec 32 := Scalar.addi v931 c256_i32_480
  v932
def k0_mult55 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c2_i32_458 : BitVec 32 := 2#32
  let v868 : BitVec 32 := Scalar.addi v637 c2_i32_458
  let c512_i32_484 : BitVec 32 := 512#32
  let v941 : BitVec 32 := Scalar.muli v868 c512_i32_484
  let c384_i32_485 : BitVec 32 := 384#32
  let v942 : BitVec 32 := Scalar.addi v941 c384_i32_485
  v942
def k0_mult56 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c2_i32_458 : BitVec 32 := 2#32
  let v868 : BitVec 32 := Scalar.addi v637 c2_i32_458
  let c128_i32_491 : BitVec 32 := 128#32
  let v955 : BitVec 32 := Scalar.muli v868 c128_i32_491
  v955
def k0_mult57 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c2_i32_458 : BitVec 32 := 2#32
  let v868 : BitVec 32 := Scalar.addi v637 c2_i32_458
  let c128_i32_494 : BitVec 32 := 128#32
  let v962 : BitVec 32 := Scalar.muli v868 c128_i32_494
  v962
def k0_mult58 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c3_i32_496 : BitVec 32 := 3#32
  let v968 : BitVec 32 := Scalar.addi v637 c3_i32_496
  let c512_i32_505 : BitVec 32 := 512#32
  let v1006 : BitVec 32 := Scalar.muli v968 c512_i32_505
  v1006
def k0_mult59 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c3_i32_496 : BitVec 32 := 3#32
  let v968 : BitVec 32 := Scalar.addi v637 c3_i32_496
  let c512_i32_507 : BitVec 32 := 512#32
  let v1012 : BitVec 32 := Scalar.muli v968 c512_i32_507
  let c0_i32_508 : BitVec 32 := 0#32
  let v1013 : BitVec 32 := Scalar.addi v1012 c0_i32_508
  v1013
def k0_mult60 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c3_i32_496 : BitVec 32 := 3#32
  let v968 : BitVec 32 := Scalar.addi v637 c3_i32_496
  let c512_i32_512 : BitVec 32 := 512#32
  let v1021 : BitVec 32 := Scalar.muli v968 c512_i32_512
  let c128_i32_513 : BitVec 32 := 128#32
  let v1022 : BitVec 32 := Scalar.addi v1021 c128_i32_513
  v1022
def k0_mult61 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c3_i32_496 : BitVec 32 := 3#32
  let v968 : BitVec 32 := Scalar.addi v637 c3_i32_496
  let c512_i32_517 : BitVec 32 := 512#32
  let v1031 : BitVec 32 := Scalar.muli v968 c512_i32_517
  let c256_i32_518 : BitVec 32 := 256#32
  let v1032 : BitVec 32 := Scalar.addi v1031 c256_i32_518
  v1032
def k0_mult62 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c3_i32_496 : BitVec 32 := 3#32
  let v968 : BitVec 32 := Scalar.addi v637 c3_i32_496
  let c512_i32_522 : BitVec 32 := 512#32
  let v1041 : BitVec 32 := Scalar.muli v968 c512_i32_522
  let c384_i32_523 : BitVec 32 := 384#32
  let v1042 : BitVec 32 := Scalar.addi v1041 c384_i32_523
  v1042
def k0_mult63 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c3_i32_496 : BitVec 32 := 3#32
  let v968 : BitVec 32 := Scalar.addi v637 c3_i32_496
  let c128_i32_529 : BitVec 32 := 128#32
  let v1055 : BitVec 32 := Scalar.muli v968 c128_i32_529
  v1055
def k0_mult64 (i : grid0.Coords) (k0_t3 : Fin (k0_t3_loop i).trips) : BitVec 32 :=
  let c4_i32_355 : BitVec 32 := 4#32
  let c0_i32_141 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c0_i32_134 : BitVec 32 := 0#32
  let v210 : BitVec 1 := Scalar.cmpi .sgt v207 c0_i32_134
  let v211 : BitVec 32 := Scalar.extui v210
  let c0_i32_135 : BitVec 32 := 0#32
  let v212 : BitVec 1 := Scalar.cmpi .slt v207 c0_i32_135
  let v213 : BitVec 32 := Scalar.extui v212
  let v214 : BitVec 32 := Scalar.subi v211 v213
  let c4_i32_133 : BitVec 32 := 4#32
  let c0_i32_136 : BitVec 32 := 0#32
  let v215 : BitVec 1 := Scalar.cmpi .sgt c4_i32_133 c0_i32_136
  let v216 : BitVec 32 := Scalar.extui v215
  let c0_i32_137 : BitVec 32 := 0#32
  let v217 : BitVec 1 := Scalar.cmpi .slt c4_i32_133 c0_i32_137
  let v218 : BitVec 32 := Scalar.extui v217
  let v219 : BitVec 32 := Scalar.subi v216 v218
  let v220 : BitVec 1 := Scalar.cmpi .ne v214 v219
  let v221 : BitVec 32 := Scalar.remsi v207 c4_i32_133
  let c0_i32_138 : BitVec 32 := 0#32
  let v222 : BitVec 1 := Scalar.cmpi .ne v221 c0_i32_138
  let v223 : BitVec 1 := Scalar.andi v220 v222
  let v209 : BitVec 32 := Scalar.divsi v207 c4_i32_133
  let c1_i32_139 : BitVec 32 := 1#32
  let v224 : BitVec 32 := Scalar.subi v209 c1_i32_139
  let v225 : BitVec 32 := Scalar.select v223 v224 v209
  let v226 : BitVec 32 := Scalar.subi v225 c0_i32_141
  let c1_i32_142 : BitVec 32 := 1#32
  let v228 : BitVec 32 := Scalar.divsi v226 c1_i32_142
  let v229 : BitVec 32 := Scalar.muli v228 c1_i32_142
  let v230 : BitVec 32 := Scalar.addi c0_i32_141 v229
  let c1_i32_144 : BitVec 32 := 1#32
  let arg27 : BitVec 32 := Scf.iv v230 c1_i32_144 k0_t3
  let v637 : BitVec 32 := Scalar.muli c4_i32_355 arg27
  let c3_i32_496 : BitVec 32 := 3#32
  let v968 : BitVec 32 := Scalar.addi v637 c3_i32_496
  let c128_i32_532 : BitVec 32 := 128#32
  let v1062 : BitVec 32 := Scalar.muli v968 c128_i32_532
  v1062
def k0_cond2 (i : grid0.Coords) : BitVec 1 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_145 : BitVec 32 := 4#32
  let c0_i32_146 : BitVec 32 := 0#32
  let v231 : BitVec 1 := Scalar.cmpi .eq c4_i32_145 c0_i32_146
  let c1_i32_147 : BitVec 32 := 1#32
  let v232 : BitVec 32 := Scalar.select v231 c1_i32_147 c4_i32_145
  let v233 : BitVec 32 := Scalar.remsi v207 v232
  let c0_i32_149 : BitVec 32 := 0#32
  let v235 : BitVec 1 := Scalar.cmpi .slt v233 c0_i32_149
  let c0_i32_150 : BitVec 32 := 0#32
  let v236 : BitVec 1 := Scalar.cmpi .slt v232 c0_i32_150
  let v237 : BitVec 1 := Scalar.xori v235 v236
  let c0_i32_148 : BitVec 32 := 0#32
  let v234 : BitVec 1 := Scalar.cmpi .ne v233 c0_i32_148
  let v238 : BitVec 1 := Scalar.andi v237 v234
  let v239 : BitVec 32 := Scalar.addi v233 v232
  let v240 : BitVec 32 := Scalar.select v238 v239 v233
  let c1_i32_151 : BitVec 32 := 1#32
  let v241 : BitVec 1 := Scalar.cmpi .eq v240 c1_i32_151
  let v242 : BitVec 32 := Scalar.extui v241
  let c0_i32_152 : BitVec 32 := 0#32
  let v243 : BitVec 1 := Scalar.cmpi .ne v242 c0_i32_152
  v243

def k0_mult65 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_356 : BitVec 32 := 0#32
  let v638 : BitVec 32 := Scalar.addi v637 c0_i32_356
  let c512_i32_357 : BitVec 32 := 512#32
  let v639 : BitVec 32 := Scalar.muli v638 c512_i32_357
  v639
def k0_off12 (i : grid0.Coords) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_356 : BitVec 32 := 0#32
  let v638 : BitVec 32 := Scalar.addi v637 c0_i32_356
  let c512_i32_357 : BitVec 32 := 512#32
  let v639 : BitVec 32 := Scalar.muli v638 c512_i32_357
  let v640 : BitVec 32 := v639
  let v641 : Index := Scalar.indexCast v640
  let c0_358 : Index := 0#32
  ![v641.toNat, 0]
def k0_mult66 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_362 : BitVec 32 := 0#32
  let v645 : BitVec 32 := Scalar.addi v637 c0_i32_362
  let c512_i32_371 : BitVec 32 := 512#32
  let v683 : BitVec 32 := Scalar.muli v645 c512_i32_371
  v683
def k0_mult67 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_362 : BitVec 32 := 0#32
  let v645 : BitVec 32 := Scalar.addi v637 c0_i32_362
  let c512_i32_373 : BitVec 32 := 512#32
  let v689 : BitVec 32 := Scalar.muli v645 c512_i32_373
  let c0_i32_374 : BitVec 32 := 0#32
  let v690 : BitVec 32 := Scalar.addi v689 c0_i32_374
  v690
def k0_off13 (i : grid0.Coords) (c0_i32_374 : BitVec 32) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_362 : BitVec 32 := 0#32
  let v645 : BitVec 32 := Scalar.addi v637 c0_i32_362
  let c512_i32_373 : BitVec 32 := 512#32
  let v689 : BitVec 32 := Scalar.muli v645 c512_i32_373
  let v690 : BitVec 32 := Scalar.addi v689 c0_i32_374
  let v691 : BitVec 32 := v690
  let v692 : Index := Scalar.indexCast v691
  let c0_375 : Index := 0#32
  ![v692.toNat, 0]
def k0_mult68 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_362 : BitVec 32 := 0#32
  let v645 : BitVec 32 := Scalar.addi v637 c0_i32_362
  let c512_i32_378 : BitVec 32 := 512#32
  let v698 : BitVec 32 := Scalar.muli v645 c512_i32_378
  let c128_i32_379 : BitVec 32 := 128#32
  let v699 : BitVec 32 := Scalar.addi v698 c128_i32_379
  v699
def k0_mult69 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_362 : BitVec 32 := 0#32
  let v645 : BitVec 32 := Scalar.addi v637 c0_i32_362
  let c512_i32_383 : BitVec 32 := 512#32
  let v708 : BitVec 32 := Scalar.muli v645 c512_i32_383
  let c256_i32_384 : BitVec 32 := 256#32
  let v709 : BitVec 32 := Scalar.addi v708 c256_i32_384
  v709
def k0_mult70 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_362 : BitVec 32 := 0#32
  let v645 : BitVec 32 := Scalar.addi v637 c0_i32_362
  let c512_i32_388 : BitVec 32 := 512#32
  let v718 : BitVec 32 := Scalar.muli v645 c512_i32_388
  let c384_i32_389 : BitVec 32 := 384#32
  let v719 : BitVec 32 := Scalar.addi v718 c384_i32_389
  v719
def k0_mult71 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_362 : BitVec 32 := 0#32
  let v645 : BitVec 32 := Scalar.addi v637 c0_i32_362
  let c128_i32_395 : BitVec 32 := 128#32
  let v732 : BitVec 32 := Scalar.muli v645 c128_i32_395
  v732
def k0_off14 (i : grid0.Coords) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_362 : BitVec 32 := 0#32
  let v645 : BitVec 32 := Scalar.addi v637 c0_i32_362
  let c128_i32_395 : BitVec 32 := 128#32
  let v732 : BitVec 32 := Scalar.muli v645 c128_i32_395
  let v733 : BitVec 32 := v732
  let v734 : Index := Scalar.indexCast v733
  let c0_396 : Index := 0#32
  ![v734.toNat, 0]
def k0_mult72 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_355 : BitVec 32 := 1#32
  let v637 : BitVec 32 := Scalar.subi v207 c1_i32_355
  let c0_i32_362 : BitVec 32 := 0#32
  let v645 : BitVec 32 := Scalar.addi v637 c0_i32_362
  let c128_i32_398 : BitVec 32 := 128#32
  let v739 : BitVec 32 := Scalar.muli v645 c128_i32_398
  v739
def k0_cond3 (i : grid0.Coords) : BitVec 1 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_153 : BitVec 32 := 4#32
  let c0_i32_154 : BitVec 32 := 0#32
  let v244 : BitVec 1 := Scalar.cmpi .eq c4_i32_153 c0_i32_154
  let c1_i32_155 : BitVec 32 := 1#32
  let v245 : BitVec 32 := Scalar.select v244 c1_i32_155 c4_i32_153
  let v246 : BitVec 32 := Scalar.remsi v207 v245
  let c0_i32_157 : BitVec 32 := 0#32
  let v248 : BitVec 1 := Scalar.cmpi .slt v246 c0_i32_157
  let c0_i32_158 : BitVec 32 := 0#32
  let v249 : BitVec 1 := Scalar.cmpi .slt v245 c0_i32_158
  let v250 : BitVec 1 := Scalar.xori v248 v249
  let c0_i32_156 : BitVec 32 := 0#32
  let v247 : BitVec 1 := Scalar.cmpi .ne v246 c0_i32_156
  let v251 : BitVec 1 := Scalar.andi v250 v247
  let v252 : BitVec 32 := Scalar.addi v246 v245
  let v253 : BitVec 32 := Scalar.select v251 v252 v246
  let c2_i32 : BitVec 32 := 2#32
  let v254 : BitVec 1 := Scalar.cmpi .eq v253 c2_i32
  let v255 : BitVec 32 := Scalar.extui v254
  let c0_i32_159 : BitVec 32 := 0#32
  let v256 : BitVec 1 := Scalar.cmpi .ne v255 c0_i32_159
  v256

def k0_mult73 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c0_i32_356 : BitVec 32 := 0#32
  let v638 : BitVec 32 := Scalar.addi v637 c0_i32_356
  let c512_i32_357 : BitVec 32 := 512#32
  let v639 : BitVec 32 := Scalar.muli v638 c512_i32_357
  v639
def k0_off15 (i : grid0.Coords) (c0_i32_356 : BitVec 32) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let v638 : BitVec 32 := Scalar.addi v637 c0_i32_356
  let c512_i32_357 : BitVec 32 := 512#32
  let v639 : BitVec 32 := Scalar.muli v638 c512_i32_357
  let v640 : BitVec 32 := v639
  let v641 : Index := Scalar.indexCast v640
  let c0_358 : Index := 0#32
  ![v641.toNat, 0]
def k0_mult74 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c1_i32_362 : BitVec 32 := 1#32
  let v645 : BitVec 32 := Scalar.addi v637 c1_i32_362
  let c512_i32_363 : BitVec 32 := 512#32
  let v646 : BitVec 32 := Scalar.muli v645 c512_i32_363
  v646
def k0_mult75 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c0_i32_368 : BitVec 32 := 0#32
  let v652 : BitVec 32 := Scalar.addi v637 c0_i32_368
  let c512_i32_377 : BitVec 32 := 512#32
  let v690 : BitVec 32 := Scalar.muli v652 c512_i32_377
  v690
def k0_mult76 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c0_i32_368 : BitVec 32 := 0#32
  let v652 : BitVec 32 := Scalar.addi v637 c0_i32_368
  let c512_i32_379 : BitVec 32 := 512#32
  let v696 : BitVec 32 := Scalar.muli v652 c512_i32_379
  let c0_i32_380 : BitVec 32 := 0#32
  let v697 : BitVec 32 := Scalar.addi v696 c0_i32_380
  v697
def k0_off16 (i : grid0.Coords) (c0_i32_368 : BitVec 32) (c0_i32_380 : BitVec 32) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let v652 : BitVec 32 := Scalar.addi v637 c0_i32_368
  let c512_i32_379 : BitVec 32 := 512#32
  let v696 : BitVec 32 := Scalar.muli v652 c512_i32_379
  let v697 : BitVec 32 := Scalar.addi v696 c0_i32_380
  let v698 : BitVec 32 := v697
  let v699 : Index := Scalar.indexCast v698
  let c0_381 : Index := 0#32
  ![v699.toNat, 0]
def k0_mult77 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c0_i32_368 : BitVec 32 := 0#32
  let v652 : BitVec 32 := Scalar.addi v637 c0_i32_368
  let c512_i32_384 : BitVec 32 := 512#32
  let v705 : BitVec 32 := Scalar.muli v652 c512_i32_384
  let c128_i32_385 : BitVec 32 := 128#32
  let v706 : BitVec 32 := Scalar.addi v705 c128_i32_385
  v706
def k0_mult78 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c0_i32_368 : BitVec 32 := 0#32
  let v652 : BitVec 32 := Scalar.addi v637 c0_i32_368
  let c512_i32_389 : BitVec 32 := 512#32
  let v715 : BitVec 32 := Scalar.muli v652 c512_i32_389
  let c256_i32_390 : BitVec 32 := 256#32
  let v716 : BitVec 32 := Scalar.addi v715 c256_i32_390
  v716
def k0_mult79 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c0_i32_368 : BitVec 32 := 0#32
  let v652 : BitVec 32 := Scalar.addi v637 c0_i32_368
  let c512_i32_394 : BitVec 32 := 512#32
  let v725 : BitVec 32 := Scalar.muli v652 c512_i32_394
  let c384_i32_395 : BitVec 32 := 384#32
  let v726 : BitVec 32 := Scalar.addi v725 c384_i32_395
  v726
def k0_mult80 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c0_i32_368 : BitVec 32 := 0#32
  let v652 : BitVec 32 := Scalar.addi v637 c0_i32_368
  let c128_i32_401 : BitVec 32 := 128#32
  let v739 : BitVec 32 := Scalar.muli v652 c128_i32_401
  v739
def k0_off17 (i : grid0.Coords) (c0_i32_368 : BitVec 32) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let v652 : BitVec 32 := Scalar.addi v637 c0_i32_368
  let c128_i32_401 : BitVec 32 := 128#32
  let v739 : BitVec 32 := Scalar.muli v652 c128_i32_401
  let v740 : BitVec 32 := v739
  let v741 : Index := Scalar.indexCast v740
  let c0_402 : Index := 0#32
  ![v741.toNat, 0]
def k0_mult81 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c0_i32_368 : BitVec 32 := 0#32
  let v652 : BitVec 32 := Scalar.addi v637 c0_i32_368
  let c128_i32_404 : BitVec 32 := 128#32
  let v746 : BitVec 32 := Scalar.muli v652 c128_i32_404
  v746
def k0_mult82 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c1_i32_406 : BitVec 32 := 1#32
  let v752 : BitVec 32 := Scalar.addi v637 c1_i32_406
  let c512_i32_415 : BitVec 32 := 512#32
  let v790 : BitVec 32 := Scalar.muli v752 c512_i32_415
  v790
def k0_mult83 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c1_i32_406 : BitVec 32 := 1#32
  let v752 : BitVec 32 := Scalar.addi v637 c1_i32_406
  let c512_i32_417 : BitVec 32 := 512#32
  let v796 : BitVec 32 := Scalar.muli v752 c512_i32_417
  let c0_i32_418 : BitVec 32 := 0#32
  let v797 : BitVec 32 := Scalar.addi v796 c0_i32_418
  v797
def k0_mult84 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c1_i32_406 : BitVec 32 := 1#32
  let v752 : BitVec 32 := Scalar.addi v637 c1_i32_406
  let c512_i32_422 : BitVec 32 := 512#32
  let v805 : BitVec 32 := Scalar.muli v752 c512_i32_422
  let c128_i32_423 : BitVec 32 := 128#32
  let v806 : BitVec 32 := Scalar.addi v805 c128_i32_423
  v806
def k0_mult85 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c1_i32_406 : BitVec 32 := 1#32
  let v752 : BitVec 32 := Scalar.addi v637 c1_i32_406
  let c512_i32_427 : BitVec 32 := 512#32
  let v815 : BitVec 32 := Scalar.muli v752 c512_i32_427
  let c256_i32_428 : BitVec 32 := 256#32
  let v816 : BitVec 32 := Scalar.addi v815 c256_i32_428
  v816
def k0_mult86 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c1_i32_406 : BitVec 32 := 1#32
  let v752 : BitVec 32 := Scalar.addi v637 c1_i32_406
  let c512_i32_432 : BitVec 32 := 512#32
  let v825 : BitVec 32 := Scalar.muli v752 c512_i32_432
  let c384_i32_433 : BitVec 32 := 384#32
  let v826 : BitVec 32 := Scalar.addi v825 c384_i32_433
  v826
def k0_mult87 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c1_i32_406 : BitVec 32 := 1#32
  let v752 : BitVec 32 := Scalar.addi v637 c1_i32_406
  let c128_i32_439 : BitVec 32 := 128#32
  let v839 : BitVec 32 := Scalar.muli v752 c128_i32_439
  v839
def k0_mult88 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_355 : BitVec 32 := 2#32
  let v637 : BitVec 32 := Scalar.subi v207 c2_i32_355
  let c1_i32_406 : BitVec 32 := 1#32
  let v752 : BitVec 32 := Scalar.addi v637 c1_i32_406
  let c128_i32_442 : BitVec 32 := 128#32
  let v846 : BitVec 32 := Scalar.muli v752 c128_i32_442
  v846
def k0_cond4 (i : grid0.Coords) : BitVec 1 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_160 : BitVec 32 := 4#32
  let c0_i32_161 : BitVec 32 := 0#32
  let v257 : BitVec 1 := Scalar.cmpi .eq c4_i32_160 c0_i32_161
  let c1_i32_162 : BitVec 32 := 1#32
  let v258 : BitVec 32 := Scalar.select v257 c1_i32_162 c4_i32_160
  let v259 : BitVec 32 := Scalar.remsi v207 v258
  let c0_i32_164 : BitVec 32 := 0#32
  let v261 : BitVec 1 := Scalar.cmpi .slt v259 c0_i32_164
  let c0_i32_165 : BitVec 32 := 0#32
  let v262 : BitVec 1 := Scalar.cmpi .slt v258 c0_i32_165
  let v263 : BitVec 1 := Scalar.xori v261 v262
  let c0_i32_163 : BitVec 32 := 0#32
  let v260 : BitVec 1 := Scalar.cmpi .ne v259 c0_i32_163
  let v264 : BitVec 1 := Scalar.andi v263 v260
  let v265 : BitVec 32 := Scalar.addi v259 v258
  let v266 : BitVec 32 := Scalar.select v264 v265 v259
  let c3_i32 : BitVec 32 := 3#32
  let v267 : BitVec 1 := Scalar.cmpi .eq v266 c3_i32
  let v268 : BitVec 32 := Scalar.extui v267
  let c0_i32_166 : BitVec 32 := 0#32
  let v269 : BitVec 1 := Scalar.cmpi .ne v268 c0_i32_166
  v269

def k0_mult89 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_356 : BitVec 32 := 0#32
  let v638 : BitVec 32 := Scalar.addi v637 c0_i32_356
  let c512_i32_357 : BitVec 32 := 512#32
  let v639 : BitVec 32 := Scalar.muli v638 c512_i32_357
  v639
def k0_off18 (i : grid0.Coords) (c0_i32_356 : BitVec 32) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let v638 : BitVec 32 := Scalar.addi v637 c0_i32_356
  let c512_i32_357 : BitVec 32 := 512#32
  let v639 : BitVec 32 := Scalar.muli v638 c512_i32_357
  let v640 : BitVec 32 := v639
  let v641 : Index := Scalar.indexCast v640
  let c0_358 : Index := 0#32
  ![v641.toNat, 0]
def k0_mult90 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c1_i32_362 : BitVec 32 := 1#32
  let v645 : BitVec 32 := Scalar.addi v637 c1_i32_362
  let c512_i32_363 : BitVec 32 := 512#32
  let v646 : BitVec 32 := Scalar.muli v645 c512_i32_363
  v646
def k0_mult91 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_368 : BitVec 32 := 0#32
  let v652 : BitVec 32 := Scalar.addi v637 c0_i32_368
  let c512_i32_377 : BitVec 32 := 512#32
  let v690 : BitVec 32 := Scalar.muli v652 c512_i32_377
  v690
def k0_mult92 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_368 : BitVec 32 := 0#32
  let v652 : BitVec 32 := Scalar.addi v637 c0_i32_368
  let c512_i32_379 : BitVec 32 := 512#32
  let v696 : BitVec 32 := Scalar.muli v652 c512_i32_379
  let c0_i32_380 : BitVec 32 := 0#32
  let v697 : BitVec 32 := Scalar.addi v696 c0_i32_380
  v697
def k0_off19 (i : grid0.Coords) (c0_i32_368 : BitVec 32) (c0_i32_380 : BitVec 32) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let v652 : BitVec 32 := Scalar.addi v637 c0_i32_368
  let c512_i32_379 : BitVec 32 := 512#32
  let v696 : BitVec 32 := Scalar.muli v652 c512_i32_379
  let v697 : BitVec 32 := Scalar.addi v696 c0_i32_380
  let v698 : BitVec 32 := v697
  let v699 : Index := Scalar.indexCast v698
  let c0_381 : Index := 0#32
  ![v699.toNat, 0]
def k0_mult93 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_368 : BitVec 32 := 0#32
  let v652 : BitVec 32 := Scalar.addi v637 c0_i32_368
  let c512_i32_384 : BitVec 32 := 512#32
  let v705 : BitVec 32 := Scalar.muli v652 c512_i32_384
  let c128_i32_385 : BitVec 32 := 128#32
  let v706 : BitVec 32 := Scalar.addi v705 c128_i32_385
  v706
def k0_mult94 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_368 : BitVec 32 := 0#32
  let v652 : BitVec 32 := Scalar.addi v637 c0_i32_368
  let c512_i32_389 : BitVec 32 := 512#32
  let v715 : BitVec 32 := Scalar.muli v652 c512_i32_389
  let c256_i32_390 : BitVec 32 := 256#32
  let v716 : BitVec 32 := Scalar.addi v715 c256_i32_390
  v716
def k0_mult95 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_368 : BitVec 32 := 0#32
  let v652 : BitVec 32 := Scalar.addi v637 c0_i32_368
  let c512_i32_394 : BitVec 32 := 512#32
  let v725 : BitVec 32 := Scalar.muli v652 c512_i32_394
  let c384_i32_395 : BitVec 32 := 384#32
  let v726 : BitVec 32 := Scalar.addi v725 c384_i32_395
  v726
def k0_mult96 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_368 : BitVec 32 := 0#32
  let v652 : BitVec 32 := Scalar.addi v637 c0_i32_368
  let c128_i32_401 : BitVec 32 := 128#32
  let v739 : BitVec 32 := Scalar.muli v652 c128_i32_401
  v739
def k0_off20 (i : grid0.Coords) (c0_i32_368 : BitVec 32) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let v652 : BitVec 32 := Scalar.addi v637 c0_i32_368
  let c128_i32_401 : BitVec 32 := 128#32
  let v739 : BitVec 32 := Scalar.muli v652 c128_i32_401
  let v740 : BitVec 32 := v739
  let v741 : Index := Scalar.indexCast v740
  let c0_402 : Index := 0#32
  ![v741.toNat, 0]
def k0_mult97 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_368 : BitVec 32 := 0#32
  let v652 : BitVec 32 := Scalar.addi v637 c0_i32_368
  let c128_i32_404 : BitVec 32 := 128#32
  let v746 : BitVec 32 := Scalar.muli v652 c128_i32_404
  v746
def k0_mult98 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_406 : BitVec 32 := 0#32
  let v752 : BitVec 32 := Scalar.addi v637 c0_i32_406
  let c2_i32_407 : BitVec 32 := 2#32
  let v753 : BitVec 32 := Scalar.addi v752 c2_i32_407
  let c512_i32_408 : BitVec 32 := 512#32
  let v754 : BitVec 32 := Scalar.muli v753 c512_i32_408
  v754
def k0_off21 (i : grid0.Coords) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c0_i32_406 : BitVec 32 := 0#32
  let v752 : BitVec 32 := Scalar.addi v637 c0_i32_406
  let c2_i32_407 : BitVec 32 := 2#32
  let v753 : BitVec 32 := Scalar.addi v752 c2_i32_407
  let c512_i32_408 : BitVec 32 := 512#32
  let v754 : BitVec 32 := Scalar.muli v753 c512_i32_408
  let v755 : BitVec 32 := v754
  let v756 : Index := Scalar.indexCast v755
  let c0_409 : Index := 0#32
  ![v756.toNat, 0]
def k0_mult99 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c1_i32_413 : BitVec 32 := 1#32
  let v760 : BitVec 32 := Scalar.addi v637 c1_i32_413
  let c512_i32_422 : BitVec 32 := 512#32
  let v798 : BitVec 32 := Scalar.muli v760 c512_i32_422
  v798
def k0_mult100 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c1_i32_413 : BitVec 32 := 1#32
  let v760 : BitVec 32 := Scalar.addi v637 c1_i32_413
  let c512_i32_424 : BitVec 32 := 512#32
  let v804 : BitVec 32 := Scalar.muli v760 c512_i32_424
  let c0_i32_425 : BitVec 32 := 0#32
  let v805 : BitVec 32 := Scalar.addi v804 c0_i32_425
  v805
def k0_mult101 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c1_i32_413 : BitVec 32 := 1#32
  let v760 : BitVec 32 := Scalar.addi v637 c1_i32_413
  let c512_i32_429 : BitVec 32 := 512#32
  let v813 : BitVec 32 := Scalar.muli v760 c512_i32_429
  let c128_i32_430 : BitVec 32 := 128#32
  let v814 : BitVec 32 := Scalar.addi v813 c128_i32_430
  v814
def k0_mult102 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c1_i32_413 : BitVec 32 := 1#32
  let v760 : BitVec 32 := Scalar.addi v637 c1_i32_413
  let c512_i32_434 : BitVec 32 := 512#32
  let v823 : BitVec 32 := Scalar.muli v760 c512_i32_434
  let c256_i32_435 : BitVec 32 := 256#32
  let v824 : BitVec 32 := Scalar.addi v823 c256_i32_435
  v824
def k0_mult103 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c1_i32_413 : BitVec 32 := 1#32
  let v760 : BitVec 32 := Scalar.addi v637 c1_i32_413
  let c512_i32_439 : BitVec 32 := 512#32
  let v833 : BitVec 32 := Scalar.muli v760 c512_i32_439
  let c384_i32_440 : BitVec 32 := 384#32
  let v834 : BitVec 32 := Scalar.addi v833 c384_i32_440
  v834
def k0_mult104 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c1_i32_413 : BitVec 32 := 1#32
  let v760 : BitVec 32 := Scalar.addi v637 c1_i32_413
  let c128_i32_446 : BitVec 32 := 128#32
  let v847 : BitVec 32 := Scalar.muli v760 c128_i32_446
  v847
def k0_mult105 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c1_i32_413 : BitVec 32 := 1#32
  let v760 : BitVec 32 := Scalar.addi v637 c1_i32_413
  let c128_i32_449 : BitVec 32 := 128#32
  let v854 : BitVec 32 := Scalar.muli v760 c128_i32_449
  v854
def k0_mult106 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c2_i32_451 : BitVec 32 := 2#32
  let v860 : BitVec 32 := Scalar.addi v637 c2_i32_451
  let c512_i32_460 : BitVec 32 := 512#32
  let v898 : BitVec 32 := Scalar.muli v860 c512_i32_460
  v898
def k0_mult107 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c2_i32_451 : BitVec 32 := 2#32
  let v860 : BitVec 32 := Scalar.addi v637 c2_i32_451
  let c512_i32_462 : BitVec 32 := 512#32
  let v904 : BitVec 32 := Scalar.muli v860 c512_i32_462
  let c0_i32_463 : BitVec 32 := 0#32
  let v905 : BitVec 32 := Scalar.addi v904 c0_i32_463
  v905
def k0_mult108 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c2_i32_451 : BitVec 32 := 2#32
  let v860 : BitVec 32 := Scalar.addi v637 c2_i32_451
  let c512_i32_467 : BitVec 32 := 512#32
  let v913 : BitVec 32 := Scalar.muli v860 c512_i32_467
  let c128_i32_468 : BitVec 32 := 128#32
  let v914 : BitVec 32 := Scalar.addi v913 c128_i32_468
  v914
def k0_mult109 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c2_i32_451 : BitVec 32 := 2#32
  let v860 : BitVec 32 := Scalar.addi v637 c2_i32_451
  let c512_i32_472 : BitVec 32 := 512#32
  let v923 : BitVec 32 := Scalar.muli v860 c512_i32_472
  let c256_i32_473 : BitVec 32 := 256#32
  let v924 : BitVec 32 := Scalar.addi v923 c256_i32_473
  v924
def k0_mult110 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c2_i32_451 : BitVec 32 := 2#32
  let v860 : BitVec 32 := Scalar.addi v637 c2_i32_451
  let c512_i32_477 : BitVec 32 := 512#32
  let v933 : BitVec 32 := Scalar.muli v860 c512_i32_477
  let c384_i32_478 : BitVec 32 := 384#32
  let v934 : BitVec 32 := Scalar.addi v933 c384_i32_478
  v934
def k0_mult111 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c2_i32_451 : BitVec 32 := 2#32
  let v860 : BitVec 32 := Scalar.addi v637 c2_i32_451
  let c128_i32_484 : BitVec 32 := 128#32
  let v947 : BitVec 32 := Scalar.muli v860 c128_i32_484
  v947
def k0_mult112 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c3_i32_355 : BitVec 32 := 3#32
  let v637 : BitVec 32 := Scalar.subi v207 c3_i32_355
  let c2_i32_451 : BitVec 32 := 2#32
  let v860 : BitVec 32 := Scalar.addi v637 c2_i32_451
  let c128_i32_487 : BitVec 32 := 128#32
  let v954 : BitVec 32 := Scalar.muli v860 c128_i32_487
  v954
def k0_mult113 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c512_i32 : BitVec 32 := 512#32
  let v270 : BitVec 32 := Scalar.muli v207 c512_i32
  v270
def k0_off22 (i : grid0.Coords) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c512_i32 : BitVec 32 := 512#32
  let v270 : BitVec 32 := Scalar.muli v207 c512_i32
  let v271 : BitVec 32 := v270
  let v272 : Index := Scalar.indexCast v271
  let c0_167 : Index := 0#32
  ![v272.toNat, 0]
def k0_mult114 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c512_i32_180 : BitVec 32 := 512#32
  let v324 : BitVec 32 := Scalar.muli v207 c512_i32_180
  v324
def k0_mult115 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c512_i32_182 : BitVec 32 := 512#32
  let v330 : BitVec 32 := Scalar.muli v207 c512_i32_182
  let c0_i32_183 : BitVec 32 := 0#32
  let v331 : BitVec 32 := Scalar.addi v330 c0_i32_183
  v331
def k0_off23 (i : grid0.Coords) (c0_i32_183 : BitVec 32) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c512_i32_182 : BitVec 32 := 512#32
  let v330 : BitVec 32 := Scalar.muli v207 c512_i32_182
  let v331 : BitVec 32 := Scalar.addi v330 c0_i32_183
  let v332 : BitVec 32 := v331
  let v333 : Index := Scalar.indexCast v332
  let c0_184 : Index := 0#32
  ![v333.toNat, 0]
def k0_mult116 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c512_i32_185 : BitVec 32 := 512#32
  let v339 : BitVec 32 := Scalar.muli v207 c512_i32_185
  let c128_i32_186 : BitVec 32 := 128#32
  let v340 : BitVec 32 := Scalar.addi v339 c128_i32_186
  v340
def k0_mult117 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c512_i32_188 : BitVec 32 := 512#32
  let v349 : BitVec 32 := Scalar.muli v207 c512_i32_188
  let c256_i32 : BitVec 32 := 256#32
  let v350 : BitVec 32 := Scalar.addi v349 c256_i32
  v350
def k0_mult118 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c512_i32_190 : BitVec 32 := 512#32
  let v359 : BitVec 32 := Scalar.muli v207 c512_i32_190
  let c384_i32 : BitVec 32 := 384#32
  let v360 : BitVec 32 := Scalar.addi v359 c384_i32
  v360
def k0_mult119 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c128_i32_193 : BitVec 32 := 128#32
  let v373 : BitVec 32 := Scalar.muli v207 c128_i32_193
  v373
def k0_off24 (i : grid0.Coords) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c128_i32_193 : BitVec 32 := 128#32
  let v373 : BitVec 32 := Scalar.muli v207 c128_i32_193
  let v374 : BitVec 32 := v373
  let v375 : Index := Scalar.indexCast v374
  let c0_194 : Index := 0#32
  ![v375.toNat, 0]
def k0_mult120 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c128_i32_195 : BitVec 32 := 128#32
  let v380 : BitVec 32 := Scalar.muli v207 c128_i32_195
  v380
def k0_cond5 (i : grid0.Coords) : BitVec 1 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c2_i32_197 : BitVec 32 := 2#32
  let c0_i32_198 : BitVec 32 := 0#32
  let v386 : BitVec 1 := Scalar.cmpi .eq c2_i32_197 c0_i32_198
  let c1_i32_199 : BitVec 32 := 1#32
  let v387 : BitVec 32 := Scalar.select v386 c1_i32_199 c2_i32_197
  let v388 : BitVec 32 := Scalar.remsi v207 v387
  let c0_i32_201 : BitVec 32 := 0#32
  let v390 : BitVec 1 := Scalar.cmpi .slt v388 c0_i32_201
  let c0_i32_202 : BitVec 32 := 0#32
  let v391 : BitVec 1 := Scalar.cmpi .slt v387 c0_i32_202
  let v392 : BitVec 1 := Scalar.xori v390 v391
  let c0_i32_200 : BitVec 32 := 0#32
  let v389 : BitVec 1 := Scalar.cmpi .ne v388 c0_i32_200
  let v393 : BitVec 1 := Scalar.andi v392 v389
  let v394 : BitVec 32 := Scalar.addi v388 v387
  let v395 : BitVec 32 := Scalar.select v393 v394 v388
  let c0_i32_203 : BitVec 32 := 0#32
  let v396 : BitVec 1 := Scalar.cmpi .eq v395 c0_i32_203
  let v397 : BitVec 32 := Scalar.extui v396
  let c0_i32_204 : BitVec 32 := 0#32
  let v398 : BitVec 1 := Scalar.cmpi .ne v397 c0_i32_204
  v398

def k0_mult121 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_356 : BitVec 32 := 1#32
  let v638 : BitVec 32 := Scalar.addi v207 c1_i32_356
  let c128_i32_357 : BitVec 32 := 128#32
  let v639 : BitVec 32 := Scalar.muli v638 c128_i32_357
  v639
def k0_off25 (i : grid0.Coords) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_356 : BitVec 32 := 1#32
  let v638 : BitVec 32 := Scalar.addi v207 c1_i32_356
  let c128_i32_357 : BitVec 32 := 128#32
  let v639 : BitVec 32 := Scalar.muli v638 c128_i32_357
  let v640 : BitVec 32 := v639
  let v641 : Index := Scalar.indexCast v640
  let c0_358 : Index := 0#32
  ![v641.toNat, 0]
@[reducible] def k0_t4_loop : Scf.Loop 32 :=
  let c0_i32_212 : BitVec 32 := 0#32
  let c7_i32 : BitVec 32 := 7#32
  let v412 : BitVec 32 := Scalar.addi c0_i32_212 c7_i32
  let c1_i32_213 : BitVec 32 := 1#32
  ⟨c0_i32_212, v412, c1_i32_213⟩
@[reducible] def k0_t5_loop (i : grid0.Coords) : Scf.Loop 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_368 : BitVec 32 := 1#32
  ⟨c0_i32_366, v666, c1_i32_368⟩
def k0_mult122 (i : grid0.Coords) (k0_t5 : Fin (k0_t5_loop i).trips) : BitVec 32 :=
  let c0_i32_366 : BitVec 32 := 0#32
  let c1_i32_368 : BitVec 32 := 1#32
  let arg30 : BitVec 32 := Scf.iv c0_i32_366 c1_i32_368 k0_t5
  let c2_i32_371 : BitVec 32 := 2#32
  let v676 : BitVec 32 := Scalar.muli arg30 c2_i32_371
  let c128_i32_372 : BitVec 32 := 128#32
  let v677 : BitVec 32 := Scalar.muli v676 c128_i32_372
  v677
def k0_off26 (i : grid0.Coords) (k0_t5 : Fin (k0_t5_loop i).trips) : Fin 2 → Nat :=
  let c0_i32_366 : BitVec 32 := 0#32
  let c1_i32_368 : BitVec 32 := 1#32
  let arg30 : BitVec 32 := Scf.iv c0_i32_366 c1_i32_368 k0_t5
  let c2_i32_371 : BitVec 32 := 2#32
  let v676 : BitVec 32 := Scalar.muli arg30 c2_i32_371
  let c128_i32_372 : BitVec 32 := 128#32
  let v677 : BitVec 32 := Scalar.muli v676 c128_i32_372
  let v678 : BitVec 32 := v677
  let v679 : Index := Scalar.indexCast v678
  let c0_373 : Index := 0#32
  ![v679.toNat, 0]
@[reducible] def k0_t6_loop (i : grid0.Coords) : Scf.Loop 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let v663 : BitVec 32 := Scalar.addi c0_i32_366 v662
  let c1_i32_369 : BitVec 32 := 1#32
  ⟨v666, v663, c1_i32_369⟩
def k0_mult123 (i : grid0.Coords) (k0_t6 : Fin (k0_t6_loop i).trips) : BitVec 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_369 : BitVec 32 := 1#32
  let arg30 : BitVec 32 := Scf.iv v666 c1_i32_369 k0_t6
  let c2_i32_371 : BitVec 32 := 2#32
  let v676 : BitVec 32 := Scalar.muli arg30 c2_i32_371
  let c128_i32_372 : BitVec 32 := 128#32
  let v677 : BitVec 32 := Scalar.muli v676 c128_i32_372
  v677
def k0_off27 (i : grid0.Coords) (k0_t6 : Fin (k0_t6_loop i).trips) : Fin 2 → Nat :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_369 : BitVec 32 := 1#32
  let arg30 : BitVec 32 := Scf.iv v666 c1_i32_369 k0_t6
  let c2_i32_371 : BitVec 32 := 2#32
  let v676 : BitVec 32 := Scalar.muli arg30 c2_i32_371
  let c128_i32_372 : BitVec 32 := 128#32
  let v677 : BitVec 32 := Scalar.muli v676 c128_i32_372
  let v678 : BitVec 32 := v677
  let v679 : Index := Scalar.indexCast v678
  let c0_373 : Index := 0#32
  ![v679.toNat, 0]
@[reducible] def k0_t7_loop (i : grid0.Coords) : Scf.Loop 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_219 : BitVec 32 := 1#32
  ⟨c0_i32_217, v426, c1_i32_219⟩
def k0_mult124 (i : grid0.Coords) (k0_t7 : Fin (k0_t7_loop i).trips) : BitVec 32 :=
  let c0_i32_217 : BitVec 32 := 0#32
  let c1_i32_219 : BitVec 32 := 1#32
  let arg27 : BitVec 32 := Scf.iv c0_i32_217 c1_i32_219 k0_t7
  let c128_i32_355 : BitVec 32 := 128#32
  let v637 : BitVec 32 := Scalar.muli arg27 c128_i32_355
  v637
def k0_off28 (i : grid0.Coords) (k0_t7 : Fin (k0_t7_loop i).trips) : Fin 2 → Nat :=
  let c0_i32_217 : BitVec 32 := 0#32
  let c1_i32_219 : BitVec 32 := 1#32
  let arg27 : BitVec 32 := Scf.iv c0_i32_217 c1_i32_219 k0_t7
  let c128_i32_355 : BitVec 32 := 128#32
  let v637 : BitVec 32 := Scalar.muli arg27 c128_i32_355
  let v638 : BitVec 32 := v637
  let v639 : Index := Scalar.indexCast v638
  let c0_356 : Index := 0#32
  ![v639.toNat, 0]
def k0_mult125 (i : grid0.Coords) (k0_t7 : Fin (k0_t7_loop i).trips) : BitVec 32 :=
  let c0_i32_217 : BitVec 32 := 0#32
  let c1_i32_219 : BitVec 32 := 1#32
  let arg27 : BitVec 32 := Scf.iv c0_i32_217 c1_i32_219 k0_t7
  let c128_i32_361 : BitVec 32 := 128#32
  let v651 : BitVec 32 := Scalar.muli arg27 c128_i32_361
  v651
def k0_mult126 (i : grid0.Coords) (k0_t7 : Fin (k0_t7_loop i).trips) : BitVec 32 :=
  let c0_i32_217 : BitVec 32 := 0#32
  let c1_i32_219 : BitVec 32 := 1#32
  let arg27 : BitVec 32 := Scf.iv c0_i32_217 c1_i32_219 k0_t7
  let c128_i32_364 : BitVec 32 := 128#32
  let v659 : BitVec 32 := Scalar.muli arg27 c128_i32_364
  v659
def k0_mult127 (i : grid0.Coords) (k0_t7 : Fin (k0_t7_loop i).trips) : BitVec 32 :=
  let c0_i32_217 : BitVec 32 := 0#32
  let c1_i32_219 : BitVec 32 := 1#32
  let arg27 : BitVec 32 := Scf.iv c0_i32_217 c1_i32_219 k0_t7
  let c512_i32_366 : BitVec 32 := 512#32
  let v665 : BitVec 32 := Scalar.muli arg27 c512_i32_366
  let c0_i32_367 : BitVec 32 := 0#32
  let v666 : BitVec 32 := Scalar.addi v665 c0_i32_367
  v666
def k0_off29 (i : grid0.Coords) (k0_t7 : Fin (k0_t7_loop i).trips) (c0_i32_367 : BitVec 32) : Fin 2 → Nat :=
  let c0_i32_217 : BitVec 32 := 0#32
  let c1_i32_219 : BitVec 32 := 1#32
  let arg27 : BitVec 32 := Scf.iv c0_i32_217 c1_i32_219 k0_t7
  let c512_i32_366 : BitVec 32 := 512#32
  let v665 : BitVec 32 := Scalar.muli arg27 c512_i32_366
  let v666 : BitVec 32 := Scalar.addi v665 c0_i32_367
  let v667 : BitVec 32 := v666
  let v668 : Index := Scalar.indexCast v667
  let c0_368 : Index := 0#32
  ![v668.toNat, 0]
def k0_mult128 (i : grid0.Coords) (k0_t7 : Fin (k0_t7_loop i).trips) : BitVec 32 :=
  let c0_i32_217 : BitVec 32 := 0#32
  let c1_i32_219 : BitVec 32 := 1#32
  let arg27 : BitVec 32 := Scf.iv c0_i32_217 c1_i32_219 k0_t7
  let c512_i32_371 : BitVec 32 := 512#32
  let v674 : BitVec 32 := Scalar.muli arg27 c512_i32_371
  let c128_i32_372 : BitVec 32 := 128#32
  let v675 : BitVec 32 := Scalar.addi v674 c128_i32_372
  v675
def k0_mult129 (i : grid0.Coords) (k0_t7 : Fin (k0_t7_loop i).trips) : BitVec 32 :=
  let c0_i32_217 : BitVec 32 := 0#32
  let c1_i32_219 : BitVec 32 := 1#32
  let arg27 : BitVec 32 := Scf.iv c0_i32_217 c1_i32_219 k0_t7
  let c512_i32_375 : BitVec 32 := 512#32
  let v684 : BitVec 32 := Scalar.muli arg27 c512_i32_375
  let c256_i32_376 : BitVec 32 := 256#32
  let v685 : BitVec 32 := Scalar.addi v684 c256_i32_376
  v685
def k0_mult130 (i : grid0.Coords) (k0_t7 : Fin (k0_t7_loop i).trips) : BitVec 32 :=
  let c0_i32_217 : BitVec 32 := 0#32
  let c1_i32_219 : BitVec 32 := 1#32
  let arg27 : BitVec 32 := Scf.iv c0_i32_217 c1_i32_219 k0_t7
  let c512_i32_380 : BitVec 32 := 512#32
  let v694 : BitVec 32 := Scalar.muli arg27 c512_i32_380
  let c384_i32_381 : BitVec 32 := 384#32
  let v695 : BitVec 32 := Scalar.addi v694 c384_i32_381
  v695
def k0_mult131 (i : grid0.Coords) (k0_t7 : Fin (k0_t7_loop i).trips) : BitVec 32 :=
  let c0_i32_217 : BitVec 32 := 0#32
  let c1_i32_219 : BitVec 32 := 1#32
  let arg27 : BitVec 32 := Scf.iv c0_i32_217 c1_i32_219 k0_t7
  let c128_i32_385 : BitVec 32 := 128#32
  let v707 : BitVec 32 := Scalar.muli arg27 c128_i32_385
  v707
@[reducible] def k0_t8_loop (i : grid0.Coords) : Scf.Loop 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let v423 : BitVec 32 := Scalar.addi c0_i32_217 v422
  let c1_i32_220 : BitVec 32 := 1#32
  ⟨v426, v423, c1_i32_220⟩
def k0_mult132 (i : grid0.Coords) (k0_t8 : Fin (k0_t8_loop i).trips) : BitVec 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c128_i32_355 : BitVec 32 := 128#32
  let v637 : BitVec 32 := Scalar.muli arg27 c128_i32_355
  v637
def k0_off30 (i : grid0.Coords) (k0_t8 : Fin (k0_t8_loop i).trips) : Fin 2 → Nat :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c128_i32_355 : BitVec 32 := 128#32
  let v637 : BitVec 32 := Scalar.muli arg27 c128_i32_355
  let v638 : BitVec 32 := v637
  let v639 : Index := Scalar.indexCast v638
  let c0_356 : Index := 0#32
  ![v639.toNat, 0]
def k0_mult133 (i : grid0.Coords) (k0_t8 : Fin (k0_t8_loop i).trips) : BitVec 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c128_i32_361 : BitVec 32 := 128#32
  let v651 : BitVec 32 := Scalar.muli arg27 c128_i32_361
  v651
def k0_mult134 (i : grid0.Coords) (k0_t8 : Fin (k0_t8_loop i).trips) : BitVec 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c128_i32_364 : BitVec 32 := 128#32
  let v659 : BitVec 32 := Scalar.muli arg27 c128_i32_364
  v659
def k0_mult135 (i : grid0.Coords) (k0_t8 : Fin (k0_t8_loop i).trips) : BitVec 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c512_i32_366 : BitVec 32 := 512#32
  let v665 : BitVec 32 := Scalar.muli arg27 c512_i32_366
  let c0_i32_367 : BitVec 32 := 0#32
  let v666 : BitVec 32 := Scalar.addi v665 c0_i32_367
  v666
def k0_off31 (i : grid0.Coords) (k0_t8 : Fin (k0_t8_loop i).trips) (c0_i32_367 : BitVec 32) : Fin 2 → Nat :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c512_i32_366 : BitVec 32 := 512#32
  let v665 : BitVec 32 := Scalar.muli arg27 c512_i32_366
  let v666 : BitVec 32 := Scalar.addi v665 c0_i32_367
  let v667 : BitVec 32 := v666
  let v668 : Index := Scalar.indexCast v667
  let c0_368 : Index := 0#32
  ![v668.toNat, 0]
def k0_mult136 (i : grid0.Coords) (k0_t8 : Fin (k0_t8_loop i).trips) : BitVec 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c512_i32_371 : BitVec 32 := 512#32
  let v674 : BitVec 32 := Scalar.muli arg27 c512_i32_371
  let c128_i32_372 : BitVec 32 := 128#32
  let v675 : BitVec 32 := Scalar.addi v674 c128_i32_372
  v675
def k0_mult137 (i : grid0.Coords) (k0_t8 : Fin (k0_t8_loop i).trips) : BitVec 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c512_i32_375 : BitVec 32 := 512#32
  let v684 : BitVec 32 := Scalar.muli arg27 c512_i32_375
  let c256_i32_376 : BitVec 32 := 256#32
  let v685 : BitVec 32 := Scalar.addi v684 c256_i32_376
  v685
def k0_mult138 (i : grid0.Coords) (k0_t8 : Fin (k0_t8_loop i).trips) : BitVec 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c512_i32_380 : BitVec 32 := 512#32
  let v694 : BitVec 32 := Scalar.muli arg27 c512_i32_380
  let c384_i32_381 : BitVec 32 := 384#32
  let v695 : BitVec 32 := Scalar.addi v694 c384_i32_381
  v695
def k0_mult139 (i : grid0.Coords) (k0_t8 : Fin (k0_t8_loop i).trips) : BitVec 32 :=
  let c0_i32_217 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v422 : BitVec 32 := Scalar.subi v208 c0_i32_217
  let c1_i32_218 : BitVec 32 := 1#32
  let v424 : BitVec 32 := Scalar.divsi v422 c1_i32_218
  let v425 : BitVec 32 := Scalar.muli v424 c1_i32_218
  let v426 : BitVec 32 := Scalar.addi c0_i32_217 v425
  let c1_i32_220 : BitVec 32 := 1#32
  let arg27 : BitVec 32 := Scf.iv v426 c1_i32_220 k0_t8
  let c128_i32_385 : BitVec 32 := 128#32
  let v707 : BitVec 32 := Scalar.muli arg27 c128_i32_385
  v707
@[reducible] def k0_t9_loop : Scf.Loop 32 :=
  let c0_i32_223 : BitVec 32 := 0#32
  let c7_i32_224 : BitVec 32 := 7#32
  let v429 : BitVec 32 := Scalar.addi c0_i32_223 c7_i32_224
  let c1_i32_225 : BitVec 32 := 1#32
  ⟨c0_i32_223, v429, c1_i32_225⟩
@[reducible] def k0_t10_loop (i : grid0.Coords) : Scf.Loop 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_368 : BitVec 32 := 1#32
  ⟨c0_i32_366, v666, c1_i32_368⟩
def k0_mult140 (i : grid0.Coords) (k0_t10 : Fin (k0_t10_loop i).trips) : BitVec 32 :=
  let c0_i32_366 : BitVec 32 := 0#32
  let c1_i32_368 : BitVec 32 := 1#32
  let arg30 : BitVec 32 := Scf.iv c0_i32_366 c1_i32_368 k0_t10
  let c2_i32_371 : BitVec 32 := 2#32
  let v676 : BitVec 32 := Scalar.muli arg30 c2_i32_371
  let c128_i32_372 : BitVec 32 := 128#32
  let v677 : BitVec 32 := Scalar.muli v676 c128_i32_372
  v677
def k0_off32 (i : grid0.Coords) (k0_t10 : Fin (k0_t10_loop i).trips) : Fin 2 → Nat :=
  let c0_i32_366 : BitVec 32 := 0#32
  let c1_i32_368 : BitVec 32 := 1#32
  let arg30 : BitVec 32 := Scf.iv c0_i32_366 c1_i32_368 k0_t10
  let c2_i32_371 : BitVec 32 := 2#32
  let v676 : BitVec 32 := Scalar.muli arg30 c2_i32_371
  let c128_i32_372 : BitVec 32 := 128#32
  let v677 : BitVec 32 := Scalar.muli v676 c128_i32_372
  let v678 : BitVec 32 := v677
  let v679 : Index := Scalar.indexCast v678
  let c0_373 : Index := 0#32
  ![v679.toNat, 0]
@[reducible] def k0_t11_loop (i : grid0.Coords) : Scf.Loop 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let v663 : BitVec 32 := Scalar.addi c0_i32_366 v662
  let c1_i32_369 : BitVec 32 := 1#32
  ⟨v666, v663, c1_i32_369⟩
def k0_mult141 (i : grid0.Coords) (k0_t11 : Fin (k0_t11_loop i).trips) : BitVec 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_369 : BitVec 32 := 1#32
  let arg30 : BitVec 32 := Scf.iv v666 c1_i32_369 k0_t11
  let c2_i32_371 : BitVec 32 := 2#32
  let v676 : BitVec 32 := Scalar.muli arg30 c2_i32_371
  let c128_i32_372 : BitVec 32 := 128#32
  let v677 : BitVec 32 := Scalar.muli v676 c128_i32_372
  v677
def k0_off33 (i : grid0.Coords) (k0_t11 : Fin (k0_t11_loop i).trips) : Fin 2 → Nat :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_369 : BitVec 32 := 1#32
  let arg30 : BitVec 32 := Scf.iv v666 c1_i32_369 k0_t11
  let c2_i32_371 : BitVec 32 := 2#32
  let v676 : BitVec 32 := Scalar.muli arg30 c2_i32_371
  let c128_i32_372 : BitVec 32 := 128#32
  let v677 : BitVec 32 := Scalar.muli v676 c128_i32_372
  let v678 : BitVec 32 := v677
  let v679 : Index := Scalar.indexCast v678
  let c0_373 : Index := 0#32
  ![v679.toNat, 0]
@[reducible] def k0_t12_loop (i : grid0.Coords) : Scf.Loop 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_232 : BitVec 32 := 1#32
  ⟨c0_i32_230, v443, c1_i32_232⟩
def k0_mult142 (i : grid0.Coords) (k0_t12 : Fin (k0_t12_loop i).trips) : BitVec 32 :=
  let c0_i32_230 : BitVec 32 := 0#32
  let c1_i32_232 : BitVec 32 := 1#32
  let arg27 : BitVec 32 := Scf.iv c0_i32_230 c1_i32_232 k0_t12
  let c128_i32_355 : BitVec 32 := 128#32
  let v637 : BitVec 32 := Scalar.muli arg27 c128_i32_355
  v637
def k0_off34 (i : grid0.Coords) (k0_t12 : Fin (k0_t12_loop i).trips) : Fin 2 → Nat :=
  let c0_i32_230 : BitVec 32 := 0#32
  let c1_i32_232 : BitVec 32 := 1#32
  let arg27 : BitVec 32 := Scf.iv c0_i32_230 c1_i32_232 k0_t12
  let c128_i32_355 : BitVec 32 := 128#32
  let v637 : BitVec 32 := Scalar.muli arg27 c128_i32_355
  let v638 : BitVec 32 := v637
  let v639 : Index := Scalar.indexCast v638
  let c0_356 : Index := 0#32
  ![v639.toNat, 0]
def k0_mult143 (i : grid0.Coords) (k0_t12 : Fin (k0_t12_loop i).trips) : BitVec 32 :=
  let c0_i32_230 : BitVec 32 := 0#32
  let c1_i32_232 : BitVec 32 := 1#32
  let arg27 : BitVec 32 := Scf.iv c0_i32_230 c1_i32_232 k0_t12
  let c128_i32_361 : BitVec 32 := 128#32
  let v651 : BitVec 32 := Scalar.muli arg27 c128_i32_361
  v651
def k0_mult144 (i : grid0.Coords) (k0_t12 : Fin (k0_t12_loop i).trips) : BitVec 32 :=
  let c0_i32_230 : BitVec 32 := 0#32
  let c1_i32_232 : BitVec 32 := 1#32
  let arg27 : BitVec 32 := Scf.iv c0_i32_230 c1_i32_232 k0_t12
  let c128_i32_364 : BitVec 32 := 128#32
  let v659 : BitVec 32 := Scalar.muli arg27 c128_i32_364
  v659
def k0_mult145 (i : grid0.Coords) (k0_t12 : Fin (k0_t12_loop i).trips) : BitVec 32 :=
  let c0_i32_230 : BitVec 32 := 0#32
  let c1_i32_232 : BitVec 32 := 1#32
  let arg27 : BitVec 32 := Scf.iv c0_i32_230 c1_i32_232 k0_t12
  let c512_i32_366 : BitVec 32 := 512#32
  let v665 : BitVec 32 := Scalar.muli arg27 c512_i32_366
  let c0_i32_367 : BitVec 32 := 0#32
  let v666 : BitVec 32 := Scalar.addi v665 c0_i32_367
  v666
def k0_off35 (i : grid0.Coords) (k0_t12 : Fin (k0_t12_loop i).trips) (c0_i32_367 : BitVec 32) : Fin 2 → Nat :=
  let c0_i32_230 : BitVec 32 := 0#32
  let c1_i32_232 : BitVec 32 := 1#32
  let arg27 : BitVec 32 := Scf.iv c0_i32_230 c1_i32_232 k0_t12
  let c512_i32_366 : BitVec 32 := 512#32
  let v665 : BitVec 32 := Scalar.muli arg27 c512_i32_366
  let v666 : BitVec 32 := Scalar.addi v665 c0_i32_367
  let v667 : BitVec 32 := v666
  let v668 : Index := Scalar.indexCast v667
  let c0_368 : Index := 0#32
  ![v668.toNat, 0]
def k0_mult146 (i : grid0.Coords) (k0_t12 : Fin (k0_t12_loop i).trips) : BitVec 32 :=
  let c0_i32_230 : BitVec 32 := 0#32
  let c1_i32_232 : BitVec 32 := 1#32
  let arg27 : BitVec 32 := Scf.iv c0_i32_230 c1_i32_232 k0_t12
  let c512_i32_371 : BitVec 32 := 512#32
  let v674 : BitVec 32 := Scalar.muli arg27 c512_i32_371
  let c128_i32_372 : BitVec 32 := 128#32
  let v675 : BitVec 32 := Scalar.addi v674 c128_i32_372
  v675
def k0_mult147 (i : grid0.Coords) (k0_t12 : Fin (k0_t12_loop i).trips) : BitVec 32 :=
  let c0_i32_230 : BitVec 32 := 0#32
  let c1_i32_232 : BitVec 32 := 1#32
  let arg27 : BitVec 32 := Scf.iv c0_i32_230 c1_i32_232 k0_t12
  let c512_i32_376 : BitVec 32 := 512#32
  let v684 : BitVec 32 := Scalar.muli arg27 c512_i32_376
  let c256_i32_377 : BitVec 32 := 256#32
  let v685 : BitVec 32 := Scalar.addi v684 c256_i32_377
  v685
def k0_mult148 (i : grid0.Coords) (k0_t12 : Fin (k0_t12_loop i).trips) : BitVec 32 :=
  let c0_i32_230 : BitVec 32 := 0#32
  let c1_i32_232 : BitVec 32 := 1#32
  let arg27 : BitVec 32 := Scf.iv c0_i32_230 c1_i32_232 k0_t12
  let c512_i32_380 : BitVec 32 := 512#32
  let v694 : BitVec 32 := Scalar.muli arg27 c512_i32_380
  let c384_i32_381 : BitVec 32 := 384#32
  let v695 : BitVec 32 := Scalar.addi v694 c384_i32_381
  v695
def k0_mult149 (i : grid0.Coords) (k0_t12 : Fin (k0_t12_loop i).trips) : BitVec 32 :=
  let c0_i32_230 : BitVec 32 := 0#32
  let c1_i32_232 : BitVec 32 := 1#32
  let arg27 : BitVec 32 := Scf.iv c0_i32_230 c1_i32_232 k0_t12
  let c128_i32_385 : BitVec 32 := 128#32
  let v707 : BitVec 32 := Scalar.muli arg27 c128_i32_385
  v707
@[reducible] def k0_t13_loop (i : grid0.Coords) : Scf.Loop 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let v440 : BitVec 32 := Scalar.addi c0_i32_230 v439
  let c1_i32_233 : BitVec 32 := 1#32
  ⟨v443, v440, c1_i32_233⟩
def k0_mult150 (i : grid0.Coords) (k0_t13 : Fin (k0_t13_loop i).trips) : BitVec 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c128_i32_355 : BitVec 32 := 128#32
  let v637 : BitVec 32 := Scalar.muli arg27 c128_i32_355
  v637
def k0_off36 (i : grid0.Coords) (k0_t13 : Fin (k0_t13_loop i).trips) : Fin 2 → Nat :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c128_i32_355 : BitVec 32 := 128#32
  let v637 : BitVec 32 := Scalar.muli arg27 c128_i32_355
  let v638 : BitVec 32 := v637
  let v639 : Index := Scalar.indexCast v638
  let c0_356 : Index := 0#32
  ![v639.toNat, 0]
def k0_mult151 (i : grid0.Coords) (k0_t13 : Fin (k0_t13_loop i).trips) : BitVec 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c128_i32_361 : BitVec 32 := 128#32
  let v651 : BitVec 32 := Scalar.muli arg27 c128_i32_361
  v651
def k0_mult152 (i : grid0.Coords) (k0_t13 : Fin (k0_t13_loop i).trips) : BitVec 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c128_i32_364 : BitVec 32 := 128#32
  let v659 : BitVec 32 := Scalar.muli arg27 c128_i32_364
  v659
def k0_mult153 (i : grid0.Coords) (k0_t13 : Fin (k0_t13_loop i).trips) : BitVec 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c512_i32_366 : BitVec 32 := 512#32
  let v665 : BitVec 32 := Scalar.muli arg27 c512_i32_366
  let c0_i32_367 : BitVec 32 := 0#32
  let v666 : BitVec 32 := Scalar.addi v665 c0_i32_367
  v666
def k0_off37 (i : grid0.Coords) (k0_t13 : Fin (k0_t13_loop i).trips) (c0_i32_367 : BitVec 32) : Fin 2 → Nat :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c512_i32_366 : BitVec 32 := 512#32
  let v665 : BitVec 32 := Scalar.muli arg27 c512_i32_366
  let v666 : BitVec 32 := Scalar.addi v665 c0_i32_367
  let v667 : BitVec 32 := v666
  let v668 : Index := Scalar.indexCast v667
  let c0_368 : Index := 0#32
  ![v668.toNat, 0]
def k0_mult154 (i : grid0.Coords) (k0_t13 : Fin (k0_t13_loop i).trips) : BitVec 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c512_i32_371 : BitVec 32 := 512#32
  let v674 : BitVec 32 := Scalar.muli arg27 c512_i32_371
  let c128_i32_372 : BitVec 32 := 128#32
  let v675 : BitVec 32 := Scalar.addi v674 c128_i32_372
  v675
def k0_mult155 (i : grid0.Coords) (k0_t13 : Fin (k0_t13_loop i).trips) : BitVec 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c512_i32_376 : BitVec 32 := 512#32
  let v684 : BitVec 32 := Scalar.muli arg27 c512_i32_376
  let c256_i32_377 : BitVec 32 := 256#32
  let v685 : BitVec 32 := Scalar.addi v684 c256_i32_377
  v685
def k0_mult156 (i : grid0.Coords) (k0_t13 : Fin (k0_t13_loop i).trips) : BitVec 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c512_i32_380 : BitVec 32 := 512#32
  let v694 : BitVec 32 := Scalar.muli arg27 c512_i32_380
  let c384_i32_381 : BitVec 32 := 384#32
  let v695 : BitVec 32 := Scalar.addi v694 c384_i32_381
  v695
def k0_mult157 (i : grid0.Coords) (k0_t13 : Fin (k0_t13_loop i).trips) : BitVec 32 :=
  let c0_i32_230 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v439 : BitVec 32 := Scalar.subi v208 c0_i32_230
  let c1_i32_231 : BitVec 32 := 1#32
  let v441 : BitVec 32 := Scalar.divsi v439 c1_i32_231
  let v442 : BitVec 32 := Scalar.muli v441 c1_i32_231
  let v443 : BitVec 32 := Scalar.addi c0_i32_230 v442
  let c1_i32_233 : BitVec 32 := 1#32
  let arg27 : BitVec 32 := Scf.iv v443 c1_i32_233 k0_t13
  let c128_i32_385 : BitVec 32 := 128#32
  let v707 : BitVec 32 := Scalar.muli arg27 c128_i32_385
  v707
@[reducible] def k0_t14_loop : Scf.Loop 32 :=
  let c0_i32_236 : BitVec 32 := 0#32
  let c7_i32_237 : BitVec 32 := 7#32
  let v446 : BitVec 32 := Scalar.addi c0_i32_236 c7_i32_237
  let c1_i32_238 : BitVec 32 := 1#32
  ⟨c0_i32_236, v446, c1_i32_238⟩
@[reducible] def k0_t15_loop (i : grid0.Coords) : Scf.Loop 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_368 : BitVec 32 := 1#32
  ⟨c0_i32_366, v666, c1_i32_368⟩
def k0_mult158 (i : grid0.Coords) (k0_t15 : Fin (k0_t15_loop i).trips) : BitVec 32 :=
  let c0_i32_366 : BitVec 32 := 0#32
  let c1_i32_368 : BitVec 32 := 1#32
  let arg30 : BitVec 32 := Scf.iv c0_i32_366 c1_i32_368 k0_t15
  let c2_i32_371 : BitVec 32 := 2#32
  let v676 : BitVec 32 := Scalar.muli arg30 c2_i32_371
  let c128_i32_372 : BitVec 32 := 128#32
  let v677 : BitVec 32 := Scalar.muli v676 c128_i32_372
  v677
def k0_off38 (i : grid0.Coords) (k0_t15 : Fin (k0_t15_loop i).trips) : Fin 2 → Nat :=
  let c0_i32_366 : BitVec 32 := 0#32
  let c1_i32_368 : BitVec 32 := 1#32
  let arg30 : BitVec 32 := Scf.iv c0_i32_366 c1_i32_368 k0_t15
  let c2_i32_371 : BitVec 32 := 2#32
  let v676 : BitVec 32 := Scalar.muli arg30 c2_i32_371
  let c128_i32_372 : BitVec 32 := 128#32
  let v677 : BitVec 32 := Scalar.muli v676 c128_i32_372
  let v678 : BitVec 32 := v677
  let v679 : Index := Scalar.indexCast v678
  let c0_373 : Index := 0#32
  ![v679.toNat, 0]
@[reducible] def k0_t16_loop (i : grid0.Coords) : Scf.Loop 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let v663 : BitVec 32 := Scalar.addi c0_i32_366 v662
  let c1_i32_369 : BitVec 32 := 1#32
  ⟨v666, v663, c1_i32_369⟩
def k0_mult159 (i : grid0.Coords) (k0_t16 : Fin (k0_t16_loop i).trips) : BitVec 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_369 : BitVec 32 := 1#32
  let arg30 : BitVec 32 := Scf.iv v666 c1_i32_369 k0_t16
  let c2_i32_371 : BitVec 32 := 2#32
  let v676 : BitVec 32 := Scalar.muli arg30 c2_i32_371
  let c128_i32_372 : BitVec 32 := 128#32
  let v677 : BitVec 32 := Scalar.muli v676 c128_i32_372
  v677
def k0_off39 (i : grid0.Coords) (k0_t16 : Fin (k0_t16_loop i).trips) : Fin 2 → Nat :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_369 : BitVec 32 := 1#32
  let arg30 : BitVec 32 := Scf.iv v666 c1_i32_369 k0_t16
  let c2_i32_371 : BitVec 32 := 2#32
  let v676 : BitVec 32 := Scalar.muli arg30 c2_i32_371
  let c128_i32_372 : BitVec 32 := 128#32
  let v677 : BitVec 32 := Scalar.muli v676 c128_i32_372
  let v678 : BitVec 32 := v677
  let v679 : Index := Scalar.indexCast v678
  let c0_373 : Index := 0#32
  ![v679.toNat, 0]
@[reducible] def k0_t17_loop (i : grid0.Coords) : Scf.Loop 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_245 : BitVec 32 := 1#32
  ⟨c0_i32_243, v460, c1_i32_245⟩
def k0_mult160 (i : grid0.Coords) (k0_t17 : Fin (k0_t17_loop i).trips) : BitVec 32 :=
  let c0_i32_243 : BitVec 32 := 0#32
  let c1_i32_245 : BitVec 32 := 1#32
  let arg27 : BitVec 32 := Scf.iv c0_i32_243 c1_i32_245 k0_t17
  let c128_i32_355 : BitVec 32 := 128#32
  let v637 : BitVec 32 := Scalar.muli arg27 c128_i32_355
  v637
def k0_off40 (i : grid0.Coords) (k0_t17 : Fin (k0_t17_loop i).trips) : Fin 2 → Nat :=
  let c0_i32_243 : BitVec 32 := 0#32
  let c1_i32_245 : BitVec 32 := 1#32
  let arg27 : BitVec 32 := Scf.iv c0_i32_243 c1_i32_245 k0_t17
  let c128_i32_355 : BitVec 32 := 128#32
  let v637 : BitVec 32 := Scalar.muli arg27 c128_i32_355
  let v638 : BitVec 32 := v637
  let v639 : Index := Scalar.indexCast v638
  let c0_356 : Index := 0#32
  ![v639.toNat, 0]
def k0_mult161 (i : grid0.Coords) (k0_t17 : Fin (k0_t17_loop i).trips) : BitVec 32 :=
  let c0_i32_243 : BitVec 32 := 0#32
  let c1_i32_245 : BitVec 32 := 1#32
  let arg27 : BitVec 32 := Scf.iv c0_i32_243 c1_i32_245 k0_t17
  let c128_i32_361 : BitVec 32 := 128#32
  let v651 : BitVec 32 := Scalar.muli arg27 c128_i32_361
  v651
def k0_mult162 (i : grid0.Coords) (k0_t17 : Fin (k0_t17_loop i).trips) : BitVec 32 :=
  let c0_i32_243 : BitVec 32 := 0#32
  let c1_i32_245 : BitVec 32 := 1#32
  let arg27 : BitVec 32 := Scf.iv c0_i32_243 c1_i32_245 k0_t17
  let c128_i32_364 : BitVec 32 := 128#32
  let v659 : BitVec 32 := Scalar.muli arg27 c128_i32_364
  v659
def k0_mult163 (i : grid0.Coords) (k0_t17 : Fin (k0_t17_loop i).trips) : BitVec 32 :=
  let c0_i32_243 : BitVec 32 := 0#32
  let c1_i32_245 : BitVec 32 := 1#32
  let arg27 : BitVec 32 := Scf.iv c0_i32_243 c1_i32_245 k0_t17
  let c512_i32_366 : BitVec 32 := 512#32
  let v665 : BitVec 32 := Scalar.muli arg27 c512_i32_366
  let c0_i32_367 : BitVec 32 := 0#32
  let v666 : BitVec 32 := Scalar.addi v665 c0_i32_367
  v666
def k0_off41 (i : grid0.Coords) (k0_t17 : Fin (k0_t17_loop i).trips) (c0_i32_367 : BitVec 32) : Fin 2 → Nat :=
  let c0_i32_243 : BitVec 32 := 0#32
  let c1_i32_245 : BitVec 32 := 1#32
  let arg27 : BitVec 32 := Scf.iv c0_i32_243 c1_i32_245 k0_t17
  let c512_i32_366 : BitVec 32 := 512#32
  let v665 : BitVec 32 := Scalar.muli arg27 c512_i32_366
  let v666 : BitVec 32 := Scalar.addi v665 c0_i32_367
  let v667 : BitVec 32 := v666
  let v668 : Index := Scalar.indexCast v667
  let c0_368 : Index := 0#32
  ![v668.toNat, 0]
def k0_mult164 (i : grid0.Coords) (k0_t17 : Fin (k0_t17_loop i).trips) : BitVec 32 :=
  let c0_i32_243 : BitVec 32 := 0#32
  let c1_i32_245 : BitVec 32 := 1#32
  let arg27 : BitVec 32 := Scf.iv c0_i32_243 c1_i32_245 k0_t17
  let c512_i32_371 : BitVec 32 := 512#32
  let v674 : BitVec 32 := Scalar.muli arg27 c512_i32_371
  let c128_i32_372 : BitVec 32 := 128#32
  let v675 : BitVec 32 := Scalar.addi v674 c128_i32_372
  v675
def k0_mult165 (i : grid0.Coords) (k0_t17 : Fin (k0_t17_loop i).trips) : BitVec 32 :=
  let c0_i32_243 : BitVec 32 := 0#32
  let c1_i32_245 : BitVec 32 := 1#32
  let arg27 : BitVec 32 := Scf.iv c0_i32_243 c1_i32_245 k0_t17
  let c512_i32_376 : BitVec 32 := 512#32
  let v684 : BitVec 32 := Scalar.muli arg27 c512_i32_376
  let c256_i32_377 : BitVec 32 := 256#32
  let v685 : BitVec 32 := Scalar.addi v684 c256_i32_377
  v685
def k0_mult166 (i : grid0.Coords) (k0_t17 : Fin (k0_t17_loop i).trips) : BitVec 32 :=
  let c0_i32_243 : BitVec 32 := 0#32
  let c1_i32_245 : BitVec 32 := 1#32
  let arg27 : BitVec 32 := Scf.iv c0_i32_243 c1_i32_245 k0_t17
  let c512_i32_380 : BitVec 32 := 512#32
  let v694 : BitVec 32 := Scalar.muli arg27 c512_i32_380
  let c384_i32_381 : BitVec 32 := 384#32
  let v695 : BitVec 32 := Scalar.addi v694 c384_i32_381
  v695
def k0_mult167 (i : grid0.Coords) (k0_t17 : Fin (k0_t17_loop i).trips) : BitVec 32 :=
  let c0_i32_243 : BitVec 32 := 0#32
  let c1_i32_245 : BitVec 32 := 1#32
  let arg27 : BitVec 32 := Scf.iv c0_i32_243 c1_i32_245 k0_t17
  let c128_i32_385 : BitVec 32 := 128#32
  let v707 : BitVec 32 := Scalar.muli arg27 c128_i32_385
  v707
@[reducible] def k0_t18_loop (i : grid0.Coords) : Scf.Loop 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let v457 : BitVec 32 := Scalar.addi c0_i32_243 v456
  let c1_i32_246 : BitVec 32 := 1#32
  ⟨v460, v457, c1_i32_246⟩
def k0_mult168 (i : grid0.Coords) (k0_t18 : Fin (k0_t18_loop i).trips) : BitVec 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c128_i32_355 : BitVec 32 := 128#32
  let v637 : BitVec 32 := Scalar.muli arg27 c128_i32_355
  v637
def k0_off42 (i : grid0.Coords) (k0_t18 : Fin (k0_t18_loop i).trips) : Fin 2 → Nat :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c128_i32_355 : BitVec 32 := 128#32
  let v637 : BitVec 32 := Scalar.muli arg27 c128_i32_355
  let v638 : BitVec 32 := v637
  let v639 : Index := Scalar.indexCast v638
  let c0_356 : Index := 0#32
  ![v639.toNat, 0]
def k0_mult169 (i : grid0.Coords) (k0_t18 : Fin (k0_t18_loop i).trips) : BitVec 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c128_i32_361 : BitVec 32 := 128#32
  let v651 : BitVec 32 := Scalar.muli arg27 c128_i32_361
  v651
def k0_mult170 (i : grid0.Coords) (k0_t18 : Fin (k0_t18_loop i).trips) : BitVec 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c128_i32_364 : BitVec 32 := 128#32
  let v659 : BitVec 32 := Scalar.muli arg27 c128_i32_364
  v659
def k0_mult171 (i : grid0.Coords) (k0_t18 : Fin (k0_t18_loop i).trips) : BitVec 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c512_i32_366 : BitVec 32 := 512#32
  let v665 : BitVec 32 := Scalar.muli arg27 c512_i32_366
  let c0_i32_367 : BitVec 32 := 0#32
  let v666 : BitVec 32 := Scalar.addi v665 c0_i32_367
  v666
def k0_off43 (i : grid0.Coords) (k0_t18 : Fin (k0_t18_loop i).trips) (c0_i32_367 : BitVec 32) : Fin 2 → Nat :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c512_i32_366 : BitVec 32 := 512#32
  let v665 : BitVec 32 := Scalar.muli arg27 c512_i32_366
  let v666 : BitVec 32 := Scalar.addi v665 c0_i32_367
  let v667 : BitVec 32 := v666
  let v668 : Index := Scalar.indexCast v667
  let c0_368 : Index := 0#32
  ![v668.toNat, 0]
def k0_mult172 (i : grid0.Coords) (k0_t18 : Fin (k0_t18_loop i).trips) : BitVec 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c512_i32_371 : BitVec 32 := 512#32
  let v674 : BitVec 32 := Scalar.muli arg27 c512_i32_371
  let c128_i32_372 : BitVec 32 := 128#32
  let v675 : BitVec 32 := Scalar.addi v674 c128_i32_372
  v675
def k0_mult173 (i : grid0.Coords) (k0_t18 : Fin (k0_t18_loop i).trips) : BitVec 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c512_i32_376 : BitVec 32 := 512#32
  let v684 : BitVec 32 := Scalar.muli arg27 c512_i32_376
  let c256_i32_377 : BitVec 32 := 256#32
  let v685 : BitVec 32 := Scalar.addi v684 c256_i32_377
  v685
def k0_mult174 (i : grid0.Coords) (k0_t18 : Fin (k0_t18_loop i).trips) : BitVec 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c512_i32_380 : BitVec 32 := 512#32
  let v694 : BitVec 32 := Scalar.muli arg27 c512_i32_380
  let c384_i32_381 : BitVec 32 := 384#32
  let v695 : BitVec 32 := Scalar.addi v694 c384_i32_381
  v695
def k0_mult175 (i : grid0.Coords) (k0_t18 : Fin (k0_t18_loop i).trips) : BitVec 32 :=
  let c0_i32_243 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v456 : BitVec 32 := Scalar.subi v208 c0_i32_243
  let c1_i32_244 : BitVec 32 := 1#32
  let v458 : BitVec 32 := Scalar.divsi v456 c1_i32_244
  let v459 : BitVec 32 := Scalar.muli v458 c1_i32_244
  let v460 : BitVec 32 := Scalar.addi c0_i32_243 v459
  let c1_i32_246 : BitVec 32 := 1#32
  let arg27 : BitVec 32 := Scf.iv v460 c1_i32_246 k0_t18
  let c128_i32_385 : BitVec 32 := 128#32
  let v707 : BitVec 32 := Scalar.muli arg27 c128_i32_385
  v707
@[reducible] def k0_t19_loop : Scf.Loop 32 :=
  let c0_i32_249 : BitVec 32 := 0#32
  let c7_i32_250 : BitVec 32 := 7#32
  let v463 : BitVec 32 := Scalar.addi c0_i32_249 c7_i32_250
  let c1_i32_251 : BitVec 32 := 1#32
  ⟨c0_i32_249, v463, c1_i32_251⟩
@[reducible] def k0_t20_loop (i : grid0.Coords) : Scf.Loop 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_368 : BitVec 32 := 1#32
  ⟨c0_i32_366, v666, c1_i32_368⟩
def k0_mult176 (i : grid0.Coords) (k0_t20 : Fin (k0_t20_loop i).trips) : BitVec 32 :=
  let c0_i32_366 : BitVec 32 := 0#32
  let c1_i32_368 : BitVec 32 := 1#32
  let arg30 : BitVec 32 := Scf.iv c0_i32_366 c1_i32_368 k0_t20
  let c2_i32_371 : BitVec 32 := 2#32
  let v676 : BitVec 32 := Scalar.muli arg30 c2_i32_371
  let c128_i32_372 : BitVec 32 := 128#32
  let v677 : BitVec 32 := Scalar.muli v676 c128_i32_372
  v677
def k0_off44 (i : grid0.Coords) (k0_t20 : Fin (k0_t20_loop i).trips) : Fin 2 → Nat :=
  let c0_i32_366 : BitVec 32 := 0#32
  let c1_i32_368 : BitVec 32 := 1#32
  let arg30 : BitVec 32 := Scf.iv c0_i32_366 c1_i32_368 k0_t20
  let c2_i32_371 : BitVec 32 := 2#32
  let v676 : BitVec 32 := Scalar.muli arg30 c2_i32_371
  let c128_i32_372 : BitVec 32 := 128#32
  let v677 : BitVec 32 := Scalar.muli v676 c128_i32_372
  let v678 : BitVec 32 := v677
  let v679 : Index := Scalar.indexCast v678
  let c0_373 : Index := 0#32
  ![v679.toNat, 0]
@[reducible] def k0_t21_loop (i : grid0.Coords) : Scf.Loop 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let v663 : BitVec 32 := Scalar.addi c0_i32_366 v662
  let c1_i32_369 : BitVec 32 := 1#32
  ⟨v666, v663, c1_i32_369⟩
def k0_mult177 (i : grid0.Coords) (k0_t21 : Fin (k0_t21_loop i).trips) : BitVec 32 :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_369 : BitVec 32 := 1#32
  let arg30 : BitVec 32 := Scf.iv v666 c1_i32_369 k0_t21
  let c2_i32_371 : BitVec 32 := 2#32
  let v676 : BitVec 32 := Scalar.muli arg30 c2_i32_371
  let c128_i32_372 : BitVec 32 := 128#32
  let v677 : BitVec 32 := Scalar.muli v676 c128_i32_372
  v677
def k0_off45 (i : grid0.Coords) (k0_t21 : Fin (k0_t21_loop i).trips) : Fin 2 → Nat :=
  let c0_i32_366 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_357 : BitVec 32 := 1#32
  let v643 : BitVec 32 := Scalar.addi v208 c1_i32_357
  let c0_i32_359 : BitVec 32 := 0#32
  let v645 : BitVec 1 := Scalar.cmpi .sgt v643 c0_i32_359
  let v646 : BitVec 32 := Scalar.extui v645
  let c0_i32_360 : BitVec 32 := 0#32
  let v647 : BitVec 1 := Scalar.cmpi .slt v643 c0_i32_360
  let v648 : BitVec 32 := Scalar.extui v647
  let v649 : BitVec 32 := Scalar.subi v646 v648
  let c2_i32_358 : BitVec 32 := 2#32
  let c0_i32_361 : BitVec 32 := 0#32
  let v650 : BitVec 1 := Scalar.cmpi .sgt c2_i32_358 c0_i32_361
  let v651 : BitVec 32 := Scalar.extui v650
  let c0_i32_362 : BitVec 32 := 0#32
  let v652 : BitVec 1 := Scalar.cmpi .slt c2_i32_358 c0_i32_362
  let v653 : BitVec 32 := Scalar.extui v652
  let v654 : BitVec 32 := Scalar.subi v651 v653
  let v655 : BitVec 1 := Scalar.cmpi .ne v649 v654
  let v656 : BitVec 32 := Scalar.remsi v643 c2_i32_358
  let c0_i32_363 : BitVec 32 := 0#32
  let v657 : BitVec 1 := Scalar.cmpi .ne v656 c0_i32_363
  let v658 : BitVec 1 := Scalar.andi v655 v657
  let v644 : BitVec 32 := Scalar.divsi v643 c2_i32_358
  let c1_i32_364 : BitVec 32 := 1#32
  let v659 : BitVec 32 := Scalar.subi v644 c1_i32_364
  let v660 : BitVec 32 := Scalar.select v658 v659 v644
  let v662 : BitVec 32 := Scalar.subi v660 c0_i32_366
  let c1_i32_367 : BitVec 32 := 1#32
  let v664 : BitVec 32 := Scalar.divsi v662 c1_i32_367
  let v665 : BitVec 32 := Scalar.muli v664 c1_i32_367
  let v666 : BitVec 32 := Scalar.addi c0_i32_366 v665
  let c1_i32_369 : BitVec 32 := 1#32
  let arg30 : BitVec 32 := Scf.iv v666 c1_i32_369 k0_t21
  let c2_i32_371 : BitVec 32 := 2#32
  let v676 : BitVec 32 := Scalar.muli arg30 c2_i32_371
  let c128_i32_372 : BitVec 32 := 128#32
  let v677 : BitVec 32 := Scalar.muli v676 c128_i32_372
  let v678 : BitVec 32 := v677
  let v679 : Index := Scalar.indexCast v678
  let c0_373 : Index := 0#32
  ![v679.toNat, 0]
@[reducible] def k0_t22_loop (i : grid0.Coords) : Scf.Loop 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_259 : BitVec 32 := 1#32
  ⟨c0_i32_257, v477, c1_i32_259⟩
def k0_mult178 (i : grid0.Coords) (k0_t22 : Fin (k0_t22_loop i).trips) : BitVec 32 :=
  let c0_i32_257 : BitVec 32 := 0#32
  let c1_i32_259 : BitVec 32 := 1#32
  let arg27 : BitVec 32 := Scf.iv c0_i32_257 c1_i32_259 k0_t22
  let c128_i32_355 : BitVec 32 := 128#32
  let v637 : BitVec 32 := Scalar.muli arg27 c128_i32_355
  v637
def k0_off46 (i : grid0.Coords) (k0_t22 : Fin (k0_t22_loop i).trips) : Fin 2 → Nat :=
  let c0_i32_257 : BitVec 32 := 0#32
  let c1_i32_259 : BitVec 32 := 1#32
  let arg27 : BitVec 32 := Scf.iv c0_i32_257 c1_i32_259 k0_t22
  let c128_i32_355 : BitVec 32 := 128#32
  let v637 : BitVec 32 := Scalar.muli arg27 c128_i32_355
  let v638 : BitVec 32 := v637
  let v639 : Index := Scalar.indexCast v638
  let c0_356 : Index := 0#32
  ![v639.toNat, 0]
def k0_mult179 (i : grid0.Coords) (k0_t22 : Fin (k0_t22_loop i).trips) : BitVec 32 :=
  let c0_i32_257 : BitVec 32 := 0#32
  let c1_i32_259 : BitVec 32 := 1#32
  let arg27 : BitVec 32 := Scf.iv c0_i32_257 c1_i32_259 k0_t22
  let c128_i32_361 : BitVec 32 := 128#32
  let v651 : BitVec 32 := Scalar.muli arg27 c128_i32_361
  v651
def k0_mult180 (i : grid0.Coords) (k0_t22 : Fin (k0_t22_loop i).trips) : BitVec 32 :=
  let c0_i32_257 : BitVec 32 := 0#32
  let c1_i32_259 : BitVec 32 := 1#32
  let arg27 : BitVec 32 := Scf.iv c0_i32_257 c1_i32_259 k0_t22
  let c128_i32_364 : BitVec 32 := 128#32
  let v659 : BitVec 32 := Scalar.muli arg27 c128_i32_364
  v659
def k0_mult181 (i : grid0.Coords) (k0_t22 : Fin (k0_t22_loop i).trips) : BitVec 32 :=
  let c0_i32_257 : BitVec 32 := 0#32
  let c1_i32_259 : BitVec 32 := 1#32
  let arg27 : BitVec 32 := Scf.iv c0_i32_257 c1_i32_259 k0_t22
  let c512_i32_366 : BitVec 32 := 512#32
  let v665 : BitVec 32 := Scalar.muli arg27 c512_i32_366
  let c0_i32_367 : BitVec 32 := 0#32
  let v666 : BitVec 32 := Scalar.addi v665 c0_i32_367
  v666
def k0_off47 (i : grid0.Coords) (k0_t22 : Fin (k0_t22_loop i).trips) (c0_i32_367 : BitVec 32) : Fin 2 → Nat :=
  let c0_i32_257 : BitVec 32 := 0#32
  let c1_i32_259 : BitVec 32 := 1#32
  let arg27 : BitVec 32 := Scf.iv c0_i32_257 c1_i32_259 k0_t22
  let c512_i32_366 : BitVec 32 := 512#32
  let v665 : BitVec 32 := Scalar.muli arg27 c512_i32_366
  let v666 : BitVec 32 := Scalar.addi v665 c0_i32_367
  let v667 : BitVec 32 := v666
  let v668 : Index := Scalar.indexCast v667
  let c0_368 : Index := 0#32
  ![v668.toNat, 0]
def k0_mult182 (i : grid0.Coords) (k0_t22 : Fin (k0_t22_loop i).trips) : BitVec 32 :=
  let c0_i32_257 : BitVec 32 := 0#32
  let c1_i32_259 : BitVec 32 := 1#32
  let arg27 : BitVec 32 := Scf.iv c0_i32_257 c1_i32_259 k0_t22
  let c512_i32_370 : BitVec 32 := 512#32
  let v674 : BitVec 32 := Scalar.muli arg27 c512_i32_370
  let c128_i32_371 : BitVec 32 := 128#32
  let v675 : BitVec 32 := Scalar.addi v674 c128_i32_371
  v675
def k0_mult183 (i : grid0.Coords) (k0_t22 : Fin (k0_t22_loop i).trips) : BitVec 32 :=
  let c0_i32_257 : BitVec 32 := 0#32
  let c1_i32_259 : BitVec 32 := 1#32
  let arg27 : BitVec 32 := Scf.iv c0_i32_257 c1_i32_259 k0_t22
  let c512_i32_373 : BitVec 32 := 512#32
  let v684 : BitVec 32 := Scalar.muli arg27 c512_i32_373
  let c256_i32_374 : BitVec 32 := 256#32
  let v685 : BitVec 32 := Scalar.addi v684 c256_i32_374
  v685
def k0_mult184 (i : grid0.Coords) (k0_t22 : Fin (k0_t22_loop i).trips) : BitVec 32 :=
  let c0_i32_257 : BitVec 32 := 0#32
  let c1_i32_259 : BitVec 32 := 1#32
  let arg27 : BitVec 32 := Scf.iv c0_i32_257 c1_i32_259 k0_t22
  let c512_i32_376 : BitVec 32 := 512#32
  let v694 : BitVec 32 := Scalar.muli arg27 c512_i32_376
  let c384_i32_377 : BitVec 32 := 384#32
  let v695 : BitVec 32 := Scalar.addi v694 c384_i32_377
  v695
def k0_mult185 (i : grid0.Coords) (k0_t22 : Fin (k0_t22_loop i).trips) : BitVec 32 :=
  let c0_i32_257 : BitVec 32 := 0#32
  let c1_i32_259 : BitVec 32 := 1#32
  let arg27 : BitVec 32 := Scf.iv c0_i32_257 c1_i32_259 k0_t22
  let c128_i32_380 : BitVec 32 := 128#32
  let v707 : BitVec 32 := Scalar.muli arg27 c128_i32_380
  v707
@[reducible] def k0_t23_loop (i : grid0.Coords) : Scf.Loop 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let v474 : BitVec 32 := Scalar.addi c0_i32_257 v473
  let c1_i32_260 : BitVec 32 := 1#32
  ⟨v477, v474, c1_i32_260⟩
def k0_mult186 (i : grid0.Coords) (k0_t23 : Fin (k0_t23_loop i).trips) : BitVec 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c128_i32_355 : BitVec 32 := 128#32
  let v637 : BitVec 32 := Scalar.muli arg27 c128_i32_355
  v637
def k0_off48 (i : grid0.Coords) (k0_t23 : Fin (k0_t23_loop i).trips) : Fin 2 → Nat :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c128_i32_355 : BitVec 32 := 128#32
  let v637 : BitVec 32 := Scalar.muli arg27 c128_i32_355
  let v638 : BitVec 32 := v637
  let v639 : Index := Scalar.indexCast v638
  let c0_356 : Index := 0#32
  ![v639.toNat, 0]
def k0_mult187 (i : grid0.Coords) (k0_t23 : Fin (k0_t23_loop i).trips) : BitVec 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c128_i32_361 : BitVec 32 := 128#32
  let v651 : BitVec 32 := Scalar.muli arg27 c128_i32_361
  v651
def k0_mult188 (i : grid0.Coords) (k0_t23 : Fin (k0_t23_loop i).trips) : BitVec 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c128_i32_364 : BitVec 32 := 128#32
  let v659 : BitVec 32 := Scalar.muli arg27 c128_i32_364
  v659
def k0_mult189 (i : grid0.Coords) (k0_t23 : Fin (k0_t23_loop i).trips) : BitVec 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c512_i32_366 : BitVec 32 := 512#32
  let v665 : BitVec 32 := Scalar.muli arg27 c512_i32_366
  let c0_i32_367 : BitVec 32 := 0#32
  let v666 : BitVec 32 := Scalar.addi v665 c0_i32_367
  v666
def k0_off49 (i : grid0.Coords) (k0_t23 : Fin (k0_t23_loop i).trips) (c0_i32_367 : BitVec 32) : Fin 2 → Nat :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c512_i32_366 : BitVec 32 := 512#32
  let v665 : BitVec 32 := Scalar.muli arg27 c512_i32_366
  let v666 : BitVec 32 := Scalar.addi v665 c0_i32_367
  let v667 : BitVec 32 := v666
  let v668 : Index := Scalar.indexCast v667
  let c0_368 : Index := 0#32
  ![v668.toNat, 0]
def k0_mult190 (i : grid0.Coords) (k0_t23 : Fin (k0_t23_loop i).trips) : BitVec 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c512_i32_370 : BitVec 32 := 512#32
  let v674 : BitVec 32 := Scalar.muli arg27 c512_i32_370
  let c128_i32_371 : BitVec 32 := 128#32
  let v675 : BitVec 32 := Scalar.addi v674 c128_i32_371
  v675
def k0_mult191 (i : grid0.Coords) (k0_t23 : Fin (k0_t23_loop i).trips) : BitVec 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c512_i32_373 : BitVec 32 := 512#32
  let v684 : BitVec 32 := Scalar.muli arg27 c512_i32_373
  let c256_i32_374 : BitVec 32 := 256#32
  let v685 : BitVec 32 := Scalar.addi v684 c256_i32_374
  v685
def k0_mult192 (i : grid0.Coords) (k0_t23 : Fin (k0_t23_loop i).trips) : BitVec 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c512_i32_376 : BitVec 32 := 512#32
  let v694 : BitVec 32 := Scalar.muli arg27 c512_i32_376
  let c384_i32_377 : BitVec 32 := 384#32
  let v695 : BitVec 32 := Scalar.addi v694 c384_i32_377
  v695
def k0_mult193 (i : grid0.Coords) (k0_t23 : Fin (k0_t23_loop i).trips) : BitVec 32 :=
  let c0_i32_257 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v473 : BitVec 32 := Scalar.subi v208 c0_i32_257
  let c1_i32_258 : BitVec 32 := 1#32
  let v475 : BitVec 32 := Scalar.divsi v473 c1_i32_258
  let v476 : BitVec 32 := Scalar.muli v475 c1_i32_258
  let v477 : BitVec 32 := Scalar.addi c0_i32_257 v476
  let c1_i32_260 : BitVec 32 := 1#32
  let arg27 : BitVec 32 := Scf.iv v477 c1_i32_260 k0_t23
  let c128_i32_380 : BitVec 32 := 128#32
  let v707 : BitVec 32 := Scalar.muli arg27 c128_i32_380
  v707
@[reducible] def k0_t24_loop : Scf.Loop 32 :=
  let c0_i32_263 : BitVec 32 := 0#32
  let c4_i32_264 : BitVec 32 := 4#32
  let v480 : BitVec 32 := Scalar.addi c0_i32_263 c4_i32_264
  let c1_i32_265 : BitVec 32 := 1#32
  ⟨c0_i32_263, v480, c1_i32_265⟩
@[reducible] def k0_t25_loop (i : grid0.Coords) : Scf.Loop 32 :=
  let c0_i32_367 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_358 : BitVec 32 := 1#32
  let v643 : BitVec 32 := Scalar.addi v208 c1_i32_358
  let c0_i32_360 : BitVec 32 := 0#32
  let v645 : BitVec 1 := Scalar.cmpi .sgt v643 c0_i32_360
  let v646 : BitVec 32 := Scalar.extui v645
  let c0_i32_361 : BitVec 32 := 0#32
  let v647 : BitVec 1 := Scalar.cmpi .slt v643 c0_i32_361
  let v648 : BitVec 32 := Scalar.extui v647
  let v649 : BitVec 32 := Scalar.subi v646 v648
  let c2_i32_359 : BitVec 32 := 2#32
  let c0_i32_362 : BitVec 32 := 0#32
  let v650 : BitVec 1 := Scalar.cmpi .sgt c2_i32_359 c0_i32_362
  let v651 : BitVec 32 := Scalar.extui v650
  let c0_i32_363 : BitVec 32 := 0#32
  let v652 : BitVec 1 := Scalar.cmpi .slt c2_i32_359 c0_i32_363
  let v653 : BitVec 32 := Scalar.extui v652
  let v654 : BitVec 32 := Scalar.subi v651 v653
  let v655 : BitVec 1 := Scalar.cmpi .ne v649 v654
  let v656 : BitVec 32 := Scalar.remsi v643 c2_i32_359
  let c0_i32_364 : BitVec 32 := 0#32
  let v657 : BitVec 1 := Scalar.cmpi .ne v656 c0_i32_364
  let v658 : BitVec 1 := Scalar.andi v655 v657
  let v644 : BitVec 32 := Scalar.divsi v643 c2_i32_359
  let c1_i32_365 : BitVec 32 := 1#32
  let v659 : BitVec 32 := Scalar.subi v644 c1_i32_365
  let v660 : BitVec 32 := Scalar.select v658 v659 v644
  let v662 : BitVec 32 := Scalar.subi v660 c0_i32_367
  let c1_i32_368 : BitVec 32 := 1#32
  let v664 : BitVec 32 := Scalar.divsi v662 c1_i32_368
  let v665 : BitVec 32 := Scalar.muli v664 c1_i32_368
  let v666 : BitVec 32 := Scalar.addi c0_i32_367 v665
  let c1_i32_369 : BitVec 32 := 1#32
  ⟨c0_i32_367, v666, c1_i32_369⟩
def k0_mult194 (i : grid0.Coords) (k0_t25 : Fin (k0_t25_loop i).trips) : BitVec 32 :=
  let c0_i32_367 : BitVec 32 := 0#32
  let c1_i32_369 : BitVec 32 := 1#32
  let arg30 : BitVec 32 := Scf.iv c0_i32_367 c1_i32_369 k0_t25
  let c2_i32_372 : BitVec 32 := 2#32
  let v676 : BitVec 32 := Scalar.muli arg30 c2_i32_372
  let c128_i32_373 : BitVec 32 := 128#32
  let v677 : BitVec 32 := Scalar.muli v676 c128_i32_373
  v677
def k0_off50 (i : grid0.Coords) (k0_t25 : Fin (k0_t25_loop i).trips) : Fin 2 → Nat :=
  let c0_i32_367 : BitVec 32 := 0#32
  let c1_i32_369 : BitVec 32 := 1#32
  let arg30 : BitVec 32 := Scf.iv c0_i32_367 c1_i32_369 k0_t25
  let c2_i32_372 : BitVec 32 := 2#32
  let v676 : BitVec 32 := Scalar.muli arg30 c2_i32_372
  let c128_i32_373 : BitVec 32 := 128#32
  let v677 : BitVec 32 := Scalar.muli v676 c128_i32_373
  let v678 : BitVec 32 := v677
  let v679 : Index := Scalar.indexCast v678
  let c0_374 : Index := 0#32
  ![v679.toNat, 0]
@[reducible] def k0_t26_loop (i : grid0.Coords) : Scf.Loop 32 :=
  let c0_i32_367 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_358 : BitVec 32 := 1#32
  let v643 : BitVec 32 := Scalar.addi v208 c1_i32_358
  let c0_i32_360 : BitVec 32 := 0#32
  let v645 : BitVec 1 := Scalar.cmpi .sgt v643 c0_i32_360
  let v646 : BitVec 32 := Scalar.extui v645
  let c0_i32_361 : BitVec 32 := 0#32
  let v647 : BitVec 1 := Scalar.cmpi .slt v643 c0_i32_361
  let v648 : BitVec 32 := Scalar.extui v647
  let v649 : BitVec 32 := Scalar.subi v646 v648
  let c2_i32_359 : BitVec 32 := 2#32
  let c0_i32_362 : BitVec 32 := 0#32
  let v650 : BitVec 1 := Scalar.cmpi .sgt c2_i32_359 c0_i32_362
  let v651 : BitVec 32 := Scalar.extui v650
  let c0_i32_363 : BitVec 32 := 0#32
  let v652 : BitVec 1 := Scalar.cmpi .slt c2_i32_359 c0_i32_363
  let v653 : BitVec 32 := Scalar.extui v652
  let v654 : BitVec 32 := Scalar.subi v651 v653
  let v655 : BitVec 1 := Scalar.cmpi .ne v649 v654
  let v656 : BitVec 32 := Scalar.remsi v643 c2_i32_359
  let c0_i32_364 : BitVec 32 := 0#32
  let v657 : BitVec 1 := Scalar.cmpi .ne v656 c0_i32_364
  let v658 : BitVec 1 := Scalar.andi v655 v657
  let v644 : BitVec 32 := Scalar.divsi v643 c2_i32_359
  let c1_i32_365 : BitVec 32 := 1#32
  let v659 : BitVec 32 := Scalar.subi v644 c1_i32_365
  let v660 : BitVec 32 := Scalar.select v658 v659 v644
  let v662 : BitVec 32 := Scalar.subi v660 c0_i32_367
  let c1_i32_368 : BitVec 32 := 1#32
  let v664 : BitVec 32 := Scalar.divsi v662 c1_i32_368
  let v665 : BitVec 32 := Scalar.muli v664 c1_i32_368
  let v666 : BitVec 32 := Scalar.addi c0_i32_367 v665
  let v663 : BitVec 32 := Scalar.addi c0_i32_367 v662
  let c1_i32_370 : BitVec 32 := 1#32
  ⟨v666, v663, c1_i32_370⟩
def k0_mult195 (i : grid0.Coords) (k0_t26 : Fin (k0_t26_loop i).trips) : BitVec 32 :=
  let c0_i32_367 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_358 : BitVec 32 := 1#32
  let v643 : BitVec 32 := Scalar.addi v208 c1_i32_358
  let c0_i32_360 : BitVec 32 := 0#32
  let v645 : BitVec 1 := Scalar.cmpi .sgt v643 c0_i32_360
  let v646 : BitVec 32 := Scalar.extui v645
  let c0_i32_361 : BitVec 32 := 0#32
  let v647 : BitVec 1 := Scalar.cmpi .slt v643 c0_i32_361
  let v648 : BitVec 32 := Scalar.extui v647
  let v649 : BitVec 32 := Scalar.subi v646 v648
  let c2_i32_359 : BitVec 32 := 2#32
  let c0_i32_362 : BitVec 32 := 0#32
  let v650 : BitVec 1 := Scalar.cmpi .sgt c2_i32_359 c0_i32_362
  let v651 : BitVec 32 := Scalar.extui v650
  let c0_i32_363 : BitVec 32 := 0#32
  let v652 : BitVec 1 := Scalar.cmpi .slt c2_i32_359 c0_i32_363
  let v653 : BitVec 32 := Scalar.extui v652
  let v654 : BitVec 32 := Scalar.subi v651 v653
  let v655 : BitVec 1 := Scalar.cmpi .ne v649 v654
  let v656 : BitVec 32 := Scalar.remsi v643 c2_i32_359
  let c0_i32_364 : BitVec 32 := 0#32
  let v657 : BitVec 1 := Scalar.cmpi .ne v656 c0_i32_364
  let v658 : BitVec 1 := Scalar.andi v655 v657
  let v644 : BitVec 32 := Scalar.divsi v643 c2_i32_359
  let c1_i32_365 : BitVec 32 := 1#32
  let v659 : BitVec 32 := Scalar.subi v644 c1_i32_365
  let v660 : BitVec 32 := Scalar.select v658 v659 v644
  let v662 : BitVec 32 := Scalar.subi v660 c0_i32_367
  let c1_i32_368 : BitVec 32 := 1#32
  let v664 : BitVec 32 := Scalar.divsi v662 c1_i32_368
  let v665 : BitVec 32 := Scalar.muli v664 c1_i32_368
  let v666 : BitVec 32 := Scalar.addi c0_i32_367 v665
  let c1_i32_370 : BitVec 32 := 1#32
  let arg30 : BitVec 32 := Scf.iv v666 c1_i32_370 k0_t26
  let c2_i32_372 : BitVec 32 := 2#32
  let v676 : BitVec 32 := Scalar.muli arg30 c2_i32_372
  let c128_i32_373 : BitVec 32 := 128#32
  let v677 : BitVec 32 := Scalar.muli v676 c128_i32_373
  v677
def k0_off51 (i : grid0.Coords) (k0_t26 : Fin (k0_t26_loop i).trips) : Fin 2 → Nat :=
  let c0_i32_367 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c1_i32_358 : BitVec 32 := 1#32
  let v643 : BitVec 32 := Scalar.addi v208 c1_i32_358
  let c0_i32_360 : BitVec 32 := 0#32
  let v645 : BitVec 1 := Scalar.cmpi .sgt v643 c0_i32_360
  let v646 : BitVec 32 := Scalar.extui v645
  let c0_i32_361 : BitVec 32 := 0#32
  let v647 : BitVec 1 := Scalar.cmpi .slt v643 c0_i32_361
  let v648 : BitVec 32 := Scalar.extui v647
  let v649 : BitVec 32 := Scalar.subi v646 v648
  let c2_i32_359 : BitVec 32 := 2#32
  let c0_i32_362 : BitVec 32 := 0#32
  let v650 : BitVec 1 := Scalar.cmpi .sgt c2_i32_359 c0_i32_362
  let v651 : BitVec 32 := Scalar.extui v650
  let c0_i32_363 : BitVec 32 := 0#32
  let v652 : BitVec 1 := Scalar.cmpi .slt c2_i32_359 c0_i32_363
  let v653 : BitVec 32 := Scalar.extui v652
  let v654 : BitVec 32 := Scalar.subi v651 v653
  let v655 : BitVec 1 := Scalar.cmpi .ne v649 v654
  let v656 : BitVec 32 := Scalar.remsi v643 c2_i32_359
  let c0_i32_364 : BitVec 32 := 0#32
  let v657 : BitVec 1 := Scalar.cmpi .ne v656 c0_i32_364
  let v658 : BitVec 1 := Scalar.andi v655 v657
  let v644 : BitVec 32 := Scalar.divsi v643 c2_i32_359
  let c1_i32_365 : BitVec 32 := 1#32
  let v659 : BitVec 32 := Scalar.subi v644 c1_i32_365
  let v660 : BitVec 32 := Scalar.select v658 v659 v644
  let v662 : BitVec 32 := Scalar.subi v660 c0_i32_367
  let c1_i32_368 : BitVec 32 := 1#32
  let v664 : BitVec 32 := Scalar.divsi v662 c1_i32_368
  let v665 : BitVec 32 := Scalar.muli v664 c1_i32_368
  let v666 : BitVec 32 := Scalar.addi c0_i32_367 v665
  let c1_i32_370 : BitVec 32 := 1#32
  let arg30 : BitVec 32 := Scf.iv v666 c1_i32_370 k0_t26
  let c2_i32_372 : BitVec 32 := 2#32
  let v676 : BitVec 32 := Scalar.muli arg30 c2_i32_372
  let c128_i32_373 : BitVec 32 := 128#32
  let v677 : BitVec 32 := Scalar.muli v676 c128_i32_373
  let v678 : BitVec 32 := v677
  let v679 : Index := Scalar.indexCast v678
  let c0_374 : Index := 0#32
  ![v679.toNat, 0]
@[reducible] def k0_t27_loop (i : grid0.Coords) : Scf.Loop 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_279 : BitVec 32 := 1#32
  ⟨c0_i32_277, v517, c1_i32_279⟩
def k0_mult196 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c0_i32_357 : BitVec 32 := 0#32
  let v639 : BitVec 32 := Scalar.addi v638 c0_i32_357
  let c128_i32_358 : BitVec 32 := 128#32
  let v640 : BitVec 32 := Scalar.muli v639 c128_i32_358
  v640
def k0_off52 (i : grid0.Coords) (k0_t27 : Fin (k0_t27_loop i).trips) (c0_i32_357 : BitVec 32) : Fin 2 → Nat :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let v639 : BitVec 32 := Scalar.addi v638 c0_i32_357
  let c128_i32_358 : BitVec 32 := 128#32
  let v640 : BitVec 32 := Scalar.muli v639 c128_i32_358
  let v641 : BitVec 32 := v640
  let v642 : Index := Scalar.indexCast v641
  let c0_359 : Index := 0#32
  ![v642.toNat, 0]
def k0_mult197 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c1_i32_363 : BitVec 32 := 1#32
  let v651 : BitVec 32 := Scalar.addi v638 c1_i32_363
  let c128_i32_364 : BitVec 32 := 128#32
  let v652 : BitVec 32 := Scalar.muli v651 c128_i32_364
  v652
def k0_mult198 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c2_i32_369 : BitVec 32 := 2#32
  let v663 : BitVec 32 := Scalar.addi v638 c2_i32_369
  let c128_i32_370 : BitVec 32 := 128#32
  let v664 : BitVec 32 := Scalar.muli v663 c128_i32_370
  v664
def k0_mult199 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c3_i32_375 : BitVec 32 := 3#32
  let v675 : BitVec 32 := Scalar.addi v638 c3_i32_375
  let c128_i32_376 : BitVec 32 := 128#32
  let v676 : BitVec 32 := Scalar.muli v675 c128_i32_376
  v676
def k0_mult200 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c4_i32_381 : BitVec 32 := 4#32
  let v687 : BitVec 32 := Scalar.addi v638 c4_i32_381
  let c128_i32_382 : BitVec 32 := 128#32
  let v688 : BitVec 32 := Scalar.muli v687 c128_i32_382
  v688
def k0_mult201 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c5_i32 : BitVec 32 := 5#32
  let v699 : BitVec 32 := Scalar.addi v638 c5_i32
  let c128_i32_387 : BitVec 32 := 128#32
  let v700 : BitVec 32 := Scalar.muli v699 c128_i32_387
  v700
def k0_mult202 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c6_i32 : BitVec 32 := 6#32
  let v711 : BitVec 32 := Scalar.addi v638 c6_i32
  let c128_i32_392 : BitVec 32 := 128#32
  let v712 : BitVec 32 := Scalar.muli v711 c128_i32_392
  v712
def k0_mult203 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c7_i32_397 : BitVec 32 := 7#32
  let v723 : BitVec 32 := Scalar.addi v638 c7_i32_397
  let c128_i32_398 : BitVec 32 := 128#32
  let v724 : BitVec 32 := Scalar.muli v723 c128_i32_398
  v724
def k0_mult204 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c0_i32_404 : BitVec 32 := 0#32
  let v748 : BitVec 32 := Scalar.addi v638 c0_i32_404
  let c128_i32_405 : BitVec 32 := 128#32
  let v749 : BitVec 32 := Scalar.muli v748 c128_i32_405
  v749
def k0_mult205 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c1_i32_408 : BitVec 32 := 1#32
  let v770 : BitVec 32 := Scalar.addi v638 c1_i32_408
  let c128_i32_409 : BitVec 32 := 128#32
  let v771 : BitVec 32 := Scalar.muli v770 c128_i32_409
  v771
def k0_mult206 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c2_i32_412 : BitVec 32 := 2#32
  let v792 : BitVec 32 := Scalar.addi v638 c2_i32_412
  let c128_i32_413 : BitVec 32 := 128#32
  let v793 : BitVec 32 := Scalar.muli v792 c128_i32_413
  v793
def k0_mult207 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c3_i32_416 : BitVec 32 := 3#32
  let v814 : BitVec 32 := Scalar.addi v638 c3_i32_416
  let c128_i32_417 : BitVec 32 := 128#32
  let v815 : BitVec 32 := Scalar.muli v814 c128_i32_417
  v815
def k0_mult208 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c4_i32_420 : BitVec 32 := 4#32
  let v836 : BitVec 32 := Scalar.addi v638 c4_i32_420
  let c128_i32_421 : BitVec 32 := 128#32
  let v837 : BitVec 32 := Scalar.muli v836 c128_i32_421
  v837
def k0_mult209 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c5_i32_424 : BitVec 32 := 5#32
  let v858 : BitVec 32 := Scalar.addi v638 c5_i32_424
  let c128_i32_425 : BitVec 32 := 128#32
  let v859 : BitVec 32 := Scalar.muli v858 c128_i32_425
  v859
def k0_mult210 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c6_i32_428 : BitVec 32 := 6#32
  let v880 : BitVec 32 := Scalar.addi v638 c6_i32_428
  let c128_i32_429 : BitVec 32 := 128#32
  let v881 : BitVec 32 := Scalar.muli v880 c128_i32_429
  v881
def k0_mult211 (i : grid0.Coords) (k0_t27 : Fin (k0_t27_loop i).trips) : BitVec 32 :=
  let c0_i32_277 : BitVec 32 := 0#32
  let c1_i32_279 : BitVec 32 := 1#32
  let arg27 : BitVec 32 := Scf.iv c0_i32_277 c1_i32_279 k0_t27
  let c2_i32_355 : BitVec 32 := 2#32
  let v637 : BitVec 32 := Scalar.muli arg27 c2_i32_355
  let c4_i32_356 : BitVec 32 := 4#32
  let v638 : BitVec 32 := Scalar.muli v637 c4_i32_356
  let c7_i32_432 : BitVec 32 := 7#32
  let v902 : BitVec 32 := Scalar.addi v638 c7_i32_432
  let c128_i32_433 : BitVec 32 := 128#32
  let v903 : BitVec 32 := Scalar.muli v902 c128_i32_433
  v903
@[reducible] def k0_t28_loop (i : grid0.Coords) : Scf.Loop 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let v514 : BitVec 32 := Scalar.addi c0_i32_277 v513
  let c1_i32_280 : BitVec 32 := 1#32
  ⟨v517, v514, c1_i32_280⟩
def k0_mult212 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c0_i32_357 : BitVec 32 := 0#32
  let v639 : BitVec 32 := Scalar.addi v638 c0_i32_357
  let c128_i32_358 : BitVec 32 := 128#32
  let v640 : BitVec 32 := Scalar.muli v639 c128_i32_358
  v640
def k0_off53 (i : grid0.Coords) (k0_t28 : Fin (k0_t28_loop i).trips) (c0_i32_357 : BitVec 32) : Fin 2 → Nat :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let v639 : BitVec 32 := Scalar.addi v638 c0_i32_357
  let c128_i32_358 : BitVec 32 := 128#32
  let v640 : BitVec 32 := Scalar.muli v639 c128_i32_358
  let v641 : BitVec 32 := v640
  let v642 : Index := Scalar.indexCast v641
  let c0_359 : Index := 0#32
  ![v642.toNat, 0]
def k0_mult213 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c1_i32_363 : BitVec 32 := 1#32
  let v651 : BitVec 32 := Scalar.addi v638 c1_i32_363
  let c128_i32_364 : BitVec 32 := 128#32
  let v652 : BitVec 32 := Scalar.muli v651 c128_i32_364
  v652
def k0_mult214 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c2_i32_369 : BitVec 32 := 2#32
  let v663 : BitVec 32 := Scalar.addi v638 c2_i32_369
  let c128_i32_370 : BitVec 32 := 128#32
  let v664 : BitVec 32 := Scalar.muli v663 c128_i32_370
  v664
def k0_mult215 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c3_i32_375 : BitVec 32 := 3#32
  let v675 : BitVec 32 := Scalar.addi v638 c3_i32_375
  let c128_i32_376 : BitVec 32 := 128#32
  let v676 : BitVec 32 := Scalar.muli v675 c128_i32_376
  v676
def k0_mult216 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c4_i32_381 : BitVec 32 := 4#32
  let v687 : BitVec 32 := Scalar.addi v638 c4_i32_381
  let c128_i32_382 : BitVec 32 := 128#32
  let v688 : BitVec 32 := Scalar.muli v687 c128_i32_382
  v688
def k0_mult217 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c5_i32 : BitVec 32 := 5#32
  let v699 : BitVec 32 := Scalar.addi v638 c5_i32
  let c128_i32_387 : BitVec 32 := 128#32
  let v700 : BitVec 32 := Scalar.muli v699 c128_i32_387
  v700
def k0_mult218 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c6_i32 : BitVec 32 := 6#32
  let v711 : BitVec 32 := Scalar.addi v638 c6_i32
  let c128_i32_392 : BitVec 32 := 128#32
  let v712 : BitVec 32 := Scalar.muli v711 c128_i32_392
  v712
def k0_mult219 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c7_i32_397 : BitVec 32 := 7#32
  let v723 : BitVec 32 := Scalar.addi v638 c7_i32_397
  let c128_i32_398 : BitVec 32 := 128#32
  let v724 : BitVec 32 := Scalar.muli v723 c128_i32_398
  v724
def k0_mult220 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c0_i32_404 : BitVec 32 := 0#32
  let v748 : BitVec 32 := Scalar.addi v638 c0_i32_404
  let c128_i32_405 : BitVec 32 := 128#32
  let v749 : BitVec 32 := Scalar.muli v748 c128_i32_405
  v749
def k0_mult221 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c1_i32_408 : BitVec 32 := 1#32
  let v770 : BitVec 32 := Scalar.addi v638 c1_i32_408
  let c128_i32_409 : BitVec 32 := 128#32
  let v771 : BitVec 32 := Scalar.muli v770 c128_i32_409
  v771
def k0_mult222 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c2_i32_412 : BitVec 32 := 2#32
  let v792 : BitVec 32 := Scalar.addi v638 c2_i32_412
  let c128_i32_413 : BitVec 32 := 128#32
  let v793 : BitVec 32 := Scalar.muli v792 c128_i32_413
  v793
def k0_mult223 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c3_i32_416 : BitVec 32 := 3#32
  let v814 : BitVec 32 := Scalar.addi v638 c3_i32_416
  let c128_i32_417 : BitVec 32 := 128#32
  let v815 : BitVec 32 := Scalar.muli v814 c128_i32_417
  v815
def k0_mult224 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c4_i32_420 : BitVec 32 := 4#32
  let v836 : BitVec 32 := Scalar.addi v638 c4_i32_420
  let c128_i32_421 : BitVec 32 := 128#32
  let v837 : BitVec 32 := Scalar.muli v836 c128_i32_421
  v837
def k0_mult225 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c5_i32_424 : BitVec 32 := 5#32
  let v858 : BitVec 32 := Scalar.addi v638 c5_i32_424
  let c128_i32_425 : BitVec 32 := 128#32
  let v859 : BitVec 32 := Scalar.muli v858 c128_i32_425
  v859
def k0_mult226 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c6_i32_428 : BitVec 32 := 6#32
  let v880 : BitVec 32 := Scalar.addi v638 c6_i32_428
  let c128_i32_429 : BitVec 32 := 128#32
  let v881 : BitVec 32 := Scalar.muli v880 c128_i32_429
  v881
def k0_mult227 (i : grid0.Coords) (k0_t28 : Fin (k0_t28_loop i).trips) : BitVec 32 :=
  let c0_i32_277 : BitVec 32 := 0#32
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c0_i32_270 : BitVec 32 := 0#32
  let v496 : BitVec 1 := Scalar.cmpi .sgt v208 c0_i32_270
  let v497 : BitVec 32 := Scalar.extui v496
  let c0_i32_271 : BitVec 32 := 0#32
  let v498 : BitVec 1 := Scalar.cmpi .slt v208 c0_i32_271
  let v499 : BitVec 32 := Scalar.extui v498
  let v500 : BitVec 32 := Scalar.subi v497 v499
  let c2_i32_269 : BitVec 32 := 2#32
  let c0_i32_272 : BitVec 32 := 0#32
  let v501 : BitVec 1 := Scalar.cmpi .sgt c2_i32_269 c0_i32_272
  let v502 : BitVec 32 := Scalar.extui v501
  let c0_i32_273 : BitVec 32 := 0#32
  let v503 : BitVec 1 := Scalar.cmpi .slt c2_i32_269 c0_i32_273
  let v504 : BitVec 32 := Scalar.extui v503
  let v505 : BitVec 32 := Scalar.subi v502 v504
  let v506 : BitVec 1 := Scalar.cmpi .ne v500 v505
  let v507 : BitVec 32 := Scalar.remsi v208 c2_i32_269
  let c0_i32_274 : BitVec 32 := 0#32
  let v508 : BitVec 1 := Scalar.cmpi .ne v507 c0_i32_274
  let v509 : BitVec 1 := Scalar.andi v506 v508
  let v495 : BitVec 32 := Scalar.divsi v208 c2_i32_269
  let c1_i32_275 : BitVec 32 := 1#32
  let v510 : BitVec 32 := Scalar.subi v495 c1_i32_275
  let v511 : BitVec 32 := Scalar.select v509 v510 v495
  let v513 : BitVec 32 := Scalar.subi v511 c0_i32_277
  let c1_i32_278 : BitVec 32 := 1#32
  let v515 : BitVec 32 := Scalar.divsi v513 c1_i32_278
  let v516 : BitVec 32 := Scalar.muli v515 c1_i32_278
  let v517 : BitVec 32 := Scalar.addi c0_i32_277 v516
  let c1_i32_280 : BitVec 32 := 1#32
  let arg27 : BitVec 32 := Scf.iv v517 c1_i32_280 k0_t28
  let c2_i32_355 : BitVec 32 := 2#32
  let v637 : BitVec 32 := Scalar.muli arg27 c2_i32_355
  let c4_i32_356 : BitVec 32 := 4#32
  let v638 : BitVec 32 := Scalar.muli v637 c4_i32_356
  let c7_i32_432 : BitVec 32 := 7#32
  let v902 : BitVec 32 := Scalar.addi v638 c7_i32_432
  let c128_i32_433 : BitVec 32 := 128#32
  let v903 : BitVec 32 := Scalar.muli v902 c128_i32_433
  v903
def k0_cond6 (i : grid0.Coords) : BitVec 1 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let c2_i32_281 : BitVec 32 := 2#32
  let c0_i32_282 : BitVec 32 := 0#32
  let v520 : BitVec 1 := Scalar.cmpi .eq c2_i32_281 c0_i32_282
  let c1_i32_283 : BitVec 32 := 1#32
  let v521 : BitVec 32 := Scalar.select v520 c1_i32_283 c2_i32_281
  let v522 : BitVec 32 := Scalar.remsi v208 v521
  let c0_i32_285 : BitVec 32 := 0#32
  let v524 : BitVec 1 := Scalar.cmpi .slt v522 c0_i32_285
  let c0_i32_286 : BitVec 32 := 0#32
  let v525 : BitVec 1 := Scalar.cmpi .slt v521 c0_i32_286
  let v526 : BitVec 1 := Scalar.xori v524 v525
  let c0_i32_284 : BitVec 32 := 0#32
  let v523 : BitVec 1 := Scalar.cmpi .ne v522 c0_i32_284
  let v527 : BitVec 1 := Scalar.andi v526 v523
  let v528 : BitVec 32 := Scalar.addi v522 v521
  let v529 : BitVec 32 := Scalar.select v527 v528 v522
  let c1_i32_287 : BitVec 32 := 1#32
  let v530 : BitVec 1 := Scalar.cmpi .eq v529 c1_i32_287
  let v531 : BitVec 32 := Scalar.extui v530
  let c0_i32_288 : BitVec 32 := 0#32
  let v532 : BitVec 1 := Scalar.cmpi .ne v531 c0_i32_288
  v532

def k0_mult228 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_355 : BitVec 32 := 4#32
  let v637 : BitVec 32 := Scalar.muli v207 c4_i32_355
  let c0_i32_356 : BitVec 32 := 0#32
  let v638 : BitVec 32 := Scalar.addi v637 c0_i32_356
  let c128_i32_357 : BitVec 32 := 128#32
  let v639 : BitVec 32 := Scalar.muli v638 c128_i32_357
  v639
def k0_off54 (i : grid0.Coords) (c0_i32_356 : BitVec 32) : Fin 2 → Nat :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_355 : BitVec 32 := 4#32
  let v637 : BitVec 32 := Scalar.muli v207 c4_i32_355
  let v638 : BitVec 32 := Scalar.addi v637 c0_i32_356
  let c128_i32_357 : BitVec 32 := 128#32
  let v639 : BitVec 32 := Scalar.muli v638 c128_i32_357
  let v640 : BitVec 32 := v639
  let v641 : Index := Scalar.indexCast v640
  let c0_358 : Index := 0#32
  ![v641.toNat, 0]
def k0_mult229 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_355 : BitVec 32 := 4#32
  let v637 : BitVec 32 := Scalar.muli v207 c4_i32_355
  let c1_i32_362 : BitVec 32 := 1#32
  let v650 : BitVec 32 := Scalar.addi v637 c1_i32_362
  let c128_i32_363 : BitVec 32 := 128#32
  let v651 : BitVec 32 := Scalar.muli v650 c128_i32_363
  v651
def k0_mult230 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_355 : BitVec 32 := 4#32
  let v637 : BitVec 32 := Scalar.muli v207 c4_i32_355
  let c2_i32_368 : BitVec 32 := 2#32
  let v662 : BitVec 32 := Scalar.addi v637 c2_i32_368
  let c128_i32_369 : BitVec 32 := 128#32
  let v663 : BitVec 32 := Scalar.muli v662 c128_i32_369
  v663
def k0_mult231 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_355 : BitVec 32 := 4#32
  let v637 : BitVec 32 := Scalar.muli v207 c4_i32_355
  let c3_i32_374 : BitVec 32 := 3#32
  let v674 : BitVec 32 := Scalar.addi v637 c3_i32_374
  let c128_i32_375 : BitVec 32 := 128#32
  let v675 : BitVec 32 := Scalar.muli v674 c128_i32_375
  v675
def k0_mult232 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_355 : BitVec 32 := 4#32
  let v637 : BitVec 32 := Scalar.muli v207 c4_i32_355
  let c0_i32_381 : BitVec 32 := 0#32
  let v699 : BitVec 32 := Scalar.addi v637 c0_i32_381
  let c128_i32_382 : BitVec 32 := 128#32
  let v700 : BitVec 32 := Scalar.muli v699 c128_i32_382
  v700
def k0_mult233 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_355 : BitVec 32 := 4#32
  let v637 : BitVec 32 := Scalar.muli v207 c4_i32_355
  let c1_i32_385 : BitVec 32 := 1#32
  let v721 : BitVec 32 := Scalar.addi v637 c1_i32_385
  let c128_i32_386 : BitVec 32 := 128#32
  let v722 : BitVec 32 := Scalar.muli v721 c128_i32_386
  v722
def k0_mult234 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_355 : BitVec 32 := 4#32
  let v637 : BitVec 32 := Scalar.muli v207 c4_i32_355
  let c2_i32_389 : BitVec 32 := 2#32
  let v743 : BitVec 32 := Scalar.addi v637 c2_i32_389
  let c128_i32_390 : BitVec 32 := 128#32
  let v744 : BitVec 32 := Scalar.muli v743 c128_i32_390
  v744
def k0_mult235 (i : grid0.Coords) : BitVec 32 :=
  let arg1 : BitVec 32 := BitVec.ofNat 32 (i 1).val
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c4_i32_355 : BitVec 32 := 4#32
  let v637 : BitVec 32 := Scalar.muli v207 c4_i32_355
  let c3_i32_393 : BitVec 32 := 3#32
  let v765 : BitVec 32 := Scalar.addi v637 c3_i32_393
  let c128_i32_394 : BitVec 32 := 128#32
  let v766 : BitVec 32 := Scalar.muli v765 c128_i32_394
  v766
def k0_mult236 (i : grid0.Coords) : BitVec 32 :=
  let arg1 : BitVec 32 := BitVec.ofNat 32 (i 1).val
  let c128_i32_289 : BitVec 32 := 128#32
  let v533 : BitVec 32 := Scalar.muli arg1 c128_i32_289
  v533
def k0_off55 (i : grid0.Coords) : Fin 2 → Nat :=
  let arg1 : BitVec 32 := BitVec.ofNat 32 (i 1).val
  let c128_i32_289 : BitVec 32 := 128#32
  let v533 : BitVec 32 := Scalar.muli arg1 c128_i32_289
  let v534 : BitVec 32 := v533
  let v535 : Index := Scalar.indexCast v534
  let c0_290 : Index := 0#32
  ![v535.toNat, 0]
def k0_cond7 (i : grid0.Coords) : BitVec 1 :=
  let arg1 : BitVec 32 := BitVec.ofNat 32 (i 1).val
  let c1_i32_296 : BitVec 32 := 1#32
  let v545 : BitVec 1 := Scalar.cmpi .sge arg1 c1_i32_296
  let v546 : BitVec 32 := Scalar.extui v545
  let c0_i32_297 : BitVec 32 := 0#32
  let v547 : BitVec 1 := Scalar.cmpi .ne v546 c0_i32_297
  v547

def k0_mult237 (i : grid0.Coords) : BitVec 32 :=
  let arg1 : BitVec 32 := BitVec.ofNat 32 (i 1).val
  let c1_i32_355 : BitVec 32 := 1#32
  let v637 : BitVec 32 := Scalar.subi arg1 c1_i32_355
  let c128_i32_356 : BitVec 32 := 128#32
  let v638 : BitVec 32 := Scalar.muli v637 c128_i32_356
  v638
def k0_off56 (i : grid0.Coords) : Fin 2 → Nat :=
  let arg1 : BitVec 32 := BitVec.ofNat 32 (i 1).val
  let c1_i32_355 : BitVec 32 := 1#32
  let v637 : BitVec 32 := Scalar.subi arg1 c1_i32_355
  let c128_i32_356 : BitVec 32 := 128#32
  let v638 : BitVec 32 := Scalar.muli v637 c128_i32_356
  let v639 : BitVec 32 := v638
  let v640 : Index := Scalar.indexCast v639
  let c0_357 : Index := 0#32
  ![v640.toNat, 0]
@[reducible] def k0_t29_loop (i : grid0.Coords) : Scf.Loop 32 :=
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_365 : BitVec 32 := 1#32
  ⟨c0_i32_363, v658, c1_i32_365⟩
def k0_mult238 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c0_i32_457 : BitVec 32 := 0#32
  let v766 : BitVec 32 := Scalar.addi v765 c0_i32_457
  let c512_i32_465 : BitVec 32 := 512#32
  let v774 : BitVec 32 := Scalar.muli v766 c512_i32_465
  v774
def k0_off57 (i : grid0.Coords) (k0_t29 : Fin (k0_t29_loop i).trips) (c0_i32_457 : BitVec 32) : Fin 3 → Nat :=
  let c0_466 : Index := 0#32
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let v766 : BitVec 32 := Scalar.addi v765 c0_i32_457
  let c512_i32_465 : BitVec 32 := 512#32
  let v774 : BitVec 32 := Scalar.muli v766 c512_i32_465
  let v775 : BitVec 32 := v774
  let v776 : Index := Scalar.indexCast v775
  let c0_467 : Index := 0#32
  ![0, v776.toNat, 0]
def k0_mult239 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c0_i32_457 : BitVec 32 := 0#32
  let v766 : BitVec 32 := Scalar.addi v765 c0_i32_457
  let c512_i32_468 : BitVec 32 := 512#32
  let v779 : BitVec 32 := Scalar.muli v766 c512_i32_468
  v779
def k0_off58 (i : grid0.Coords) (k0_t29 : Fin (k0_t29_loop i).trips) (c0_i32_457 : BitVec 32) : Fin 2 → Nat :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let v766 : BitVec 32 := Scalar.addi v765 c0_i32_457
  let c512_i32_468 : BitVec 32 := 512#32
  let v779 : BitVec 32 := Scalar.muli v766 c512_i32_468
  let v780 : BitVec 32 := v779
  let v781 : Index := Scalar.indexCast v780
  let c0_469 : Index := 0#32
  ![v781.toNat, 0]
def k0_mult240 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c0_i32_458 : BitVec 32 := 0#32
  let v767 : BitVec 32 := Scalar.addi v765 c0_i32_458
  let c512_i32_474 : BitVec 32 := 512#32
  let v787 : BitVec 32 := Scalar.muli v767 c512_i32_474
  v787
def k0_off59 (i : grid0.Coords) (k0_t29 : Fin (k0_t29_loop i).trips) (c0_i32_458 : BitVec 32) : Fin 3 → Nat :=
  let c0_475 : Index := 0#32
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let v767 : BitVec 32 := Scalar.addi v765 c0_i32_458
  let c512_i32_474 : BitVec 32 := 512#32
  let v787 : BitVec 32 := Scalar.muli v767 c512_i32_474
  let v788 : BitVec 32 := v787
  let v789 : Index := Scalar.indexCast v788
  let c128_476 : Index := 128#32
  ![0, v789.toNat, 128]
def k0_mult241 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c0_i32_458 : BitVec 32 := 0#32
  let v767 : BitVec 32 := Scalar.addi v765 c0_i32_458
  let c512_i32_477 : BitVec 32 := 512#32
  let v792 : BitVec 32 := Scalar.muli v767 c512_i32_477
  v792
def k0_mult242 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c1_i32_459 : BitVec 32 := 1#32
  let v768 : BitVec 32 := Scalar.addi v765 c1_i32_459
  let c512_i32_483 : BitVec 32 := 512#32
  let v800 : BitVec 32 := Scalar.muli v768 c512_i32_483
  v800
def k0_mult243 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c1_i32_459 : BitVec 32 := 1#32
  let v768 : BitVec 32 := Scalar.addi v765 c1_i32_459
  let c512_i32_486 : BitVec 32 := 512#32
  let v805 : BitVec 32 := Scalar.muli v768 c512_i32_486
  v805
def k0_mult244 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c1_i32_460 : BitVec 32 := 1#32
  let v769 : BitVec 32 := Scalar.addi v765 c1_i32_460
  let c512_i32_492 : BitVec 32 := 512#32
  let v813 : BitVec 32 := Scalar.muli v769 c512_i32_492
  v813
def k0_mult245 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c1_i32_460 : BitVec 32 := 1#32
  let v769 : BitVec 32 := Scalar.addi v765 c1_i32_460
  let c512_i32_495 : BitVec 32 := 512#32
  let v818 : BitVec 32 := Scalar.muli v769 c512_i32_495
  v818
def k0_mult246 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c2_i32_461 : BitVec 32 := 2#32
  let v770 : BitVec 32 := Scalar.addi v765 c2_i32_461
  let c512_i32_501 : BitVec 32 := 512#32
  let v826 : BitVec 32 := Scalar.muli v770 c512_i32_501
  v826
def k0_mult247 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c2_i32_461 : BitVec 32 := 2#32
  let v770 : BitVec 32 := Scalar.addi v765 c2_i32_461
  let c512_i32_504 : BitVec 32 := 512#32
  let v831 : BitVec 32 := Scalar.muli v770 c512_i32_504
  v831
def k0_mult248 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c2_i32_462 : BitVec 32 := 2#32
  let v771 : BitVec 32 := Scalar.addi v765 c2_i32_462
  let c512_i32_510 : BitVec 32 := 512#32
  let v839 : BitVec 32 := Scalar.muli v771 c512_i32_510
  v839
def k0_mult249 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c2_i32_462 : BitVec 32 := 2#32
  let v771 : BitVec 32 := Scalar.addi v765 c2_i32_462
  let c512_i32_513 : BitVec 32 := 512#32
  let v844 : BitVec 32 := Scalar.muli v771 c512_i32_513
  v844
def k0_mult250 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c3_i32_463 : BitVec 32 := 3#32
  let v772 : BitVec 32 := Scalar.addi v765 c3_i32_463
  let c512_i32_519 : BitVec 32 := 512#32
  let v852 : BitVec 32 := Scalar.muli v772 c512_i32_519
  v852
def k0_mult251 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c3_i32_463 : BitVec 32 := 3#32
  let v772 : BitVec 32 := Scalar.addi v765 c3_i32_463
  let c512_i32_522 : BitVec 32 := 512#32
  let v857 : BitVec 32 := Scalar.muli v772 c512_i32_522
  v857
def k0_mult252 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c3_i32_464 : BitVec 32 := 3#32
  let v773 : BitVec 32 := Scalar.addi v765 c3_i32_464
  let c512_i32_528 : BitVec 32 := 512#32
  let v865 : BitVec 32 := Scalar.muli v773 c512_i32_528
  v865
def k0_mult253 (i : grid0.Coords) (k0_t29 : Fin (k0_t29_loop i).trips) : BitVec 32 :=
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let c3_i32_464 : BitVec 32 := 3#32
  let v773 : BitVec 32 := Scalar.addi v765 c3_i32_464
  let c512_i32_531 : BitVec 32 := 512#32
  let v870 : BitVec 32 := Scalar.muli v773 c512_i32_531
  v870
def k0_off60 (i : grid0.Coords) (k0_t29 : Fin (k0_t29_loop i).trips) (c0_i32_457 : BitVec 32) : Fin 4 → Nat :=
  let c0_537 : Index := 0#32
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let v766 : BitVec 32 := Scalar.addi v765 c0_i32_457
  let v878 : Index := Scalar.indexCast v766
  let c0_538 : Index := 0#32
  let c0_539 : Index := 0#32
  ![0, v878.toNat, 0, 0]
def k0_off61 (i : grid0.Coords) (k0_t29 : Fin (k0_t29_loop i).trips) (c0_i32_458 : BitVec 32) : Fin 4 → Nat :=
  let c0_554 : Index := 0#32
  let c4_i32_456 : BitVec 32 := 4#32
  let c0_i32_363 : BitVec 32 := 0#32
  let c1_i32_365 : BitVec 32 := 1#32
  let arg27 : BitVec 32 := Scf.iv c0_i32_363 c1_i32_365 k0_t29
  let v765 : BitVec 32 := Scalar.muli c4_i32_456 arg27
  let v767 : BitVec 32 := Scalar.addi v765 c0_i32_458
  let v898 : Index := Scalar.indexCast v767
  let c128_555 : Index := 128#32
  let c0_556 : Index := 0#32
  ![0, v898.toNat, 128, 0]
@[reducible] def k0_t30_loop (i : grid0.Coords) : Scf.Loop 32 :=
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let v655 : BitVec 32 := Scalar.addi c0_i32_363 v654
  let c1_i32_366 : BitVec 32 := 1#32
  ⟨v658, v655, c1_i32_366⟩
def k0_mult254 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c0_i32_457 : BitVec 32 := 0#32
  let v766 : BitVec 32 := Scalar.addi v765 c0_i32_457
  let c512_i32_465 : BitVec 32 := 512#32
  let v774 : BitVec 32 := Scalar.muli v766 c512_i32_465
  v774
def k0_off62 (i : grid0.Coords) (k0_t30 : Fin (k0_t30_loop i).trips) (c0_i32_457 : BitVec 32) : Fin 3 → Nat :=
  let c0_466 : Index := 0#32
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let v766 : BitVec 32 := Scalar.addi v765 c0_i32_457
  let c512_i32_465 : BitVec 32 := 512#32
  let v774 : BitVec 32 := Scalar.muli v766 c512_i32_465
  let v775 : BitVec 32 := v774
  let v776 : Index := Scalar.indexCast v775
  let c0_467 : Index := 0#32
  ![0, v776.toNat, 0]
def k0_mult255 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c0_i32_457 : BitVec 32 := 0#32
  let v766 : BitVec 32 := Scalar.addi v765 c0_i32_457
  let c512_i32_468 : BitVec 32 := 512#32
  let v779 : BitVec 32 := Scalar.muli v766 c512_i32_468
  v779
def k0_off63 (i : grid0.Coords) (k0_t30 : Fin (k0_t30_loop i).trips) (c0_i32_457 : BitVec 32) : Fin 2 → Nat :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let v766 : BitVec 32 := Scalar.addi v765 c0_i32_457
  let c512_i32_468 : BitVec 32 := 512#32
  let v779 : BitVec 32 := Scalar.muli v766 c512_i32_468
  let v780 : BitVec 32 := v779
  let v781 : Index := Scalar.indexCast v780
  let c0_469 : Index := 0#32
  ![v781.toNat, 0]
def k0_mult256 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c0_i32_458 : BitVec 32 := 0#32
  let v767 : BitVec 32 := Scalar.addi v765 c0_i32_458
  let c512_i32_474 : BitVec 32 := 512#32
  let v787 : BitVec 32 := Scalar.muli v767 c512_i32_474
  v787
def k0_off64 (i : grid0.Coords) (k0_t30 : Fin (k0_t30_loop i).trips) (c0_i32_458 : BitVec 32) : Fin 3 → Nat :=
  let c0_475 : Index := 0#32
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let v767 : BitVec 32 := Scalar.addi v765 c0_i32_458
  let c512_i32_474 : BitVec 32 := 512#32
  let v787 : BitVec 32 := Scalar.muli v767 c512_i32_474
  let v788 : BitVec 32 := v787
  let v789 : Index := Scalar.indexCast v788
  let c128_476 : Index := 128#32
  ![0, v789.toNat, 128]
def k0_mult257 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c0_i32_458 : BitVec 32 := 0#32
  let v767 : BitVec 32 := Scalar.addi v765 c0_i32_458
  let c512_i32_477 : BitVec 32 := 512#32
  let v792 : BitVec 32 := Scalar.muli v767 c512_i32_477
  v792
def k0_mult258 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c1_i32_459 : BitVec 32 := 1#32
  let v768 : BitVec 32 := Scalar.addi v765 c1_i32_459
  let c512_i32_483 : BitVec 32 := 512#32
  let v800 : BitVec 32 := Scalar.muli v768 c512_i32_483
  v800
def k0_mult259 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c1_i32_459 : BitVec 32 := 1#32
  let v768 : BitVec 32 := Scalar.addi v765 c1_i32_459
  let c512_i32_486 : BitVec 32 := 512#32
  let v805 : BitVec 32 := Scalar.muli v768 c512_i32_486
  v805
def k0_mult260 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c1_i32_460 : BitVec 32 := 1#32
  let v769 : BitVec 32 := Scalar.addi v765 c1_i32_460
  let c512_i32_492 : BitVec 32 := 512#32
  let v813 : BitVec 32 := Scalar.muli v769 c512_i32_492
  v813
def k0_mult261 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c1_i32_460 : BitVec 32 := 1#32
  let v769 : BitVec 32 := Scalar.addi v765 c1_i32_460
  let c512_i32_495 : BitVec 32 := 512#32
  let v818 : BitVec 32 := Scalar.muli v769 c512_i32_495
  v818
def k0_mult262 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c2_i32_461 : BitVec 32 := 2#32
  let v770 : BitVec 32 := Scalar.addi v765 c2_i32_461
  let c512_i32_501 : BitVec 32 := 512#32
  let v826 : BitVec 32 := Scalar.muli v770 c512_i32_501
  v826
def k0_mult263 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c2_i32_461 : BitVec 32 := 2#32
  let v770 : BitVec 32 := Scalar.addi v765 c2_i32_461
  let c512_i32_504 : BitVec 32 := 512#32
  let v831 : BitVec 32 := Scalar.muli v770 c512_i32_504
  v831
def k0_mult264 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c2_i32_462 : BitVec 32 := 2#32
  let v771 : BitVec 32 := Scalar.addi v765 c2_i32_462
  let c512_i32_510 : BitVec 32 := 512#32
  let v839 : BitVec 32 := Scalar.muli v771 c512_i32_510
  v839
def k0_mult265 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c2_i32_462 : BitVec 32 := 2#32
  let v771 : BitVec 32 := Scalar.addi v765 c2_i32_462
  let c512_i32_513 : BitVec 32 := 512#32
  let v844 : BitVec 32 := Scalar.muli v771 c512_i32_513
  v844
def k0_mult266 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c3_i32_463 : BitVec 32 := 3#32
  let v772 : BitVec 32 := Scalar.addi v765 c3_i32_463
  let c512_i32_519 : BitVec 32 := 512#32
  let v852 : BitVec 32 := Scalar.muli v772 c512_i32_519
  v852
def k0_mult267 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c3_i32_463 : BitVec 32 := 3#32
  let v772 : BitVec 32 := Scalar.addi v765 c3_i32_463
  let c512_i32_522 : BitVec 32 := 512#32
  let v857 : BitVec 32 := Scalar.muli v772 c512_i32_522
  v857
def k0_mult268 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c3_i32_464 : BitVec 32 := 3#32
  let v773 : BitVec 32 := Scalar.addi v765 c3_i32_464
  let c512_i32_528 : BitVec 32 := 512#32
  let v865 : BitVec 32 := Scalar.muli v773 c512_i32_528
  v865
def k0_mult269 (i : grid0.Coords) (k0_t30 : Fin (k0_t30_loop i).trips) : BitVec 32 :=
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let c3_i32_464 : BitVec 32 := 3#32
  let v773 : BitVec 32 := Scalar.addi v765 c3_i32_464
  let c512_i32_531 : BitVec 32 := 512#32
  let v870 : BitVec 32 := Scalar.muli v773 c512_i32_531
  v870
def k0_off65 (i : grid0.Coords) (k0_t30 : Fin (k0_t30_loop i).trips) (c0_i32_457 : BitVec 32) : Fin 4 → Nat :=
  let c0_537 : Index := 0#32
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let v766 : BitVec 32 := Scalar.addi v765 c0_i32_457
  let v878 : Index := Scalar.indexCast v766
  let c0_538 : Index := 0#32
  let c0_539 : Index := 0#32
  ![0, v878.toNat, 0, 0]
def k0_off66 (i : grid0.Coords) (k0_t30 : Fin (k0_t30_loop i).trips) (c0_i32_458 : BitVec 32) : Fin 4 → Nat :=
  let c0_554 : Index := 0#32
  let c4_i32_456 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t30
  let v765 : BitVec 32 := Scalar.muli c4_i32_456 arg27
  let v767 : BitVec 32 := Scalar.addi v765 c0_i32_458
  let v898 : Index := Scalar.indexCast v767
  let c128_555 : Index := 128#32
  let c0_556 : Index := 0#32
  ![0, v898.toNat, 128, 0]
def k0_cond9 (i : grid0.Coords) : BitVec 1 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c4_i32_367 : BitVec 32 := 4#32
  let c0_i32_368 : BitVec 32 := 0#32
  let v659 : BitVec 1 := Scalar.cmpi .eq c4_i32_367 c0_i32_368
  let c1_i32_369 : BitVec 32 := 1#32
  let v660 : BitVec 32 := Scalar.select v659 c1_i32_369 c4_i32_367
  let v661 : BitVec 32 := Scalar.remsi v571 v660
  let c0_i32_371 : BitVec 32 := 0#32
  let v663 : BitVec 1 := Scalar.cmpi .slt v661 c0_i32_371
  let c0_i32_372 : BitVec 32 := 0#32
  let v664 : BitVec 1 := Scalar.cmpi .slt v660 c0_i32_372
  let v665 : BitVec 1 := Scalar.xori v663 v664
  let c0_i32_370 : BitVec 32 := 0#32
  let v662 : BitVec 1 := Scalar.cmpi .ne v661 c0_i32_370
  let v666 : BitVec 1 := Scalar.andi v665 v662
  let v667 : BitVec 32 := Scalar.addi v661 v660
  let v668 : BitVec 32 := Scalar.select v666 v667 v661
  let c1_i32_373 : BitVec 32 := 1#32
  let v669 : BitVec 1 := Scalar.cmpi .eq v668 c1_i32_373
  let v670 : BitVec 32 := Scalar.extui v669
  let c0_i32_374 : BitVec 32 := 0#32
  let v671 : BitVec 1 := Scalar.cmpi .ne v670 c0_i32_374
  v671

def k0_mult270 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_456 : BitVec 32 := 1#32
  let v765 : BitVec 32 := Scalar.subi v571 c1_i32_456
  let c0_i32_457 : BitVec 32 := 0#32
  let v766 : BitVec 32 := Scalar.addi v765 c0_i32_457
  let c512_i32_459 : BitVec 32 := 512#32
  let v768 : BitVec 32 := Scalar.muli v766 c512_i32_459
  v768
def k0_off67 (i : grid0.Coords) : Fin 3 → Nat :=
  let c0_460 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_456 : BitVec 32 := 1#32
  let v765 : BitVec 32 := Scalar.subi v571 c1_i32_456
  let c0_i32_457 : BitVec 32 := 0#32
  let v766 : BitVec 32 := Scalar.addi v765 c0_i32_457
  let c512_i32_459 : BitVec 32 := 512#32
  let v768 : BitVec 32 := Scalar.muli v766 c512_i32_459
  let v769 : BitVec 32 := v768
  let v770 : Index := Scalar.indexCast v769
  let c0_461 : Index := 0#32
  ![0, v770.toNat, 0]
def k0_mult271 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_456 : BitVec 32 := 1#32
  let v765 : BitVec 32 := Scalar.subi v571 c1_i32_456
  let c0_i32_457 : BitVec 32 := 0#32
  let v766 : BitVec 32 := Scalar.addi v765 c0_i32_457
  let c512_i32_462 : BitVec 32 := 512#32
  let v773 : BitVec 32 := Scalar.muli v766 c512_i32_462
  v773
def k0_off68 (i : grid0.Coords) : Fin 2 → Nat :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_456 : BitVec 32 := 1#32
  let v765 : BitVec 32 := Scalar.subi v571 c1_i32_456
  let c0_i32_457 : BitVec 32 := 0#32
  let v766 : BitVec 32 := Scalar.addi v765 c0_i32_457
  let c512_i32_462 : BitVec 32 := 512#32
  let v773 : BitVec 32 := Scalar.muli v766 c512_i32_462
  let v774 : BitVec 32 := v773
  let v775 : Index := Scalar.indexCast v774
  let c0_463 : Index := 0#32
  ![v775.toNat, 0]
def k0_mult272 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_456 : BitVec 32 := 1#32
  let v765 : BitVec 32 := Scalar.subi v571 c1_i32_456
  let c0_i32_458 : BitVec 32 := 0#32
  let v767 : BitVec 32 := Scalar.addi v765 c0_i32_458
  let c512_i32_468 : BitVec 32 := 512#32
  let v781 : BitVec 32 := Scalar.muli v767 c512_i32_468
  v781
def k0_off69 (i : grid0.Coords) : Fin 3 → Nat :=
  let c0_469 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_456 : BitVec 32 := 1#32
  let v765 : BitVec 32 := Scalar.subi v571 c1_i32_456
  let c0_i32_458 : BitVec 32 := 0#32
  let v767 : BitVec 32 := Scalar.addi v765 c0_i32_458
  let c512_i32_468 : BitVec 32 := 512#32
  let v781 : BitVec 32 := Scalar.muli v767 c512_i32_468
  let v782 : BitVec 32 := v781
  let v783 : Index := Scalar.indexCast v782
  let c128_470 : Index := 128#32
  ![0, v783.toNat, 128]
def k0_mult273 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_456 : BitVec 32 := 1#32
  let v765 : BitVec 32 := Scalar.subi v571 c1_i32_456
  let c0_i32_458 : BitVec 32 := 0#32
  let v767 : BitVec 32 := Scalar.addi v765 c0_i32_458
  let c512_i32_471 : BitVec 32 := 512#32
  let v786 : BitVec 32 := Scalar.muli v767 c512_i32_471
  v786
def k0_off70 (i : grid0.Coords) : Fin 4 → Nat :=
  let c0_477 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_456 : BitVec 32 := 1#32
  let v765 : BitVec 32 := Scalar.subi v571 c1_i32_456
  let c0_i32_457 : BitVec 32 := 0#32
  let v766 : BitVec 32 := Scalar.addi v765 c0_i32_457
  let v794 : Index := Scalar.indexCast v766
  let c0_478 : Index := 0#32
  let c0_479 : Index := 0#32
  ![0, v794.toNat, 0, 0]
def k0_off71 (i : grid0.Coords) : Fin 4 → Nat :=
  let c0_494 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_456 : BitVec 32 := 1#32
  let v765 : BitVec 32 := Scalar.subi v571 c1_i32_456
  let c0_i32_458 : BitVec 32 := 0#32
  let v767 : BitVec 32 := Scalar.addi v765 c0_i32_458
  let v814 : Index := Scalar.indexCast v767
  let c128_495 : Index := 128#32
  let c0_496 : Index := 0#32
  ![0, v814.toNat, 128, 0]
def k0_cond10 (i : grid0.Coords) : BitVec 1 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c4_i32_375 : BitVec 32 := 4#32
  let c0_i32_376 : BitVec 32 := 0#32
  let v672 : BitVec 1 := Scalar.cmpi .eq c4_i32_375 c0_i32_376
  let c1_i32_377 : BitVec 32 := 1#32
  let v673 : BitVec 32 := Scalar.select v672 c1_i32_377 c4_i32_375
  let v674 : BitVec 32 := Scalar.remsi v571 v673
  let c0_i32_379 : BitVec 32 := 0#32
  let v676 : BitVec 1 := Scalar.cmpi .slt v674 c0_i32_379
  let c0_i32_380 : BitVec 32 := 0#32
  let v677 : BitVec 1 := Scalar.cmpi .slt v673 c0_i32_380
  let v678 : BitVec 1 := Scalar.xori v676 v677
  let c0_i32_378 : BitVec 32 := 0#32
  let v675 : BitVec 1 := Scalar.cmpi .ne v674 c0_i32_378
  let v679 : BitVec 1 := Scalar.andi v678 v675
  let v680 : BitVec 32 := Scalar.addi v674 v673
  let v681 : BitVec 32 := Scalar.select v679 v680 v674
  let c2_i32_381 : BitVec 32 := 2#32
  let v682 : BitVec 1 := Scalar.cmpi .eq v681 c2_i32_381
  let v683 : BitVec 32 := Scalar.extui v682
  let c0_i32_382 : BitVec 32 := 0#32
  let v684 : BitVec 1 := Scalar.cmpi .ne v683 c0_i32_382
  v684

def k0_mult274 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let c0_i32_457 : BitVec 32 := 0#32
  let v766 : BitVec 32 := Scalar.addi v765 c0_i32_457
  let c512_i32_461 : BitVec 32 := 512#32
  let v770 : BitVec 32 := Scalar.muli v766 c512_i32_461
  v770
def k0_off72 (i : grid0.Coords) (c0_i32_457 : BitVec 32) : Fin 3 → Nat :=
  let c0_462 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let v766 : BitVec 32 := Scalar.addi v765 c0_i32_457
  let c512_i32_461 : BitVec 32 := 512#32
  let v770 : BitVec 32 := Scalar.muli v766 c512_i32_461
  let v771 : BitVec 32 := v770
  let v772 : Index := Scalar.indexCast v771
  let c0_463 : Index := 0#32
  ![0, v772.toNat, 0]
def k0_mult275 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let c0_i32_457 : BitVec 32 := 0#32
  let v766 : BitVec 32 := Scalar.addi v765 c0_i32_457
  let c512_i32_464 : BitVec 32 := 512#32
  let v775 : BitVec 32 := Scalar.muli v766 c512_i32_464
  v775
def k0_off73 (i : grid0.Coords) (c0_i32_457 : BitVec 32) : Fin 2 → Nat :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let v766 : BitVec 32 := Scalar.addi v765 c0_i32_457
  let c512_i32_464 : BitVec 32 := 512#32
  let v775 : BitVec 32 := Scalar.muli v766 c512_i32_464
  let v776 : BitVec 32 := v775
  let v777 : Index := Scalar.indexCast v776
  let c0_465 : Index := 0#32
  ![v777.toNat, 0]
def k0_mult276 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let c0_i32_458 : BitVec 32 := 0#32
  let v767 : BitVec 32 := Scalar.addi v765 c0_i32_458
  let c512_i32_470 : BitVec 32 := 512#32
  let v783 : BitVec 32 := Scalar.muli v767 c512_i32_470
  v783
def k0_off74 (i : grid0.Coords) (c0_i32_458 : BitVec 32) : Fin 3 → Nat :=
  let c0_471 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let v767 : BitVec 32 := Scalar.addi v765 c0_i32_458
  let c512_i32_470 : BitVec 32 := 512#32
  let v783 : BitVec 32 := Scalar.muli v767 c512_i32_470
  let v784 : BitVec 32 := v783
  let v785 : Index := Scalar.indexCast v784
  let c128_472 : Index := 128#32
  ![0, v785.toNat, 128]
def k0_mult277 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let c0_i32_458 : BitVec 32 := 0#32
  let v767 : BitVec 32 := Scalar.addi v765 c0_i32_458
  let c512_i32_473 : BitVec 32 := 512#32
  let v788 : BitVec 32 := Scalar.muli v767 c512_i32_473
  v788
def k0_mult278 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let c1_i32_459 : BitVec 32 := 1#32
  let v768 : BitVec 32 := Scalar.addi v765 c1_i32_459
  let c512_i32_479 : BitVec 32 := 512#32
  let v796 : BitVec 32 := Scalar.muli v768 c512_i32_479
  v796
def k0_mult279 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let c1_i32_459 : BitVec 32 := 1#32
  let v768 : BitVec 32 := Scalar.addi v765 c1_i32_459
  let c512_i32_482 : BitVec 32 := 512#32
  let v801 : BitVec 32 := Scalar.muli v768 c512_i32_482
  v801
def k0_mult280 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let c1_i32_460 : BitVec 32 := 1#32
  let v769 : BitVec 32 := Scalar.addi v765 c1_i32_460
  let c512_i32_488 : BitVec 32 := 512#32
  let v809 : BitVec 32 := Scalar.muli v769 c512_i32_488
  v809
def k0_mult281 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let c1_i32_460 : BitVec 32 := 1#32
  let v769 : BitVec 32 := Scalar.addi v765 c1_i32_460
  let c512_i32_491 : BitVec 32 := 512#32
  let v814 : BitVec 32 := Scalar.muli v769 c512_i32_491
  v814
def k0_off75 (i : grid0.Coords) (c0_i32_457 : BitVec 32) : Fin 4 → Nat :=
  let c0_497 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let v766 : BitVec 32 := Scalar.addi v765 c0_i32_457
  let v822 : Index := Scalar.indexCast v766
  let c0_498 : Index := 0#32
  let c0_499 : Index := 0#32
  ![0, v822.toNat, 0, 0]
def k0_off76 (i : grid0.Coords) (c0_i32_458 : BitVec 32) : Fin 4 → Nat :=
  let c0_514 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_456 : BitVec 32 := 2#32
  let v765 : BitVec 32 := Scalar.subi v571 c2_i32_456
  let v767 : BitVec 32 := Scalar.addi v765 c0_i32_458
  let v842 : Index := Scalar.indexCast v767
  let c128_515 : Index := 128#32
  let c0_516 : Index := 0#32
  ![0, v842.toNat, 128, 0]
def k0_cond11 (i : grid0.Coords) : BitVec 1 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c4_i32_383 : BitVec 32 := 4#32
  let c0_i32_384 : BitVec 32 := 0#32
  let v685 : BitVec 1 := Scalar.cmpi .eq c4_i32_383 c0_i32_384
  let c1_i32_385 : BitVec 32 := 1#32
  let v686 : BitVec 32 := Scalar.select v685 c1_i32_385 c4_i32_383
  let v687 : BitVec 32 := Scalar.remsi v571 v686
  let c0_i32_387 : BitVec 32 := 0#32
  let v689 : BitVec 1 := Scalar.cmpi .slt v687 c0_i32_387
  let c0_i32_388 : BitVec 32 := 0#32
  let v690 : BitVec 1 := Scalar.cmpi .slt v686 c0_i32_388
  let v691 : BitVec 1 := Scalar.xori v689 v690
  let c0_i32_386 : BitVec 32 := 0#32
  let v688 : BitVec 1 := Scalar.cmpi .ne v687 c0_i32_386
  let v692 : BitVec 1 := Scalar.andi v691 v688
  let v693 : BitVec 32 := Scalar.addi v687 v686
  let v694 : BitVec 32 := Scalar.select v692 v693 v687
  let c3_i32_389 : BitVec 32 := 3#32
  let v695 : BitVec 1 := Scalar.cmpi .eq v694 c3_i32_389
  let v696 : BitVec 32 := Scalar.extui v695
  let c0_i32_390 : BitVec 32 := 0#32
  let v697 : BitVec 1 := Scalar.cmpi .ne v696 c0_i32_390
  v697

def k0_mult282 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c0_i32_457 : BitVec 32 := 0#32
  let v766 : BitVec 32 := Scalar.addi v765 c0_i32_457
  let c512_i32_463 : BitVec 32 := 512#32
  let v772 : BitVec 32 := Scalar.muli v766 c512_i32_463
  v772
def k0_off77 (i : grid0.Coords) (c0_i32_457 : BitVec 32) : Fin 3 → Nat :=
  let c0_464 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let v766 : BitVec 32 := Scalar.addi v765 c0_i32_457
  let c512_i32_463 : BitVec 32 := 512#32
  let v772 : BitVec 32 := Scalar.muli v766 c512_i32_463
  let v773 : BitVec 32 := v772
  let v774 : Index := Scalar.indexCast v773
  let c0_465 : Index := 0#32
  ![0, v774.toNat, 0]
def k0_mult283 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c0_i32_457 : BitVec 32 := 0#32
  let v766 : BitVec 32 := Scalar.addi v765 c0_i32_457
  let c512_i32_466 : BitVec 32 := 512#32
  let v777 : BitVec 32 := Scalar.muli v766 c512_i32_466
  v777
def k0_off78 (i : grid0.Coords) (c0_i32_457 : BitVec 32) : Fin 2 → Nat :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let v766 : BitVec 32 := Scalar.addi v765 c0_i32_457
  let c512_i32_466 : BitVec 32 := 512#32
  let v777 : BitVec 32 := Scalar.muli v766 c512_i32_466
  let v778 : BitVec 32 := v777
  let v779 : Index := Scalar.indexCast v778
  let c0_467 : Index := 0#32
  ![v779.toNat, 0]
def k0_mult284 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c0_i32_458 : BitVec 32 := 0#32
  let v767 : BitVec 32 := Scalar.addi v765 c0_i32_458
  let c512_i32_472 : BitVec 32 := 512#32
  let v785 : BitVec 32 := Scalar.muli v767 c512_i32_472
  v785
def k0_off79 (i : grid0.Coords) (c0_i32_458 : BitVec 32) : Fin 3 → Nat :=
  let c0_473 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let v767 : BitVec 32 := Scalar.addi v765 c0_i32_458
  let c512_i32_472 : BitVec 32 := 512#32
  let v785 : BitVec 32 := Scalar.muli v767 c512_i32_472
  let v786 : BitVec 32 := v785
  let v787 : Index := Scalar.indexCast v786
  let c128_474 : Index := 128#32
  ![0, v787.toNat, 128]
def k0_mult285 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c0_i32_458 : BitVec 32 := 0#32
  let v767 : BitVec 32 := Scalar.addi v765 c0_i32_458
  let c512_i32_475 : BitVec 32 := 512#32
  let v790 : BitVec 32 := Scalar.muli v767 c512_i32_475
  v790
def k0_mult286 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c1_i32_459 : BitVec 32 := 1#32
  let v768 : BitVec 32 := Scalar.addi v765 c1_i32_459
  let c512_i32_481 : BitVec 32 := 512#32
  let v798 : BitVec 32 := Scalar.muli v768 c512_i32_481
  v798
def k0_mult287 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c1_i32_459 : BitVec 32 := 1#32
  let v768 : BitVec 32 := Scalar.addi v765 c1_i32_459
  let c512_i32_484 : BitVec 32 := 512#32
  let v803 : BitVec 32 := Scalar.muli v768 c512_i32_484
  v803
def k0_mult288 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c1_i32_460 : BitVec 32 := 1#32
  let v769 : BitVec 32 := Scalar.addi v765 c1_i32_460
  let c512_i32_490 : BitVec 32 := 512#32
  let v811 : BitVec 32 := Scalar.muli v769 c512_i32_490
  v811
def k0_mult289 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c1_i32_460 : BitVec 32 := 1#32
  let v769 : BitVec 32 := Scalar.addi v765 c1_i32_460
  let c512_i32_493 : BitVec 32 := 512#32
  let v816 : BitVec 32 := Scalar.muli v769 c512_i32_493
  v816
def k0_mult290 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c2_i32_461 : BitVec 32 := 2#32
  let v770 : BitVec 32 := Scalar.addi v765 c2_i32_461
  let c512_i32_499 : BitVec 32 := 512#32
  let v824 : BitVec 32 := Scalar.muli v770 c512_i32_499
  v824
def k0_mult291 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c2_i32_461 : BitVec 32 := 2#32
  let v770 : BitVec 32 := Scalar.addi v765 c2_i32_461
  let c512_i32_502 : BitVec 32 := 512#32
  let v829 : BitVec 32 := Scalar.muli v770 c512_i32_502
  v829
def k0_mult292 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c2_i32_462 : BitVec 32 := 2#32
  let v771 : BitVec 32 := Scalar.addi v765 c2_i32_462
  let c512_i32_508 : BitVec 32 := 512#32
  let v837 : BitVec 32 := Scalar.muli v771 c512_i32_508
  v837
def k0_mult293 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let c2_i32_462 : BitVec 32 := 2#32
  let v771 : BitVec 32 := Scalar.addi v765 c2_i32_462
  let c512_i32_511 : BitVec 32 := 512#32
  let v842 : BitVec 32 := Scalar.muli v771 c512_i32_511
  v842
def k0_off80 (i : grid0.Coords) (c0_i32_457 : BitVec 32) : Fin 4 → Nat :=
  let c0_517 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let v766 : BitVec 32 := Scalar.addi v765 c0_i32_457
  let v850 : Index := Scalar.indexCast v766
  let c0_518 : Index := 0#32
  let c0_519 : Index := 0#32
  ![0, v850.toNat, 0, 0]
def k0_off81 (i : grid0.Coords) (c0_i32_458 : BitVec 32) : Fin 4 → Nat :=
  let c0_534 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_456 : BitVec 32 := 3#32
  let v765 : BitVec 32 := Scalar.subi v571 c3_i32_456
  let v767 : BitVec 32 := Scalar.addi v765 c0_i32_458
  let v870 : Index := Scalar.indexCast v767
  let c128_535 : Index := 128#32
  let c0_536 : Index := 0#32
  ![0, v870.toNat, 128, 0]
def k0_cond12 (i : grid0.Coords) : BitVec 1 :=
  let arg1 : BitVec 32 := BitVec.ofNat 32 (i 1).val
  let c1_i32_391 : BitVec 32 := 1#32
  let v698 : BitVec 1 := Scalar.cmpi .sge arg1 c1_i32_391
  let v699 : BitVec 32 := Scalar.extui v698
  let c0_i32_392 : BitVec 32 := 0#32
  let v700 : BitVec 1 := Scalar.cmpi .ne v699 c0_i32_392
  v700

def k0_mult294 (i : grid0.Coords) : BitVec 32 :=
  let arg1 : BitVec 32 := BitVec.ofNat 32 (i 1).val
  let c1_i32_456 : BitVec 32 := 1#32
  let v765 : BitVec 32 := Scalar.subi arg1 c1_i32_456
  let c128_i32_457 : BitVec 32 := 128#32
  let v766 : BitVec 32 := Scalar.muli v765 c128_i32_457
  v766
def k0_off82 (i : grid0.Coords) : Fin 3 → Nat :=
  let c0_458 : Index := 0#32
  let arg1 : BitVec 32 := BitVec.ofNat 32 (i 1).val
  let c1_i32_456 : BitVec 32 := 1#32
  let v765 : BitVec 32 := Scalar.subi arg1 c1_i32_456
  let c128_i32_457 : BitVec 32 := 128#32
  let v766 : BitVec 32 := Scalar.muli v765 c128_i32_457
  let v767 : BitVec 32 := v766
  let v768 : Index := Scalar.indexCast v767
  let c0_459 : Index := 0#32
  ![0, v768.toNat, 0]
def k0_off83 (i : grid0.Coords) : Fin 3 → Nat :=
  let c0_471 : Index := 0#32
  let arg1 : BitVec 32 := BitVec.ofNat 32 (i 1).val
  let c1_i32_456 : BitVec 32 := 1#32
  let v765 : BitVec 32 := Scalar.subi arg1 c1_i32_456
  let c128_i32_457 : BitVec 32 := 128#32
  let v766 : BitVec 32 := Scalar.muli v765 c128_i32_457
  let v767 : BitVec 32 := v766
  let v780 : Index := Scalar.indexCast v767
  let c128_472 : Index := 128#32
  ![0, v780.toNat, 128]
def k0_mult295 (i : grid0.Coords) : BitVec 32 :=
  let arg1 : BitVec 32 := BitVec.ofNat 32 (i 1).val
  let c128_i32_393 : BitVec 32 := 128#32
  let v701 : BitVec 32 := Scalar.muli arg1 c128_i32_393
  v701
def k0_off84 (i : grid0.Coords) : Fin 3 → Nat :=
  let c0_394 : Index := 0#32
  let arg1 : BitVec 32 := BitVec.ofNat 32 (i 1).val
  let c128_i32_393 : BitVec 32 := 128#32
  let v701 : BitVec 32 := Scalar.muli arg1 c128_i32_393
  let v702 : BitVec 32 := v701
  let v703 : Index := Scalar.indexCast v702
  let c0_395 : Index := 0#32
  ![0, v703.toNat, 0]
def k0_off85 (i : grid0.Coords) : Fin 3 → Nat :=
  let c0_407 : Index := 0#32
  let arg1 : BitVec 32 := BitVec.ofNat 32 (i 1).val
  let c128_i32_393 : BitVec 32 := 128#32
  let v701 : BitVec 32 := Scalar.muli arg1 c128_i32_393
  let v702 : BitVec 32 := v701
  let v715 : Index := Scalar.indexCast v702
  let c128_408 : Index := 128#32
  ![0, v715.toNat, 128]
@[reducible] def k0_t31_loop (i : grid0.Coords) : Scf.Loop 32 :=
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_365 : BitVec 32 := 1#32
  ⟨c0_i32_363, v658, c1_i32_365⟩
def k0_mult296 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c0_i32_471 : BitVec 32 := 0#32
  let v796 : BitVec 32 := Scalar.addi v795 c0_i32_471
  let c512_i32_479 : BitVec 32 := 512#32
  let v804 : BitVec 32 := Scalar.muli v796 c512_i32_479
  v804
def k0_off86 (i : grid0.Coords) (k0_t31 : Fin (k0_t31_loop i).trips) (c0_i32_471 : BitVec 32) : Fin 3 → Nat :=
  let c0_480 : Index := 0#32
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let v796 : BitVec 32 := Scalar.addi v795 c0_i32_471
  let c512_i32_479 : BitVec 32 := 512#32
  let v804 : BitVec 32 := Scalar.muli v796 c512_i32_479
  let v805 : BitVec 32 := v804
  let v806 : Index := Scalar.indexCast v805
  let c0_481 : Index := 0#32
  ![0, v806.toNat, 0]
def k0_mult297 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c0_i32_471 : BitVec 32 := 0#32
  let v796 : BitVec 32 := Scalar.addi v795 c0_i32_471
  let c512_i32_482 : BitVec 32 := 512#32
  let v809 : BitVec 32 := Scalar.muli v796 c512_i32_482
  v809
def k0_off87 (i : grid0.Coords) (k0_t31 : Fin (k0_t31_loop i).trips) (c0_i32_471 : BitVec 32) : Fin 2 → Nat :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let v796 : BitVec 32 := Scalar.addi v795 c0_i32_471
  let c512_i32_482 : BitVec 32 := 512#32
  let v809 : BitVec 32 := Scalar.muli v796 c512_i32_482
  let v810 : BitVec 32 := v809
  let v811 : Index := Scalar.indexCast v810
  let c0_483 : Index := 0#32
  ![v811.toNat, 0]
def k0_mult298 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c0_i32_472 : BitVec 32 := 0#32
  let v797 : BitVec 32 := Scalar.addi v795 c0_i32_472
  let c512_i32_488 : BitVec 32 := 512#32
  let v817 : BitVec 32 := Scalar.muli v797 c512_i32_488
  v817
def k0_off88 (i : grid0.Coords) (k0_t31 : Fin (k0_t31_loop i).trips) (c0_i32_472 : BitVec 32) : Fin 3 → Nat :=
  let c0_489 : Index := 0#32
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let v797 : BitVec 32 := Scalar.addi v795 c0_i32_472
  let c512_i32_488 : BitVec 32 := 512#32
  let v817 : BitVec 32 := Scalar.muli v797 c512_i32_488
  let v818 : BitVec 32 := v817
  let v819 : Index := Scalar.indexCast v818
  let c128_490 : Index := 128#32
  ![0, v819.toNat, 128]
def k0_mult299 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c0_i32_472 : BitVec 32 := 0#32
  let v797 : BitVec 32 := Scalar.addi v795 c0_i32_472
  let c512_i32_491 : BitVec 32 := 512#32
  let v822 : BitVec 32 := Scalar.muli v797 c512_i32_491
  v822
def k0_mult300 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c1_i32_473 : BitVec 32 := 1#32
  let v798 : BitVec 32 := Scalar.addi v795 c1_i32_473
  let c512_i32_497 : BitVec 32 := 512#32
  let v830 : BitVec 32 := Scalar.muli v798 c512_i32_497
  v830
def k0_mult301 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c1_i32_473 : BitVec 32 := 1#32
  let v798 : BitVec 32 := Scalar.addi v795 c1_i32_473
  let c512_i32_500 : BitVec 32 := 512#32
  let v835 : BitVec 32 := Scalar.muli v798 c512_i32_500
  v835
def k0_mult302 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c1_i32_474 : BitVec 32 := 1#32
  let v799 : BitVec 32 := Scalar.addi v795 c1_i32_474
  let c512_i32_506 : BitVec 32 := 512#32
  let v843 : BitVec 32 := Scalar.muli v799 c512_i32_506
  v843
def k0_mult303 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c1_i32_474 : BitVec 32 := 1#32
  let v799 : BitVec 32 := Scalar.addi v795 c1_i32_474
  let c512_i32_509 : BitVec 32 := 512#32
  let v848 : BitVec 32 := Scalar.muli v799 c512_i32_509
  v848
def k0_mult304 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c2_i32_475 : BitVec 32 := 2#32
  let v800 : BitVec 32 := Scalar.addi v795 c2_i32_475
  let c512_i32_515 : BitVec 32 := 512#32
  let v856 : BitVec 32 := Scalar.muli v800 c512_i32_515
  v856
def k0_mult305 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c2_i32_475 : BitVec 32 := 2#32
  let v800 : BitVec 32 := Scalar.addi v795 c2_i32_475
  let c512_i32_518 : BitVec 32 := 512#32
  let v861 : BitVec 32 := Scalar.muli v800 c512_i32_518
  v861
def k0_mult306 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c2_i32_476 : BitVec 32 := 2#32
  let v801 : BitVec 32 := Scalar.addi v795 c2_i32_476
  let c512_i32_524 : BitVec 32 := 512#32
  let v869 : BitVec 32 := Scalar.muli v801 c512_i32_524
  v869
def k0_mult307 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c2_i32_476 : BitVec 32 := 2#32
  let v801 : BitVec 32 := Scalar.addi v795 c2_i32_476
  let c512_i32_527 : BitVec 32 := 512#32
  let v874 : BitVec 32 := Scalar.muli v801 c512_i32_527
  v874
def k0_mult308 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c3_i32_477 : BitVec 32 := 3#32
  let v802 : BitVec 32 := Scalar.addi v795 c3_i32_477
  let c512_i32_533 : BitVec 32 := 512#32
  let v882 : BitVec 32 := Scalar.muli v802 c512_i32_533
  v882
def k0_mult309 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c3_i32_477 : BitVec 32 := 3#32
  let v802 : BitVec 32 := Scalar.addi v795 c3_i32_477
  let c512_i32_536 : BitVec 32 := 512#32
  let v887 : BitVec 32 := Scalar.muli v802 c512_i32_536
  v887
def k0_mult310 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c3_i32_478 : BitVec 32 := 3#32
  let v803 : BitVec 32 := Scalar.addi v795 c3_i32_478
  let c512_i32_542 : BitVec 32 := 512#32
  let v895 : BitVec 32 := Scalar.muli v803 c512_i32_542
  v895
def k0_mult311 (i : grid0.Coords) (k0_t31 : Fin (k0_t31_loop i).trips) : BitVec 32 :=
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let c3_i32_478 : BitVec 32 := 3#32
  let v803 : BitVec 32 := Scalar.addi v795 c3_i32_478
  let c512_i32_545 : BitVec 32 := 512#32
  let v900 : BitVec 32 := Scalar.muli v803 c512_i32_545
  v900
def k0_off89 (i : grid0.Coords) (k0_t31 : Fin (k0_t31_loop i).trips) (c0_i32_471 : BitVec 32) : Fin 4 → Nat :=
  let c0_551 : Index := 0#32
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let v796 : BitVec 32 := Scalar.addi v795 c0_i32_471
  let v908 : Index := Scalar.indexCast v796
  let c0_552 : Index := 0#32
  let c0_553 : Index := 0#32
  ![0, v908.toNat, 0, 0]
def k0_off90 (i : grid0.Coords) (k0_t31 : Fin (k0_t31_loop i).trips) (c0_i32_472 : BitVec 32) : Fin 4 → Nat :=
  let c0_575 : Index := 0#32
  let c4_i32_470 : BitVec 32 := 4#32
  let c0_i32_363 : BitVec 32 := 0#32
  let c1_i32_365 : BitVec 32 := 1#32
  let arg27 : BitVec 32 := Scf.iv c0_i32_363 c1_i32_365 k0_t31
  let v795 : BitVec 32 := Scalar.muli c4_i32_470 arg27
  let v797 : BitVec 32 := Scalar.addi v795 c0_i32_472
  let v943 : Index := Scalar.indexCast v797
  let c128_576 : Index := 128#32
  let c0_577 : Index := 0#32
  ![0, v943.toNat, 128, 0]
@[reducible] def k0_t32_loop (i : grid0.Coords) : Scf.Loop 32 :=
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let v655 : BitVec 32 := Scalar.addi c0_i32_363 v654
  let c1_i32_366 : BitVec 32 := 1#32
  ⟨v658, v655, c1_i32_366⟩
def k0_mult312 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c0_i32_471 : BitVec 32 := 0#32
  let v796 : BitVec 32 := Scalar.addi v795 c0_i32_471
  let c512_i32_479 : BitVec 32 := 512#32
  let v804 : BitVec 32 := Scalar.muli v796 c512_i32_479
  v804
def k0_off91 (i : grid0.Coords) (k0_t32 : Fin (k0_t32_loop i).trips) (c0_i32_471 : BitVec 32) : Fin 3 → Nat :=
  let c0_480 : Index := 0#32
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let v796 : BitVec 32 := Scalar.addi v795 c0_i32_471
  let c512_i32_479 : BitVec 32 := 512#32
  let v804 : BitVec 32 := Scalar.muli v796 c512_i32_479
  let v805 : BitVec 32 := v804
  let v806 : Index := Scalar.indexCast v805
  let c0_481 : Index := 0#32
  ![0, v806.toNat, 0]
def k0_mult313 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c0_i32_471 : BitVec 32 := 0#32
  let v796 : BitVec 32 := Scalar.addi v795 c0_i32_471
  let c512_i32_482 : BitVec 32 := 512#32
  let v809 : BitVec 32 := Scalar.muli v796 c512_i32_482
  v809
def k0_off92 (i : grid0.Coords) (k0_t32 : Fin (k0_t32_loop i).trips) (c0_i32_471 : BitVec 32) : Fin 2 → Nat :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let v796 : BitVec 32 := Scalar.addi v795 c0_i32_471
  let c512_i32_482 : BitVec 32 := 512#32
  let v809 : BitVec 32 := Scalar.muli v796 c512_i32_482
  let v810 : BitVec 32 := v809
  let v811 : Index := Scalar.indexCast v810
  let c0_483 : Index := 0#32
  ![v811.toNat, 0]
def k0_mult314 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c0_i32_472 : BitVec 32 := 0#32
  let v797 : BitVec 32 := Scalar.addi v795 c0_i32_472
  let c512_i32_488 : BitVec 32 := 512#32
  let v817 : BitVec 32 := Scalar.muli v797 c512_i32_488
  v817
def k0_off93 (i : grid0.Coords) (k0_t32 : Fin (k0_t32_loop i).trips) (c0_i32_472 : BitVec 32) : Fin 3 → Nat :=
  let c0_489 : Index := 0#32
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let v797 : BitVec 32 := Scalar.addi v795 c0_i32_472
  let c512_i32_488 : BitVec 32 := 512#32
  let v817 : BitVec 32 := Scalar.muli v797 c512_i32_488
  let v818 : BitVec 32 := v817
  let v819 : Index := Scalar.indexCast v818
  let c128_490 : Index := 128#32
  ![0, v819.toNat, 128]
def k0_mult315 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c0_i32_472 : BitVec 32 := 0#32
  let v797 : BitVec 32 := Scalar.addi v795 c0_i32_472
  let c512_i32_491 : BitVec 32 := 512#32
  let v822 : BitVec 32 := Scalar.muli v797 c512_i32_491
  v822
def k0_mult316 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c1_i32_473 : BitVec 32 := 1#32
  let v798 : BitVec 32 := Scalar.addi v795 c1_i32_473
  let c512_i32_497 : BitVec 32 := 512#32
  let v830 : BitVec 32 := Scalar.muli v798 c512_i32_497
  v830
def k0_mult317 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c1_i32_473 : BitVec 32 := 1#32
  let v798 : BitVec 32 := Scalar.addi v795 c1_i32_473
  let c512_i32_500 : BitVec 32 := 512#32
  let v835 : BitVec 32 := Scalar.muli v798 c512_i32_500
  v835
def k0_mult318 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c1_i32_474 : BitVec 32 := 1#32
  let v799 : BitVec 32 := Scalar.addi v795 c1_i32_474
  let c512_i32_506 : BitVec 32 := 512#32
  let v843 : BitVec 32 := Scalar.muli v799 c512_i32_506
  v843
def k0_mult319 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c1_i32_474 : BitVec 32 := 1#32
  let v799 : BitVec 32 := Scalar.addi v795 c1_i32_474
  let c512_i32_509 : BitVec 32 := 512#32
  let v848 : BitVec 32 := Scalar.muli v799 c512_i32_509
  v848
def k0_mult320 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c2_i32_475 : BitVec 32 := 2#32
  let v800 : BitVec 32 := Scalar.addi v795 c2_i32_475
  let c512_i32_515 : BitVec 32 := 512#32
  let v856 : BitVec 32 := Scalar.muli v800 c512_i32_515
  v856
def k0_mult321 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c2_i32_475 : BitVec 32 := 2#32
  let v800 : BitVec 32 := Scalar.addi v795 c2_i32_475
  let c512_i32_518 : BitVec 32 := 512#32
  let v861 : BitVec 32 := Scalar.muli v800 c512_i32_518
  v861
def k0_mult322 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c2_i32_476 : BitVec 32 := 2#32
  let v801 : BitVec 32 := Scalar.addi v795 c2_i32_476
  let c512_i32_524 : BitVec 32 := 512#32
  let v869 : BitVec 32 := Scalar.muli v801 c512_i32_524
  v869
def k0_mult323 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c2_i32_476 : BitVec 32 := 2#32
  let v801 : BitVec 32 := Scalar.addi v795 c2_i32_476
  let c512_i32_527 : BitVec 32 := 512#32
  let v874 : BitVec 32 := Scalar.muli v801 c512_i32_527
  v874
def k0_mult324 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c3_i32_477 : BitVec 32 := 3#32
  let v802 : BitVec 32 := Scalar.addi v795 c3_i32_477
  let c512_i32_533 : BitVec 32 := 512#32
  let v882 : BitVec 32 := Scalar.muli v802 c512_i32_533
  v882
def k0_mult325 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c3_i32_477 : BitVec 32 := 3#32
  let v802 : BitVec 32 := Scalar.addi v795 c3_i32_477
  let c512_i32_536 : BitVec 32 := 512#32
  let v887 : BitVec 32 := Scalar.muli v802 c512_i32_536
  v887
def k0_mult326 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c3_i32_478 : BitVec 32 := 3#32
  let v803 : BitVec 32 := Scalar.addi v795 c3_i32_478
  let c512_i32_542 : BitVec 32 := 512#32
  let v895 : BitVec 32 := Scalar.muli v803 c512_i32_542
  v895
def k0_mult327 (i : grid0.Coords) (k0_t32 : Fin (k0_t32_loop i).trips) : BitVec 32 :=
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let c3_i32_478 : BitVec 32 := 3#32
  let v803 : BitVec 32 := Scalar.addi v795 c3_i32_478
  let c512_i32_545 : BitVec 32 := 512#32
  let v900 : BitVec 32 := Scalar.muli v803 c512_i32_545
  v900
def k0_off94 (i : grid0.Coords) (k0_t32 : Fin (k0_t32_loop i).trips) (c0_i32_471 : BitVec 32) : Fin 4 → Nat :=
  let c0_551 : Index := 0#32
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let v796 : BitVec 32 := Scalar.addi v795 c0_i32_471
  let v908 : Index := Scalar.indexCast v796
  let c0_552 : Index := 0#32
  let c0_553 : Index := 0#32
  ![0, v908.toNat, 0, 0]
def k0_off95 (i : grid0.Coords) (k0_t32 : Fin (k0_t32_loop i).trips) (c0_i32_472 : BitVec 32) : Fin 4 → Nat :=
  let c0_575 : Index := 0#32
  let c4_i32_470 : BitVec 32 := 4#32
  let c0_i32_363 : BitVec 32 := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c0_i32_356 : BitVec 32 := 0#32
  let v638 : BitVec 1 := Scalar.cmpi .sgt v571 c0_i32_356
  let v639 : BitVec 32 := Scalar.extui v638
  let c0_i32_357 : BitVec 32 := 0#32
  let v640 : BitVec 1 := Scalar.cmpi .slt v571 c0_i32_357
  let v641 : BitVec 32 := Scalar.extui v640
  let v642 : BitVec 32 := Scalar.subi v639 v641
  let c4_i32_355 : BitVec 32 := 4#32
  let c0_i32_358 : BitVec 32 := 0#32
  let v643 : BitVec 1 := Scalar.cmpi .sgt c4_i32_355 c0_i32_358
  let v644 : BitVec 32 := Scalar.extui v643
  let c0_i32_359 : BitVec 32 := 0#32
  let v645 : BitVec 1 := Scalar.cmpi .slt c4_i32_355 c0_i32_359
  let v646 : BitVec 32 := Scalar.extui v645
  let v647 : BitVec 32 := Scalar.subi v644 v646
  let v648 : BitVec 1 := Scalar.cmpi .ne v642 v647
  let v649 : BitVec 32 := Scalar.remsi v571 c4_i32_355
  let c0_i32_360 : BitVec 32 := 0#32
  let v650 : BitVec 1 := Scalar.cmpi .ne v649 c0_i32_360
  let v651 : BitVec 1 := Scalar.andi v648 v650
  let v637 : BitVec 32 := Scalar.divsi v571 c4_i32_355
  let c1_i32_361 : BitVec 32 := 1#32
  let v652 : BitVec 32 := Scalar.subi v637 c1_i32_361
  let v653 : BitVec 32 := Scalar.select v651 v652 v637
  let v654 : BitVec 32 := Scalar.subi v653 c0_i32_363
  let c1_i32_364 : BitVec 32 := 1#32
  let v656 : BitVec 32 := Scalar.divsi v654 c1_i32_364
  let v657 : BitVec 32 := Scalar.muli v656 c1_i32_364
  let v658 : BitVec 32 := Scalar.addi c0_i32_363 v657
  let c1_i32_366 : BitVec 32 := 1#32
  let arg27 : BitVec 32 := Scf.iv v658 c1_i32_366 k0_t32
  let v795 : BitVec 32 := Scalar.muli c4_i32_470 arg27
  let v797 : BitVec 32 := Scalar.addi v795 c0_i32_472
  let v943 : Index := Scalar.indexCast v797
  let c128_576 : Index := 128#32
  let c0_577 : Index := 0#32
  ![0, v943.toNat, 128, 0]
def k0_cond14 (i : grid0.Coords) : BitVec 1 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c4_i32_367 : BitVec 32 := 4#32
  let c0_i32_368 : BitVec 32 := 0#32
  let v659 : BitVec 1 := Scalar.cmpi .eq c4_i32_367 c0_i32_368
  let c1_i32_369 : BitVec 32 := 1#32
  let v660 : BitVec 32 := Scalar.select v659 c1_i32_369 c4_i32_367
  let v661 : BitVec 32 := Scalar.remsi v571 v660
  let c0_i32_371 : BitVec 32 := 0#32
  let v663 : BitVec 1 := Scalar.cmpi .slt v661 c0_i32_371
  let c0_i32_372 : BitVec 32 := 0#32
  let v664 : BitVec 1 := Scalar.cmpi .slt v660 c0_i32_372
  let v665 : BitVec 1 := Scalar.xori v663 v664
  let c0_i32_370 : BitVec 32 := 0#32
  let v662 : BitVec 1 := Scalar.cmpi .ne v661 c0_i32_370
  let v666 : BitVec 1 := Scalar.andi v665 v662
  let v667 : BitVec 32 := Scalar.addi v661 v660
  let v668 : BitVec 32 := Scalar.select v666 v667 v661
  let c1_i32_373 : BitVec 32 := 1#32
  let v669 : BitVec 1 := Scalar.cmpi .eq v668 c1_i32_373
  let v670 : BitVec 32 := Scalar.extui v669
  let c0_i32_374 : BitVec 32 := 0#32
  let v671 : BitVec 1 := Scalar.cmpi .ne v670 c0_i32_374
  v671

def k0_mult328 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_470 : BitVec 32 := 1#32
  let v795 : BitVec 32 := Scalar.subi v571 c1_i32_470
  let c0_i32_471 : BitVec 32 := 0#32
  let v796 : BitVec 32 := Scalar.addi v795 c0_i32_471
  let c512_i32_473 : BitVec 32 := 512#32
  let v798 : BitVec 32 := Scalar.muli v796 c512_i32_473
  v798
def k0_off96 (i : grid0.Coords) : Fin 3 → Nat :=
  let c0_474 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_470 : BitVec 32 := 1#32
  let v795 : BitVec 32 := Scalar.subi v571 c1_i32_470
  let c0_i32_471 : BitVec 32 := 0#32
  let v796 : BitVec 32 := Scalar.addi v795 c0_i32_471
  let c512_i32_473 : BitVec 32 := 512#32
  let v798 : BitVec 32 := Scalar.muli v796 c512_i32_473
  let v799 : BitVec 32 := v798
  let v800 : Index := Scalar.indexCast v799
  let c0_475 : Index := 0#32
  ![0, v800.toNat, 0]
def k0_mult329 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_470 : BitVec 32 := 1#32
  let v795 : BitVec 32 := Scalar.subi v571 c1_i32_470
  let c0_i32_471 : BitVec 32 := 0#32
  let v796 : BitVec 32 := Scalar.addi v795 c0_i32_471
  let c512_i32_476 : BitVec 32 := 512#32
  let v803 : BitVec 32 := Scalar.muli v796 c512_i32_476
  v803
def k0_off97 (i : grid0.Coords) : Fin 2 → Nat :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_470 : BitVec 32 := 1#32
  let v795 : BitVec 32 := Scalar.subi v571 c1_i32_470
  let c0_i32_471 : BitVec 32 := 0#32
  let v796 : BitVec 32 := Scalar.addi v795 c0_i32_471
  let c512_i32_476 : BitVec 32 := 512#32
  let v803 : BitVec 32 := Scalar.muli v796 c512_i32_476
  let v804 : BitVec 32 := v803
  let v805 : Index := Scalar.indexCast v804
  let c0_477 : Index := 0#32
  ![v805.toNat, 0]
def k0_mult330 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_470 : BitVec 32 := 1#32
  let v795 : BitVec 32 := Scalar.subi v571 c1_i32_470
  let c0_i32_472 : BitVec 32 := 0#32
  let v797 : BitVec 32 := Scalar.addi v795 c0_i32_472
  let c512_i32_482 : BitVec 32 := 512#32
  let v811 : BitVec 32 := Scalar.muli v797 c512_i32_482
  v811
def k0_off98 (i : grid0.Coords) : Fin 3 → Nat :=
  let c0_483 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_470 : BitVec 32 := 1#32
  let v795 : BitVec 32 := Scalar.subi v571 c1_i32_470
  let c0_i32_472 : BitVec 32 := 0#32
  let v797 : BitVec 32 := Scalar.addi v795 c0_i32_472
  let c512_i32_482 : BitVec 32 := 512#32
  let v811 : BitVec 32 := Scalar.muli v797 c512_i32_482
  let v812 : BitVec 32 := v811
  let v813 : Index := Scalar.indexCast v812
  let c128_484 : Index := 128#32
  ![0, v813.toNat, 128]
def k0_mult331 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_470 : BitVec 32 := 1#32
  let v795 : BitVec 32 := Scalar.subi v571 c1_i32_470
  let c0_i32_472 : BitVec 32 := 0#32
  let v797 : BitVec 32 := Scalar.addi v795 c0_i32_472
  let c512_i32_485 : BitVec 32 := 512#32
  let v816 : BitVec 32 := Scalar.muli v797 c512_i32_485
  v816
def k0_off99 (i : grid0.Coords) : Fin 4 → Nat :=
  let c0_491 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_470 : BitVec 32 := 1#32
  let v795 : BitVec 32 := Scalar.subi v571 c1_i32_470
  let c0_i32_471 : BitVec 32 := 0#32
  let v796 : BitVec 32 := Scalar.addi v795 c0_i32_471
  let v824 : Index := Scalar.indexCast v796
  let c0_492 : Index := 0#32
  let c0_493 : Index := 0#32
  ![0, v824.toNat, 0, 0]
def k0_off100 (i : grid0.Coords) : Fin 4 → Nat :=
  let c0_515 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c1_i32_470 : BitVec 32 := 1#32
  let v795 : BitVec 32 := Scalar.subi v571 c1_i32_470
  let c0_i32_472 : BitVec 32 := 0#32
  let v797 : BitVec 32 := Scalar.addi v795 c0_i32_472
  let v859 : Index := Scalar.indexCast v797
  let c128_516 : Index := 128#32
  let c0_517 : Index := 0#32
  ![0, v859.toNat, 128, 0]
def k0_cond15 (i : grid0.Coords) : BitVec 1 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c4_i32_375 : BitVec 32 := 4#32
  let c0_i32_376 : BitVec 32 := 0#32
  let v672 : BitVec 1 := Scalar.cmpi .eq c4_i32_375 c0_i32_376
  let c1_i32_377 : BitVec 32 := 1#32
  let v673 : BitVec 32 := Scalar.select v672 c1_i32_377 c4_i32_375
  let v674 : BitVec 32 := Scalar.remsi v571 v673
  let c0_i32_379 : BitVec 32 := 0#32
  let v676 : BitVec 1 := Scalar.cmpi .slt v674 c0_i32_379
  let c0_i32_380 : BitVec 32 := 0#32
  let v677 : BitVec 1 := Scalar.cmpi .slt v673 c0_i32_380
  let v678 : BitVec 1 := Scalar.xori v676 v677
  let c0_i32_378 : BitVec 32 := 0#32
  let v675 : BitVec 1 := Scalar.cmpi .ne v674 c0_i32_378
  let v679 : BitVec 1 := Scalar.andi v678 v675
  let v680 : BitVec 32 := Scalar.addi v674 v673
  let v681 : BitVec 32 := Scalar.select v679 v680 v674
  let c2_i32_381 : BitVec 32 := 2#32
  let v682 : BitVec 1 := Scalar.cmpi .eq v681 c2_i32_381
  let v683 : BitVec 32 := Scalar.extui v682
  let c0_i32_382 : BitVec 32 := 0#32
  let v684 : BitVec 1 := Scalar.cmpi .ne v683 c0_i32_382
  v684

def k0_mult332 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let c0_i32_471 : BitVec 32 := 0#32
  let v796 : BitVec 32 := Scalar.addi v795 c0_i32_471
  let c512_i32_475 : BitVec 32 := 512#32
  let v800 : BitVec 32 := Scalar.muli v796 c512_i32_475
  v800
def k0_off101 (i : grid0.Coords) (c0_i32_471 : BitVec 32) : Fin 3 → Nat :=
  let c0_476 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let v796 : BitVec 32 := Scalar.addi v795 c0_i32_471
  let c512_i32_475 : BitVec 32 := 512#32
  let v800 : BitVec 32 := Scalar.muli v796 c512_i32_475
  let v801 : BitVec 32 := v800
  let v802 : Index := Scalar.indexCast v801
  let c0_477 : Index := 0#32
  ![0, v802.toNat, 0]
def k0_mult333 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let c0_i32_471 : BitVec 32 := 0#32
  let v796 : BitVec 32 := Scalar.addi v795 c0_i32_471
  let c512_i32_478 : BitVec 32 := 512#32
  let v805 : BitVec 32 := Scalar.muli v796 c512_i32_478
  v805
def k0_off102 (i : grid0.Coords) (c0_i32_471 : BitVec 32) : Fin 2 → Nat :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let v796 : BitVec 32 := Scalar.addi v795 c0_i32_471
  let c512_i32_478 : BitVec 32 := 512#32
  let v805 : BitVec 32 := Scalar.muli v796 c512_i32_478
  let v806 : BitVec 32 := v805
  let v807 : Index := Scalar.indexCast v806
  let c0_479 : Index := 0#32
  ![v807.toNat, 0]
def k0_mult334 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let c0_i32_472 : BitVec 32 := 0#32
  let v797 : BitVec 32 := Scalar.addi v795 c0_i32_472
  let c512_i32_484 : BitVec 32 := 512#32
  let v813 : BitVec 32 := Scalar.muli v797 c512_i32_484
  v813
def k0_off103 (i : grid0.Coords) (c0_i32_472 : BitVec 32) : Fin 3 → Nat :=
  let c0_485 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let v797 : BitVec 32 := Scalar.addi v795 c0_i32_472
  let c512_i32_484 : BitVec 32 := 512#32
  let v813 : BitVec 32 := Scalar.muli v797 c512_i32_484
  let v814 : BitVec 32 := v813
  let v815 : Index := Scalar.indexCast v814
  let c128_486 : Index := 128#32
  ![0, v815.toNat, 128]
def k0_mult335 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let c0_i32_472 : BitVec 32 := 0#32
  let v797 : BitVec 32 := Scalar.addi v795 c0_i32_472
  let c512_i32_487 : BitVec 32 := 512#32
  let v818 : BitVec 32 := Scalar.muli v797 c512_i32_487
  v818
def k0_mult336 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let c1_i32_473 : BitVec 32 := 1#32
  let v798 : BitVec 32 := Scalar.addi v795 c1_i32_473
  let c512_i32_493 : BitVec 32 := 512#32
  let v826 : BitVec 32 := Scalar.muli v798 c512_i32_493
  v826
def k0_mult337 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let c1_i32_473 : BitVec 32 := 1#32
  let v798 : BitVec 32 := Scalar.addi v795 c1_i32_473
  let c512_i32_496 : BitVec 32 := 512#32
  let v831 : BitVec 32 := Scalar.muli v798 c512_i32_496
  v831
def k0_mult338 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let c1_i32_474 : BitVec 32 := 1#32
  let v799 : BitVec 32 := Scalar.addi v795 c1_i32_474
  let c512_i32_502 : BitVec 32 := 512#32
  let v839 : BitVec 32 := Scalar.muli v799 c512_i32_502
  v839
def k0_mult339 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let c1_i32_474 : BitVec 32 := 1#32
  let v799 : BitVec 32 := Scalar.addi v795 c1_i32_474
  let c512_i32_505 : BitVec 32 := 512#32
  let v844 : BitVec 32 := Scalar.muli v799 c512_i32_505
  v844
def k0_off104 (i : grid0.Coords) (c0_i32_471 : BitVec 32) : Fin 4 → Nat :=
  let c0_511 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let v796 : BitVec 32 := Scalar.addi v795 c0_i32_471
  let v852 : Index := Scalar.indexCast v796
  let c0_512 : Index := 0#32
  let c0_513 : Index := 0#32
  ![0, v852.toNat, 0, 0]
def k0_off105 (i : grid0.Coords) (c0_i32_472 : BitVec 32) : Fin 4 → Nat :=
  let c0_535 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c2_i32_470 : BitVec 32 := 2#32
  let v795 : BitVec 32 := Scalar.subi v571 c2_i32_470
  let v797 : BitVec 32 := Scalar.addi v795 c0_i32_472
  let v887 : Index := Scalar.indexCast v797
  let c128_536 : Index := 128#32
  let c0_537 : Index := 0#32
  ![0, v887.toNat, 128, 0]
def k0_cond16 (i : grid0.Coords) : BitVec 1 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c4_i32_383 : BitVec 32 := 4#32
  let c0_i32_384 : BitVec 32 := 0#32
  let v685 : BitVec 1 := Scalar.cmpi .eq c4_i32_383 c0_i32_384
  let c1_i32_385 : BitVec 32 := 1#32
  let v686 : BitVec 32 := Scalar.select v685 c1_i32_385 c4_i32_383
  let v687 : BitVec 32 := Scalar.remsi v571 v686
  let c0_i32_387 : BitVec 32 := 0#32
  let v689 : BitVec 1 := Scalar.cmpi .slt v687 c0_i32_387
  let c0_i32_388 : BitVec 32 := 0#32
  let v690 : BitVec 1 := Scalar.cmpi .slt v686 c0_i32_388
  let v691 : BitVec 1 := Scalar.xori v689 v690
  let c0_i32_386 : BitVec 32 := 0#32
  let v688 : BitVec 1 := Scalar.cmpi .ne v687 c0_i32_386
  let v692 : BitVec 1 := Scalar.andi v691 v688
  let v693 : BitVec 32 := Scalar.addi v687 v686
  let v694 : BitVec 32 := Scalar.select v692 v693 v687
  let c3_i32_389 : BitVec 32 := 3#32
  let v695 : BitVec 1 := Scalar.cmpi .eq v694 c3_i32_389
  let v696 : BitVec 32 := Scalar.extui v695
  let c0_i32_390 : BitVec 32 := 0#32
  let v697 : BitVec 1 := Scalar.cmpi .ne v696 c0_i32_390
  v697

def k0_mult340 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c0_i32_471 : BitVec 32 := 0#32
  let v796 : BitVec 32 := Scalar.addi v795 c0_i32_471
  let c512_i32_477 : BitVec 32 := 512#32
  let v802 : BitVec 32 := Scalar.muli v796 c512_i32_477
  v802
def k0_off106 (i : grid0.Coords) (c0_i32_471 : BitVec 32) : Fin 3 → Nat :=
  let c0_478 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let v796 : BitVec 32 := Scalar.addi v795 c0_i32_471
  let c512_i32_477 : BitVec 32 := 512#32
  let v802 : BitVec 32 := Scalar.muli v796 c512_i32_477
  let v803 : BitVec 32 := v802
  let v804 : Index := Scalar.indexCast v803
  let c0_479 : Index := 0#32
  ![0, v804.toNat, 0]
def k0_mult341 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c0_i32_471 : BitVec 32 := 0#32
  let v796 : BitVec 32 := Scalar.addi v795 c0_i32_471
  let c512_i32_480 : BitVec 32 := 512#32
  let v807 : BitVec 32 := Scalar.muli v796 c512_i32_480
  v807
def k0_off107 (i : grid0.Coords) (c0_i32_471 : BitVec 32) : Fin 2 → Nat :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let v796 : BitVec 32 := Scalar.addi v795 c0_i32_471
  let c512_i32_480 : BitVec 32 := 512#32
  let v807 : BitVec 32 := Scalar.muli v796 c512_i32_480
  let v808 : BitVec 32 := v807
  let v809 : Index := Scalar.indexCast v808
  let c0_481 : Index := 0#32
  ![v809.toNat, 0]
def k0_mult342 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c0_i32_472 : BitVec 32 := 0#32
  let v797 : BitVec 32 := Scalar.addi v795 c0_i32_472
  let c512_i32_486 : BitVec 32 := 512#32
  let v815 : BitVec 32 := Scalar.muli v797 c512_i32_486
  v815
def k0_off108 (i : grid0.Coords) (c0_i32_472 : BitVec 32) : Fin 3 → Nat :=
  let c0_487 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let v797 : BitVec 32 := Scalar.addi v795 c0_i32_472
  let c512_i32_486 : BitVec 32 := 512#32
  let v815 : BitVec 32 := Scalar.muli v797 c512_i32_486
  let v816 : BitVec 32 := v815
  let v817 : Index := Scalar.indexCast v816
  let c128_488 : Index := 128#32
  ![0, v817.toNat, 128]
def k0_mult343 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c0_i32_472 : BitVec 32 := 0#32
  let v797 : BitVec 32 := Scalar.addi v795 c0_i32_472
  let c512_i32_489 : BitVec 32 := 512#32
  let v820 : BitVec 32 := Scalar.muli v797 c512_i32_489
  v820
def k0_mult344 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c1_i32_473 : BitVec 32 := 1#32
  let v798 : BitVec 32 := Scalar.addi v795 c1_i32_473
  let c512_i32_495 : BitVec 32 := 512#32
  let v828 : BitVec 32 := Scalar.muli v798 c512_i32_495
  v828
def k0_mult345 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c1_i32_473 : BitVec 32 := 1#32
  let v798 : BitVec 32 := Scalar.addi v795 c1_i32_473
  let c512_i32_498 : BitVec 32 := 512#32
  let v833 : BitVec 32 := Scalar.muli v798 c512_i32_498
  v833
def k0_mult346 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c1_i32_474 : BitVec 32 := 1#32
  let v799 : BitVec 32 := Scalar.addi v795 c1_i32_474
  let c512_i32_504 : BitVec 32 := 512#32
  let v841 : BitVec 32 := Scalar.muli v799 c512_i32_504
  v841
def k0_mult347 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c1_i32_474 : BitVec 32 := 1#32
  let v799 : BitVec 32 := Scalar.addi v795 c1_i32_474
  let c512_i32_507 : BitVec 32 := 512#32
  let v846 : BitVec 32 := Scalar.muli v799 c512_i32_507
  v846
def k0_mult348 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c2_i32_475 : BitVec 32 := 2#32
  let v800 : BitVec 32 := Scalar.addi v795 c2_i32_475
  let c512_i32_513 : BitVec 32 := 512#32
  let v854 : BitVec 32 := Scalar.muli v800 c512_i32_513
  v854
def k0_mult349 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c2_i32_475 : BitVec 32 := 2#32
  let v800 : BitVec 32 := Scalar.addi v795 c2_i32_475
  let c512_i32_516 : BitVec 32 := 512#32
  let v859 : BitVec 32 := Scalar.muli v800 c512_i32_516
  v859
def k0_mult350 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c2_i32_476 : BitVec 32 := 2#32
  let v801 : BitVec 32 := Scalar.addi v795 c2_i32_476
  let c512_i32_522 : BitVec 32 := 512#32
  let v867 : BitVec 32 := Scalar.muli v801 c512_i32_522
  v867
def k0_mult351 (i : grid0.Coords) : BitVec 32 :=
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let c2_i32_476 : BitVec 32 := 2#32
  let v801 : BitVec 32 := Scalar.addi v795 c2_i32_476
  let c512_i32_525 : BitVec 32 := 512#32
  let v872 : BitVec 32 := Scalar.muli v801 c512_i32_525
  v872
def k0_off109 (i : grid0.Coords) (c0_i32_471 : BitVec 32) : Fin 4 → Nat :=
  let c0_531 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let v796 : BitVec 32 := Scalar.addi v795 c0_i32_471
  let v880 : Index := Scalar.indexCast v796
  let c0_532 : Index := 0#32
  let c0_533 : Index := 0#32
  ![0, v880.toNat, 0, 0]
def k0_off110 (i : grid0.Coords) (c0_i32_472 : BitVec 32) : Fin 4 → Nat :=
  let c0_555 : Index := 0#32
  let arg1 : BitVec 32 := BitVec.ofNat 32 (i 1).val
  let c4_i32_310 : BitVec 32 := 4#32
  let c0_i32_311 : BitVec 32 := 0#32
  let v560 : BitVec 1 := Scalar.cmpi .eq c4_i32_310 c0_i32_311
  let c1_i32_312 : BitVec 32 := 1#32
  let v561 : BitVec 32 := Scalar.select v560 c1_i32_312 c4_i32_310
  let v562 : BitVec 32 := Scalar.remsi arg1 v561
  let c0_i32_314 : BitVec 32 := 0#32
  let v564 : BitVec 1 := Scalar.cmpi .slt v562 c0_i32_314
  let c0_i32_315 : BitVec 32 := 0#32
  let v565 : BitVec 1 := Scalar.cmpi .slt v561 c0_i32_315
  let v566 : BitVec 1 := Scalar.xori v564 v565
  let c0_i32_313 : BitVec 32 := 0#32
  let v563 : BitVec 1 := Scalar.cmpi .ne v562 c0_i32_313
  let v567 : BitVec 1 := Scalar.andi v566 v563
  let v568 : BitVec 32 := Scalar.addi v562 v561
  let v569 : BitVec 32 := Scalar.select v567 v568 v562
  let c2_i32_316 : BitVec 32 := 2#32
  let v570 : BitVec 1 := Scalar.cmpi .sge v569 c2_i32_316
  let c0_i32_126 : BitVec 32 := 0#32
  let v192 : BitVec 1 := Scalar.cmpi .sgt arg1 c0_i32_126
  let v193 : BitVec 32 := Scalar.extui v192
  let c0_i32_127 : BitVec 32 := 0#32
  let v194 : BitVec 1 := Scalar.cmpi .slt arg1 c0_i32_127
  let v195 : BitVec 32 := Scalar.extui v194
  let v196 : BitVec 32 := Scalar.subi v193 v195
  let c4_i32 : BitVec 32 := 4#32
  let c0_i32_128 : BitVec 32 := 0#32
  let v197 : BitVec 1 := Scalar.cmpi .sgt c4_i32 c0_i32_128
  let v198 : BitVec 32 := Scalar.extui v197
  let c0_i32_129 : BitVec 32 := 0#32
  let v199 : BitVec 1 := Scalar.cmpi .slt c4_i32 c0_i32_129
  let v200 : BitVec 32 := Scalar.extui v199
  let v201 : BitVec 32 := Scalar.subi v198 v200
  let v202 : BitVec 1 := Scalar.cmpi .ne v196 v201
  let v203 : BitVec 32 := Scalar.remsi arg1 c4_i32
  let c0_i32_130 : BitVec 32 := 0#32
  let v204 : BitVec 1 := Scalar.cmpi .ne v203 c0_i32_130
  let v205 : BitVec 1 := Scalar.andi v202 v204
  let v191 : BitVec 32 := Scalar.divsi arg1 c4_i32
  let c1_i32_131 : BitVec 32 := 1#32
  let v206 : BitVec 32 := Scalar.subi v191 c1_i32_131
  let v207 : BitVec 32 := Scalar.select v205 v206 v191
  let c1_i32_132 : BitVec 32 := 1#32
  let v208 : BitVec 32 := Scalar.addi v207 c1_i32_132
  let v571 : BitVec 32 := Scalar.select v570 v208 v207
  let c3_i32_470 : BitVec 32 := 3#32
  let v795 : BitVec 32 := Scalar.subi v571 c3_i32_470
  let v797 : BitVec 32 := Scalar.addi v795 c0_i32_472
  let v915 : Index := Scalar.indexCast v797
  let c128_556 : Index := 128#32
  let c0_557 : Index := 0#32
  ![0, v915.toNat, 128, 0]
def k0_cond17 (i : grid0.Coords) : BitVec 1 :=
  let arg1 : BitVec 32 := BitVec.ofNat 32 (i 1).val
  let c1_i32_391 : BitVec 32 := 1#32
  let v698 : BitVec 1 := Scalar.cmpi .sge arg1 c1_i32_391
  let v699 : BitVec 32 := Scalar.extui v698
  let c0_i32_392 : BitVec 32 := 0#32
  let v700 : BitVec 1 := Scalar.cmpi .ne v699 c0_i32_392
  v700

def k0_mult352 (i : grid0.Coords) : BitVec 32 :=
  let arg1 : BitVec 32 := BitVec.ofNat 32 (i 1).val
  let c1_i32_470 : BitVec 32 := 1#32
  let v795 : BitVec 32 := Scalar.subi arg1 c1_i32_470
  let c128_i32_471 : BitVec 32 := 128#32
  let v796 : BitVec 32 := Scalar.muli v795 c128_i32_471
  v796
def k0_off111 (i : grid0.Coords) : Fin 3 → Nat :=
  let c0_472 : Index := 0#32
  let arg1 : BitVec 32 := BitVec.ofNat 32 (i 1).val
  let c1_i32_470 : BitVec 32 := 1#32
  let v795 : BitVec 32 := Scalar.subi arg1 c1_i32_470
  let c128_i32_471 : BitVec 32 := 128#32
  let v796 : BitVec 32 := Scalar.muli v795 c128_i32_471
  let v797 : BitVec 32 := v796
  let v798 : Index := Scalar.indexCast v797
  let c0_473 : Index := 0#32
  ![0, v798.toNat, 0]
def k0_off112 (i : grid0.Coords) : Fin 3 → Nat :=
  let c0_485 : Index := 0#32
  let arg1 : BitVec 32 := BitVec.ofNat 32 (i 1).val
  let c1_i32_470 : BitVec 32 := 1#32
  let v795 : BitVec 32 := Scalar.subi arg1 c1_i32_470
  let c128_i32_471 : BitVec 32 := 128#32
  let v796 : BitVec 32 := Scalar.muli v795 c128_i32_471
  let v797 : BitVec 32 := v796
  let v810 : Index := Scalar.indexCast v797
  let c128_486 : Index := 128#32
  ![0, v810.toNat, 128]
def k0_mult353 (i : grid0.Coords) : BitVec 32 :=
  let arg1 : BitVec 32 := BitVec.ofNat 32 (i 1).val
  let c128_i32_393 : BitVec 32 := 128#32
  let v701 : BitVec 32 := Scalar.muli arg1 c128_i32_393
  v701
def k0_off113 (i : grid0.Coords) : Fin 3 → Nat :=
  let c0_394 : Index := 0#32
  let arg1 : BitVec 32 := BitVec.ofNat 32 (i 1).val
  let c128_i32_393 : BitVec 32 := 128#32
  let v701 : BitVec 32 := Scalar.muli arg1 c128_i32_393
  let v702 : BitVec 32 := v701
  let v703 : Index := Scalar.indexCast v702
  let c0_395 : Index := 0#32
  ![0, v703.toNat, 0]
def k0_off114 (i : grid0.Coords) : Fin 3 → Nat :=
  let c0_407 : Index := 0#32
  let arg1 : BitVec 32 := BitVec.ofNat 32 (i 1).val
  let c128_i32_393 : BitVec 32 := 128#32
  let v701 : BitVec 32 := Scalar.muli arg1 c128_i32_393
  let v702 : BitVec 32 := v701
  let v715 : Index := Scalar.indexCast v702
  let c128_408 : Index := 128#32
  ![0, v715.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c20_i32 : BitVec 32 := 20#32
  let c0_i32_0 : BitVec 32 := 0#32
  ![arg0.toNat, c0_i32.toNat, c20_i32.toNat]

def cc0_transform_7 (i : grid0.Coords) : Fin 3 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, arg1.toNat, c21_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x2x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Kernel2.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S1x2048x5632 : Shape := ⟨3, ![1, 2048, 5632]⟩
abbrev S5632x2048 : Shape := ⟨2, ![5632, 2048]⟩
abbrev S1x5632x2048 : Shape := ⟨3, ![1, 5632, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 25
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048, .f32⟩
  | .hbm, ⟨5, _⟩ => ⟨S2048x5504, .f32⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x5632, .bf16⟩
  | .hbm, ⟨10, _⟩ => ⟨S1x2048x5632, .bf16⟩
  | .hbm, ⟨11, _⟩ => ⟨S2048x5504, .f32⟩
  | .hbm, ⟨12, _⟩ => ⟨S2048x5504, .bf16⟩
  | .hbm, ⟨13, _⟩ => ⟨S_, .i32⟩
  | .hbm, ⟨14, _⟩ => ⟨S_, .bf16⟩
  | .hbm, ⟨15, _⟩ => ⟨S2048x5632, .bf16⟩
  | .hbm, ⟨16, _⟩ => ⟨S1x2048x5632, .bf16⟩
  | .hbm, ⟨17, _⟩ => ⟨S5504x2048, .bf16⟩
  | .hbm, ⟨18, _⟩ => ⟨S_, .i32⟩
  | .hbm, ⟨19, _⟩ => ⟨S_, .bf16⟩
  | .hbm, ⟨20, _⟩ => ⟨S5632x2048, .bf16⟩
  | .hbm, ⟨21, _⟩ => ⟨S1x5632x2048, .bf16⟩
  | .hbm, ⟨22, _⟩ => ⟨S1x2048, .f32⟩
  | .hbm, ⟨23, _⟩ => ⟨S1x2048, .f32⟩
  | .hbm, ⟨24, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_21 : BitVec 32 := 0#32
  let c4_i32 : BitVec 32 := 4#32
  let v30 : BitVec 32 := Scalar.addi c0_i32_21 c4_i32
  let c1_i32 : BitVec 32 := 1#32
  ⟨c0_i32_21, v30, c1_i32⟩
def k0_mult1 (k0_t1 : Fin k0_t1_loop.trips) : BitVec 32 :=
  let c0_i32_21 : BitVec 32 := 0#32
  let c1_i32 : BitVec 32 := 1#32
  let arg10 : BitVec 32 := Scf.iv c0_i32_21 c1_i32 k0_t1
  let c256_i32 : BitVec 32 := 256#32
  let v31 : BitVec 32 := Scalar.muli arg10 c256_i32
  v31
def k0_off1 (k0_t1 : Fin k0_t1_loop.trips) : Fin 2 → Nat :=
  let c0_i32_21 : BitVec 32 := 0#32
  let c1_i32 : BitVec 32 := 1#32
  let arg10 : BitVec 32 := Scf.iv c0_i32_21 c1_i32 k0_t1
  let c256_i32 : BitVec 32 := 256#32
  let v31 : BitVec 32 := Scalar.muli arg10 c256_i32
  let v32 : BitVec 32 := v31
  let v33 : Index := Scalar.indexCast v32
  let c0_23 : Index := 0#32
  ![v33.toNat, 0]
def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_20 : BitVec 32 := 0#32
  let v29 : BitVec 1 := Scalar.cmpi .ne v28 c0_i32_20
  v29

@[reducible] def k0_t2_loop : Scf.Loop 32 :=
  let c0_i32_21 : BitVec 32 := 0#32
  let c4_i32 : BitVec 32 := 4#32
  let v30 : BitVec 32 := Scalar.addi c0_i32_21 c4_i32
  let c1_i32 : BitVec 32 := 1#32
  ⟨c0_i32_21, v30, c1_i32⟩
def k0_mult2 (k0_t2 : Fin k0_t2_loop.trips) : BitVec 32 :=
  let c0_i32_21 : BitVec 32 := 0#32
  let c1_i32 : BitVec 32 := 1#32
  let arg10 : BitVec 32 := Scf.iv c0_i32_21 c1_i32 k0_t2
  let c256_i32 : BitVec 32 := 256#32
  let v31 : BitVec 32 := Scalar.muli arg10 c256_i32
  v31
def k0_off2 (k0_t2 : Fin k0_t2_loop.trips) : Fin 2 → Nat :=
  let c0_i32_21 : BitVec 32 := 0#32
  let c1_i32 : BitVec 32 := 1#32
  let arg10 : BitVec 32 := Scf.iv c0_i32_21 c1_i32 k0_t2
  let c256_i32 : BitVec 32 := 256#32
  let v31 : BitVec 32 := Scalar.muli arg10 c256_i32
  let v32 : BitVec 32 := v31
  let v33 : Index := Scalar.indexCast v32
  let c0_23 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11008 : Shape := ⟨2, ![16384, 11008]⟩
abbrev S16384x5504 : Shape := ⟨2, ![16384, 5504]⟩

abbrev nBuf : Space → Nat
  | .hbm => 55
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x11008, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S16384x5504, .f32⟩
  | .hbm, ⟨26, _⟩ => ⟨S_, .f32⟩
  | .hbm, ⟨27, _⟩ => ⟨S16384x5504, .f32⟩
  | .hbm, ⟨28, _⟩ => ⟨S16384x5504, .f32⟩
  | .hbm, ⟨29, _⟩ => ⟨S_, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x1, .f32⟩
  | .hbm, ⟨50, _⟩ => ⟨S16384x2048, .f32⟩
  | .hbm, ⟨51, _⟩ => ⟨S16384x2048, .f32⟩
  | .hbm, ⟨52, _⟩ => ⟨S1x2048, .f32⟩
  | .hbm, ⟨53, _⟩ => ⟨S16384x2048, .f32⟩
  | .hbm, ⟨54, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S2048x5504 : Shape := ⟨2, ![2048, 5504]⟩
abbrev S_ : Shape := ⟨0, ![]⟩
abbrev S2048x5632 : Shape := ⟨2, ![2048, 5632]⟩
abbrev S1x2048x5632 : Shape := ⟨3, ![1, 2048, 5632]⟩
abbrev S5632x2048 : Shape := ⟨2, ![5632, 2048]⟩
abbrev S1x5632x2048 : Shape := ⟨3, ![1, 5632, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 25
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048, .f32⟩
  | .hbm, ⟨5, _⟩ => ⟨S2048x5504, .f32⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x5632, .bf16⟩
  | .hbm, ⟨10, _⟩ => ⟨S1x2048x5632, .bf16⟩
  | .hbm, ⟨11, _⟩ => ⟨S2048x5504, .f32⟩
  | .hbm, ⟨12, _⟩ => ⟨S2048x5504, .bf16⟩
  | .hbm, ⟨13, _⟩ => ⟨S_, .i32⟩
  | .hbm, ⟨14, _⟩ => ⟨S_, .bf16⟩
  | .hbm, ⟨15, _⟩ => ⟨S2048x5632, .bf16⟩
  | .hbm, ⟨16, _⟩ => ⟨S1x2048x5632, .bf16⟩
  | .hbm, ⟨17, _⟩ => ⟨S5504x2048, .bf16⟩
  | .hbm, ⟨18, _⟩ => ⟨S_, .i32⟩
  | .hbm, ⟨19, _⟩ => ⟨S_, .bf16⟩
  | .hbm, ⟨20, _⟩ => ⟨S5632x2048, .bf16⟩
  | .hbm, ⟨21, _⟩ => ⟨S1x5632x2048, .bf16⟩
  | .hbm, ⟨22, _⟩ => ⟨S1x2048, .f32⟩
  | .hbm, ⟨23, _⟩ => ⟨S1x2048, .f32⟩
  | .hbm, ⟨24, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_call2_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_21 : BitVec 32 := 0#32
  let c4_i32 : BitVec 32 := 4#32
  let v30 : BitVec 32 := Scalar.addi c0_i32_21 c4_i32
  let c1_i32 : BitVec 32 := 1#32
  ⟨c0_i32_21, v30, c1_i32⟩
def k0_mult1 (k0_t1 : Fin k0_t1_loop.trips) : BitVec 32 :=
  let c0_i32_21 : BitVec 32 := 0#32
  let c1_i32 : BitVec 32 := 1#32
  let arg10 : BitVec 32 := Scf.iv c0_i32_21 c1_i32 k0_t1
  let c256_i32 : BitVec 32 := 256#32
  let v31 : BitVec 32 := Scalar.muli arg10 c256_i32
  v31
def k0_off1 (k0_t1 : Fin k0_t1_loop.trips) : Fin 2 → Nat :=
  let c0_i32_21 : BitVec 32 := 0#32
  let c1_i32 : BitVec 32 := 1#32
  let arg10 : BitVec 32 := Scf.iv c0_i32_21 c1_i32 k0_t1
  let c256_i32 : BitVec 32 := 256#32
  let v31 : BitVec 32 := Scalar.muli arg10 c256_i32
  let v32 : BitVec 32 := v31
  let v33 : Index := Scalar.indexCast v32
  let c0_23 : Index := 0#32
  ![v33.toNat, 0]
def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_20 : BitVec 32 := 0#32
  let v29 : BitVec 1 := Scalar.cmpi .ne v28 c0_i32_20
  v29

@[reducible] def k0_t2_loop : Scf.Loop 32 :=
  let c0_i32_21 : BitVec 32 := 0#32
  let c4_i32 : BitVec 32 := 4#32
  let v30 : BitVec 32 := Scalar.addi c0_i32_21 c4_i32
  let c1_i32 : BitVec 32 := 1#32
  ⟨c0_i32_21, v30, c1_i32⟩
def k0_mult2 (k0_t2 : Fin k0_t2_loop.trips) : BitVec 32 :=
  let c0_i32_21 : BitVec 32 := 0#32
  let c1_i32 : BitVec 32 := 1#32
  let arg10 : BitVec 32 := Scf.iv c0_i32_21 c1_i32 k0_t2
  let c256_i32 : BitVec 32 := 256#32
  let v31 : BitVec 32 := Scalar.muli arg10 c256_i32
  v31
def k0_off2 (k0_t2 : Fin k0_t2_loop.trips) : Fin 2 → Nat :=
  let c0_i32_21 : BitVec 32 := 0#32
  let c1_i32 : BitVec 32 := 1#32
  let arg10 : BitVec 32 := Scf.iv c0_i32_21 c1_i32 k0_t2
  let c256_i32 : BitVec 32 := 256#32
  let v31 : BitVec 32 := Scalar.muli arg10 c256_i32
  let v32 : BitVec 32 := v31
  let v33 : Index := Scalar.indexCast v32
  let c0_23 : Index := 0#32
  ![v33.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x2048 : Shape := ⟨2, ![16384, 2048]⟩
abbrev S2048 : Shape := ⟨1, ![2048]⟩
abbrev S2048x11008 : Shape := ⟨2, ![2048, 11008]⟩
abbrev S5504x2048 : Shape := ⟨2, ![5504, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11008 : Shape := ⟨2, ![16384, 11008]⟩
abbrev S16384x5504 : Shape := ⟨2, ![16384, 5504]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11008, .f32⟩
  | .hbm, ⟨3, _⟩ => ⟨S5504x2048, .f32⟩
  | .hbm, ⟨4, _⟩ => ⟨S2048, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S16384x11008, .f32⟩
  | .hbm, ⟨22, _⟩ => ⟨S16384x5504, .f32⟩
  | .hbm, ⟨23, _⟩ => ⟨S16384x5504, .f32⟩
  | .hbm, ⟨24, _⟩ => ⟨S16384x5504, .f32⟩
  | .hbm, ⟨25, _⟩ => ⟨S16384x5504, .f32⟩
  | .hbm, ⟨26, _⟩ => ⟨S_, .f32⟩
  | .hbm, ⟨27, _⟩ => ⟨S16384x5504, .f32⟩
  | .hbm, ⟨28, _⟩ => ⟨S16384x5504, .f32⟩
  | .hbm, ⟨29, _⟩ => ⟨S_, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x5504, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel4.lean ====
abbrev S16384x2048 : Shape := ⟨2, ![16384, 2048]⟩
abbrev S2048 : Shape := ⟨1, ![2048]⟩
abbrev S16384x1024 : Shape := ⟨2, ![16384, 1024]⟩
abbrev S2048x11076 : Shape := ⟨2, ![2048, 11076]⟩
abbrev S3x1024x2048 : Shape := ⟨3, ![3, 1024, 2048]⟩
abbrev S2048x2048 : Shape := ⟨2, ![2048, 2048]⟩
abbrev S1x2048 : Shape := ⟨2, ![1, 2048]⟩
abbrev S2048x6144 : Shape := ⟨2, ![2048, 6144]⟩
abbrev S1x2048x6144 : Shape := ⟨3, ![1, 2048, 6144]⟩
abbrev S1x3x1024x2048 : Shape := ⟨4, ![1, 3, 1024, 2048]⟩
abbrev S1x2048x2048 : Shape := ⟨3, ![1, 2048, 2048]⟩
abbrev S512x2048 : Shape := ⟨2, ![512, 2048]⟩
abbrev S512x1024 : Shape := ⟨2, ![512, 1024]⟩
abbrev S1x2048x512 : Shape := ⟨3, ![1, 2048, 512]⟩
abbrev S1x3x1024x512 : Shape := ⟨4, ![1, 3, 1024, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1x1x1024x512 : Shape := ⟨4, ![1, 1, 1024, 512]⟩
abbrev S1024x512 : Shape := ⟨2, ![1024, 512]⟩

abbrev nBuf : Space → Nat
  | .hbm => 17
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S2048x11076, .f32⟩
  | .hbm, ⟨6, _⟩ => ⟨S3x1024x2048, .f32⟩
  | .hbm, ⟨7, _⟩ => ⟨S2048x2048, .f32⟩
  | .hbm, ⟨8, _⟩ => ⟨S1x2048, .f32⟩
  | .hbm, ⟨9, _⟩ => ⟨S2048x6144, .f32⟩
  | .hbm, ⟨10, _⟩ => ⟨S2048x6144, .bf16⟩
  | .hbm, ⟨11, _⟩ => ⟨S1x2048x6144, .bf16⟩
  | .hbm, ⟨12, _⟩ => ⟨S3x1024x2048, .bf16⟩
  | .hbm, ⟨13, _⟩ => ⟨S1x3x1024x2048, .bf16⟩
  | .hbm, ⟨14, _⟩ => ⟨S2048x2048, .bf16⟩
  | .hbm, ⟨15, _⟩ => ⟨S1x2048x2048, .bf16⟩
  | .hbm, ⟨16, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S1x2048x512, .bf16⟩
  | .local _ .vmem, ⟨15, _⟩ => ⟨S1x3x1024x512, .bf16⟩
  | .local _ .vmem, ⟨16, _⟩ => ⟨S1x3x1024x512, .bf16⟩
  | .local _ .vmem, ⟨17, _⟩ => ⟨S1x512x2048, .bf16⟩
  | .local _ .vmem, ⟨18, _⟩ => ⟨S1x512x2048, .bf16⟩
  | .local _ .vmem, ⟨19, _⟩ => ⟨S512x2048, .f32⟩
  | .local _ .vmem, ⟨20, _⟩ => ⟨S512x2048, .f32⟩
  | .local _ .vmem, ⟨21, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x3x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference4Ideal.lean ====
abbrev S16384x2048 : Shape := ⟨2, ![16384, 2048]⟩
abbrev S2048 : Shape := ⟨1, ![2048]⟩
abbrev S16384x1024 : Shape := ⟨2, ![16384, 1024]⟩
abbrev S2048x11076 : Shape := ⟨2, ![2048, 11076]⟩
abbrev S3x1024x2048 : Shape := ⟨3, ![3, 1024, 2048]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11076 : Shape := ⟨2, ![16384, 11076]⟩
abbrev S16384x6144 : Shape := ⟨2, ![16384, 6144]⟩
abbrev S16384x3x2048 : Shape := ⟨3, ![16384, 3, 2048]⟩
abbrev S16384x1x1024 : Shape := ⟨3, ![16384, 1, 1024]⟩
abbrev S16384x3x1024 : Shape := ⟨3, ![16384, 3, 1024]⟩
abbrev S3x2048x16384 : Shape := ⟨3, ![3, 2048, 16384]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S2048x11076, .f32⟩
  | .hbm, ⟨6, _⟩ => ⟨S3x1024x2048, .f32⟩
  | .hbm, ⟨7, _⟩ => ⟨S2048x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x11076, .f32⟩
  | .hbm, ⟨25, _⟩ => ⟨S16384x6144, .f32⟩
  | .hbm, ⟨26, _⟩ => ⟨S16384x3x2048, .f32⟩
  | .hbm, ⟨27, _⟩ => ⟨S16384x3x2048, .f32⟩
  | .hbm, ⟨28, _⟩ => ⟨S16384x3x2048, .f32⟩
  | .hbm, ⟨29, _⟩ => ⟨S_, .f32⟩
  | .hbm, ⟨30, _⟩ => ⟨S16384x3x2048, .f32⟩
  | .hbm, ⟨31, _⟩ => ⟨S16384x3x2048, .f32⟩
  | .hbm, ⟨32, _⟩ => ⟨S_, .f32⟩
  | .hbm, ⟨33, _⟩ => ⟨S16384x3x2048, .f32⟩
  | .hbm, ⟨34, _⟩ => ⟨S16384x3x2048, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1x1024, .f32⟩
  | .hbm, ⟨39, _⟩ => ⟨S16384x1x1024, .f32⟩
  | .hbm, ⟨40, _⟩ => ⟨S16384x1x1024, .f32⟩
  | .hbm, ⟨41, _⟩ => ⟨S16384x3x1024, .f32⟩
  | .hbm, ⟨42, _⟩ => ⟨S3x2048x16384, .f32⟩
  | .hbm, ⟨43, _⟩ => ⟨S16384x3x2048, .f32⟩
  | .hbm, ⟨44, _⟩ => ⟨S16384x2048, .f32⟩
  | .hbm, ⟨45, _⟩ => ⟨S16384x2048, .f32⟩
  | .hbm, ⟨46, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel5.lean ====
abbrev S16384x2048 : Shape := ⟨2, ![16384, 2048]⟩
abbrev S2048 : Shape := ⟨1, ![2048]⟩
abbrev S2048x11076 : Shape := ⟨2, ![2048, 11076]⟩
abbrev S2048x1024 : Shape := ⟨2, ![2048, 1024]⟩
abbrev S_ : Shape := ⟨0, ![]⟩
abbrev S2048x512 : Shape := ⟨2, ![2048, 512]⟩
abbrev S2048x2560 : Shape := ⟨2, ![2048, 2560]⟩
abbrev S2048x2048 : Shape := ⟨2, ![2048, 2048]⟩
abbrev S2048x64 : Shape := ⟨2, ![2048, 64]⟩
abbrev S2048x128 : Shape := ⟨2, ![2048, 128]⟩
abbrev S2048x4 : Shape := ⟨2, ![2048, 4]⟩
abbrev S2048x2816 : Shape := ⟨2, ![2048, 2816]⟩
abbrev S1x2048 : Shape := ⟨2, ![1, 2048]⟩
abbrev S1x2048x2560 : Shape := ⟨3, ![1, 2048, 2560]⟩
abbrev S1x2048x2816 : Shape := ⟨3, ![1, 2048, 2816]⟩
abbrev S16384x2560 : Shape := ⟨2, ![16384, 2560]⟩
abbrev S16384x2816 : Shape := ⟨2, ![16384, 2816]⟩
abbrev S256x2048 : Shape := ⟨2, ![256, 2048]⟩
abbrev S256x2560 : Shape := ⟨2, ![256, 2560]⟩
abbrev S256x2816 : Shape := ⟨2, ![256, 2816]⟩
abbrev S256 : Shape := ⟨1, ![256]⟩
abbrev S256x1 : Shape := ⟨2, ![256, 1]⟩

abbrev nBuf : Space → Nat
  | .hbm => 46
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11076, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x512, .f32⟩
  | .hbm, ⟨12, _⟩ => ⟨S2048x2560, .f32⟩
  | .hbm, ⟨13, _⟩ => ⟨S2048x2560, .bf16⟩
  | .hbm, ⟨14, _⟩ => ⟨S2048x2048, .f32⟩
  | .hbm, ⟨15, _⟩ => ⟨S2048x64, .f32⟩
  | .hbm, ⟨16, _⟩ => ⟨S_, .i32⟩
  | .hbm, ⟨17, _⟩ => ⟨S_, .f32⟩
  | .hbm, ⟨18, _⟩ => ⟨S2048x128, .f32⟩
  | .hbm, ⟨19, _⟩ => ⟨S2048x64, .f32⟩
  | .hbm, ⟨20, _⟩ => ⟨S_, .i32⟩
  | .hbm, ⟨21, _⟩ => ⟨S_, .f32⟩
  | .hbm, ⟨22, _⟩ => ⟨S2048x128, .f32⟩
  | .hbm, ⟨23, _⟩ => ⟨S2048x64, .f32⟩
  | .hbm, ⟨24, _⟩ => ⟨S_, .i32⟩
  | .hbm, ⟨25, _⟩ => ⟨S_, .f32⟩
  | .hbm, ⟨26, _⟩ => ⟨S2048x128, .f32⟩
  | .hbm, ⟨27, _⟩ => ⟨S2048x64, .f32⟩
  | .hbm, ⟨28, _⟩ => ⟨S_, .i32⟩
  | .hbm, ⟨29, _⟩ => ⟨S_, .f32⟩
  | .hbm, ⟨30, _⟩ => ⟨S2048x128, .f32⟩
  | .hbm, ⟨31, _⟩ => ⟨S2048x64, .f32⟩
  | .hbm, ⟨32, _⟩ => ⟨S_, .i32⟩
  | .hbm, ⟨33, _⟩ => ⟨S_, .f32⟩
  | .hbm, ⟨34, _⟩ => ⟨S2048x128, .f32⟩
  | .hbm, ⟨35, _⟩ => ⟨S2048x4, .f32⟩
  | .hbm, ⟨36, _⟩ => ⟨S_, .i32⟩
  | .hbm, ⟨37, _⟩ => ⟨S_, .f32⟩
  | .hbm, ⟨38, _⟩ => ⟨S2048x128, .f32⟩
  | .hbm, ⟨39, _⟩ => ⟨S2048x2816, .f32⟩
  | .hbm, ⟨40, _⟩ => ⟨S2048x2816, .bf16⟩
  | .hbm, ⟨41, _⟩ => ⟨S1x2048, .f32⟩
  | .hbm, ⟨42, _⟩ => ⟨S1x2048x2560, .bf16⟩
  | .hbm, ⟨43, _⟩ => ⟨S1x2048x2816, .bf16⟩
  | .hbm, ⟨44, _⟩ => ⟨S16384x2560, .bf16⟩
  | .hbm, ⟨45, _⟩ => ⟨S16384x2816, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x2560, .bf16⟩
  | .local _ .vmem, ⟨4, _⟩ => ⟨S1x2048x2816, .bf16⟩
  | .local _ .vmem, ⟨5, _⟩ => ⟨S256x2560, .bf16⟩
  | .local _ .vmem, ⟨6, _⟩ => ⟨S256x2560, .bf16⟩
  | .local _ .vmem, ⟨7, _⟩ => ⟨S256x2816, .f32⟩
  | .local _ .vmem, ⟨8, _⟩ => ⟨S256x2816, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_call0_v0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call1_v0 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_call2_v0 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_call3_v0 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_call4_v0 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_call5_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S16384x2048 : Shape := ⟨2, ![16384, 2048]⟩
abbrev S2048 : Shape := ⟨1, ![2048]⟩
abbrev S2048x11076 : Shape := ⟨2, ![2048, 11076]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11076 : Shape := ⟨2, ![16384, 11076]⟩
abbrev S16384x1024 : Shape := ⟨2, ![16384, 1024]⟩
abbrev S16384x512 : Shape := ⟨2, ![16384, 512]⟩
abbrev S16384x256 : Shape := ⟨2, ![16384, 256]⟩
abbrev S16384x64 : Shape := ⟨2, ![16384, 64]⟩
abbrev S16384x4 : Shape := ⟨2, ![16384, 4]⟩
abbrev S16384x6144 : Shape := ⟨2, ![16384, 6144]⟩
abbrev S16384x2560 : Shape := ⟨2, ![16384, 2560]⟩
abbrev S16384x128 : Shape := ⟨2, ![16384, 128]⟩
abbrev S16384x2816 : Shape := ⟨2, ![16384, 2816]⟩

abbrev nBuf : Space → Nat
  | .hbm => 59
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x11076, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x11076, .f32⟩
  | .hbm, ⟨20, _⟩ => ⟨S16384x1024, .f32⟩
  | .hbm, ⟨21, _⟩ => ⟨S16384x512, .f32⟩
  | .hbm, ⟨22, _⟩ => ⟨S16384x256, .f32⟩
  | .hbm, ⟨23, _⟩ => ⟨S16384x64, .f32⟩
  | .hbm, ⟨24, _⟩ => ⟨S16384x4, .f32⟩
  | .hbm, ⟨25, _⟩ => ⟨S16384x2048, .f32⟩
  | .hbm, ⟨26, _⟩ => ⟨S16384x1024, .f32⟩
  | .hbm, ⟨27, _⟩ => ⟨S16384x6144, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S16384x2560, .f32⟩
  | .hbm, ⟨35, _⟩ => ⟨S16384x64, .f32⟩
  | .hbm, ⟨36, _⟩ => ⟨S16384x64, .f32⟩
  | .hbm, ⟨37, _⟩ => ⟨S16384x64, .f32⟩
  | .hbm, ⟨38, _⟩ => ⟨S16384x64, .f32⟩
  | .hbm, ⟨39, _⟩ => ⟨S_, .i32⟩
  | .hbm, ⟨40, _⟩ => ⟨S_, .f32⟩
  | .hbm, ⟨41, _⟩ => ⟨S16384x128, .f32⟩
  | .hbm, ⟨42, _⟩ => ⟨S_, .i32⟩
  | .hbm, ⟨43, _⟩ => ⟨S_, .f32⟩
  | .hbm, ⟨44, _⟩ => ⟨S16384x128, .f32⟩
  | .hbm, ⟨45, _⟩ => ⟨S_, .i32⟩
  | .hbm, ⟨46, _⟩ => ⟨S_, .f32⟩
  | .hbm, ⟨47, _⟩ => ⟨S16384x128, .f32⟩
  | .hbm, ⟨48, _⟩ => ⟨S_, .i32⟩
  | .hbm, ⟨49, _⟩ => ⟨S_, .f32⟩
  | .hbm, ⟨50, _⟩ => ⟨S16384x128, .f32⟩
  | .hbm, ⟨51, _⟩ => ⟨S_, .i32⟩
  | .hbm, ⟨52, _⟩ => ⟨S_, .f32⟩
  | .hbm, ⟨53, _⟩ => ⟨S16384x128, .f32⟩
  | .hbm, ⟨54, _⟩ => ⟨S_, .i32⟩
  | .hbm, ⟨55, _⟩ => ⟨S_, .f32⟩
  | .hbm, ⟨56, _⟩ => ⟨S16384x128, .f32⟩
  | .hbm, ⟨57, _⟩ => ⟨S16384x2816, .f32⟩
  | .hbm, ⟨58, _⟩ => ⟨S16384x2560, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c : Ref sig .tc := ⟨.hbm, 39, rfl⟩
abbrev main_call0_v0 : Ref sig .tc := ⟨.hbm, 40, rfl⟩
abbrev main_v31 : Ref sig .tc := ⟨.hbm, 41, rfl⟩
abbrev main_c_4 : Ref sig .tc := ⟨.hbm, 42, rfl⟩
abbrev main_call1_v0 : Ref sig .tc := ⟨.hbm, 43, rfl⟩
abbrev main_v32 : Ref sig .tc := ⟨.hbm, 44, rfl⟩
abbrev main_c_5 : Ref sig .tc := ⟨.hbm, 45, rfl⟩
abbrev main_call2_v0 : Ref sig .tc := ⟨.hbm, 46, rfl⟩
abbrev main_v33 : Ref sig .tc := ⟨.hbm, 47, rfl⟩
abbrev main_c_6 : Ref sig .tc := ⟨.hbm, 48, rfl⟩
abbrev main_call3_v0 : Ref sig .tc := ⟨.hbm, 49, rfl⟩
abbrev main_v34 : Ref sig .tc := ⟨.hbm, 50, rfl⟩
abbrev main_c_7 : Ref sig .tc := ⟨.hbm, 51, rfl⟩
abbrev main_call4_v0 : Ref sig .tc := ⟨.hbm, 52, rfl⟩
abbrev main_v35 : Ref sig .tc := ⟨.hbm, 53, rfl⟩
abbrev main_c_8 : Ref sig .tc := ⟨.hbm, 54, rfl⟩
abbrev main_call5_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Kernel7.lean ====
abbrev S512x2048 : Shape := ⟨2, ![512, 2048]⟩
abbrev S2048 : Shape := ⟨1, ![2048]⟩
abbrev S2048x2048 : Shape := ⟨2, ![2048, 2048]⟩
abbrev S1x2048 : Shape := ⟨2, ![1, 2048]⟩
abbrev S1x2048x2048 : Shape := ⟨3, ![1, 2048, 2048]⟩
abbrev S256x2048 : Shape := ⟨2, ![256, 2048]⟩
abbrev S1x2048x256 : Shape := ⟨3, ![1, 2048, 256]⟩
abbrev S256x256 : Shape := ⟨2, ![256, 256]⟩
abbrev S256 : Shape := ⟨1, ![256]⟩
abbrev S256x1 : Shape := ⟨2, ![256, 1]⟩
abbrev S2048x256 : Shape := ⟨2, ![2048, 256]⟩

abbrev nBuf : Space → Nat
  | .hbm => 7
  | .vmem => 8
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S1x2048x2048, .bf16⟩
  | .hbm, ⟨6, _⟩ => ⟨S512x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x256, .bf16⟩
  | .local _ .vmem, ⟨4, _⟩ => ⟨S1x2048x256, .bf16⟩
  | .local _ .vmem, ⟨5, _⟩ => ⟨S256x256, .bf16⟩
  | .local _ .vmem, ⟨6, _⟩ => ⟨S256x256, .bf16⟩
  | .local _ .vmem, ⟨7, _⟩ => ⟨S256x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S512x2048 : Shape := ⟨2, ![512, 2048]⟩
abbrev S2048 : Shape := ⟨1, ![2048]⟩
abbrev S2048x2048 : Shape := ⟨2, ![2048, 2048]⟩
abbrev S_ : Shape := ⟨0, ![]⟩
abbrev S512 : Shape := ⟨1, ![512]⟩
abbrev S512x1 : Shape := ⟨2, ![512, 1]⟩
abbrev S1x2048 : Shape := ⟨2, ![1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x2048, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S512x2048, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S2x8192x2560 : Shape := ⟨3, ![2, 8192, 2560]⟩
abbrev S2x256x2048 : Shape := ⟨3, ![2, 256, 2048]⟩
abbrev S2x8192x1024 : Shape := ⟨3, ![2, 8192, 1024]⟩
abbrev S1x512x1024 : Shape := ⟨3, ![1, 512, 1024]⟩
abbrev S1x256x2048 : Shape := ⟨3, ![1, 256, 2048]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x2560, .bf16⟩
  | .hbm, ⟨1, _⟩ => ⟨S2x256x2048, .bf16⟩
  | .hbm, ⟨2, _⟩ => ⟨S2x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x512x1024, .bf16⟩
  | .local _ .vmem, ⟨5, _⟩ => ⟨S1x512x1024, .bf16⟩
  | _, _ => ⟨S2x8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x8192x2560 : Shape := ⟨3, ![2, 8192, 2560]⟩
abbrev S2x256x2048 : Shape := ⟨3, ![2, 256, 2048]⟩
abbrev S2x8192x1024 : Shape := ⟨3, ![2, 8192, 1024]⟩
abbrev S2x8192x4x256 : Shape := ⟨4, ![2, 8192, 4, 256]⟩
abbrev S2x256x1024 : Shape := ⟨3, ![2, 256, 1024]⟩
abbrev S2x256x4x256 : Shape := ⟨4, ![2, 256, 4, 256]⟩
abbrev S2x4x8192x256 : Shape := ⟨4, ![2, 4, 8192, 256]⟩
abbrev S_ : Shape := ⟨0, ![]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 29
  | .vmem => 0
  | .smem => 0
  | _ => 0

abbrev bufTy : (tb : Table) → Fin (tcTables nBuf tb) → BufTy
  | .hbm, ⟨0, _⟩ => ⟨S2x8192x2560, .bf16⟩
  | .hbm, ⟨1, _⟩ => ⟨S2x256x2048, .bf16⟩
  | .hbm, ⟨2, _⟩ => ⟨S2x8192x1024, .bf16⟩
  | .hbm, ⟨3, _⟩ => ⟨S2x8192x4x256, .bf16⟩
  | .hbm, ⟨4, _⟩ => ⟨S2x8192x4x256, .f32⟩
  | .hbm, ⟨5, _⟩ => ⟨S2x256x2048, .f32⟩
  | .hbm, ⟨6, _⟩ => ⟨S2x256x1024, .f32⟩
  | .hbm, ⟨7, _⟩ => ⟨S2x256x1024, .f32⟩
  | .hbm, ⟨8, _⟩ => ⟨S2x256x4x256, .f32⟩
  | .hbm, ⟨9, _⟩ => ⟨S2x256x4x256, .f32⟩
  | .hbm, ⟨10, _⟩ => ⟨S2x4x8192x256, .f32⟩
  | .hbm, ⟨11, _⟩ => ⟨S_, .f32⟩
  | .hbm, ⟨12, _⟩ => ⟨S2x4x8192, .f32⟩
  | .hbm, ⟨13, _⟩ => ⟨S_, .f32⟩
  | .hbm, ⟨14, _⟩ => ⟨S2x4x8192, .f32⟩
  | .hbm, ⟨15, _⟩ => ⟨S2x4x8192, .f32⟩
  | .hbm, ⟨16, _⟩ => ⟨S2x4x8192x1, .f32⟩
  | .hbm, ⟨17, _⟩ => ⟨S2x4x8192x256, .f32⟩
  | .hbm, ⟨18, _⟩ => ⟨S2x4x8192x256, .f32⟩
  | .hbm, ⟨19, _⟩ => ⟨S2x4x8192x256, .f32⟩
  | .hbm, ⟨20, _⟩ => ⟨S_, .f32⟩
  | .hbm, ⟨21, _⟩ => ⟨S2x4x8192, .f32⟩
  | .hbm, ⟨22, _⟩ => ⟨S2x4x8192x1, .f32⟩
  | .hbm, ⟨23, _⟩ => ⟨S2x4x8192x256, .f32⟩
  | .hbm, ⟨24, _⟩ => ⟨S2x4x8192x256, .f32⟩
  | .hbm, ⟨25, _⟩ => ⟨S2x4x256x8192, .f32⟩
  | .hbm, ⟨26, _⟩ => ⟨S2x8192x4x256, .f32⟩
  | .hbm, ⟨27, _⟩ => ⟨S2x8192x1024, .f32⟩
  | .hbm, ⟨28, _⟩ => ⟨S2x8192x1024, .bf16⟩
  | _, _ => ⟨S2x8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Proof.Safe.lean ====
/- Programs that neither fault nor lose a buffer, whatever the buffers hold: the assertion `R` holds every buffer the
   program touches at some contents, and the program runs from `R` back to `R`. The frame of a kernel follows from
   this alone, so the lemmas here take a kernel's body apart statement by statement and say nothing of values. -/
module

public import Idealize.ShloMosaic.Lib.Pipeline.Kit
public import Idealize.ShloMosaic.Lib.Scf
public import Idealize.ShloMosaic.Rules.Step

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

local notation "𝕄" => MT nD τ sig Unit Val ℕ (UR sig nD τ) ℕ

/-- The core `c` holds the buffer elements of the memref `m`, at some contents. -/
def Held (c : Dev nD) {sp : Space} {s : Shape} {e : EltTy} (m : Memref sig .tc sp s e) : sProp 𝕄 :=
  iprop(∃ f, (m.view.loc (c.tc : Thread nD τ) ↦[m.view.set]{fullShare} f))

/-- Among what `R` holds is the memref `m`, at some contents. -/
class Has (R : sProp 𝕄) (c : Dev nD) {sp : Space} {s : Shape} {e : EltTy} (m : Memref sig .tc sp s e) : Prop where
  /-- `R` is the memref and something else. -/
  split : ∃ R' : sProp 𝕄, (R ⊢ iprop(Held c m ∗ R')) ∧ (iprop(Held c m ∗ R') ⊢ R)

/-- The program `p` runs from `R` back to `R`. -/
def Safe (defs : Defs nD τ sig Val Λ) (𝒱 : Variants) (c : Dev nD) (R : sProp 𝕄) {α : Type}
    (p : Prog (TpuEff nD τ sig Val Λ .tc) α) : Prop :=
  R ⊢ wp frame (wpE defs 𝒱 (c.tc : Thread nD τ) none) Set.univ p (fun _ => R)

variable {defs : Defs nD τ sig Val Λ} {𝒱 : Variants} {c : Dev nD} {α β : Type}
variable {R : sProp (MT nD τ sig Unit Val ℕ (UR sig nD τ) ℕ)}

/-- A value returned. -/
theorem safe_pure (a : α) : Safe defs 𝒱 c R (pure a : Prog (TpuEff nD τ sig Val Λ .tc) α) :=
  le_wp_ret _ _ _ a (fun _ => R)

/-- One program after another. -/
theorem safe_bind {p : Prog (TpuEff nD τ sig Val Λ .tc) α} {k : α → Prog (TpuEff nD τ sig Val Λ .tc) β}
    (hp : Safe defs 𝒱 c R p) (hk : ∀ a, Safe defs 𝒱 c R (k a)) : Safe defs 𝒱 c R (p >>= k) := by
  unfold Safe
  rw [wp_bind]
  exact (show R ⊢ _ from hp).trans (wp_mono _ _ _ fun a => hk a)

/-- To speak of every pair, speak of every two components. -/
theorem forall_psigma {A : Sort*} {B : A → Sort*} {P : (Σ' a, B a) → Prop} (h : ∀ a (b : B a), P ⟨a, b⟩) : ∀ x, P x :=
  fun ⟨a, b⟩ => h a b

/-- To speak of every pair, speak of every two components. -/
theorem forall_prod {A B : Type} {P : A × B → Prop} (h : ∀ a b, P (a, b)) : ∀ x, P x :=
  fun ⟨a, b⟩ => h a b

/-- A load from a memref held. -/
theorem safe_load {s : Shape} {e : EltTy} {cs : CoreSpace} {m : Memref sig .tc cs s e} [hm : Has R c m]
    {r : LoadRect s} {hl : m.view.LoadsAt r} :
    Safe defs 𝒱 c R (Prog.lift (.load m r hl)) := by
  obtain ⟨R', h₁, h₂⟩ := hm.split
  unfold Safe Held at *
  refine h₁.trans ?_
  iintro ⟨⟨%f, H⟩, HR⟩
  iapply (wp_load (defs := defs) 𝒱 (c.tc : Thread nD τ) none Set.univ (m.view.setOn_subset_set r.set)) $$ H
  iintro H
  rw [wp_ret]
  imodintro
  iapply h₂
  isplitl [H]
  · iexists f; iexact H
  · iexact HR

/-- A store into a memref held. -/
theorem safe_store {s : Shape} {e : EltTy} {cs : CoreSpace} {m : Memref sig .tc cs s e} [hm : Has R c m]
    {r : Rect s} {w : r.shape.Idx → Val e} {Mk : Finset r.shape.Idx} {hx : (m.access r).Stores Mk}
    {hs : Mk = Finset.univ ∨ ∀ a, r.stride a = 1} :
    Safe defs 𝒱 c R (Prog.lift (.store m r w Mk hx hs)) := by
  obtain ⟨R', h₁, h₂⟩ := hm.split
  unfold Safe Held at *
  refine h₁.trans ?_
  iintro ⟨⟨%f, H⟩, HR⟩
  iapply (wp_store (defs := defs) 𝒱 (c.tc : Thread nD τ) none Set.univ (hx := hx) (hm := hs)
    (((m.access r).setOn_subset_set Mk).trans (m.view.set_slice_subset r))) $$ H
  iintro H
  rw [wp_ret]
  imodintro
  iapply h₂
  isplitl [H]
  · iexists _; iexact H
  · iexact HR

/-- A counted loop of safe trips. -/
theorem safe_for {w : Nat} {l : Scf.Loop w} {hok : l.OK} {init : α}
    {body : Fin l.trips → α → Prog (TpuEff nD τ sig Val Λ .tc) α}
    (h : ∀ k a, Safe defs 𝒱 c R (body k a)) : Safe defs 𝒱 c R (Scf.Loop.for l hok init body) := by
  unfold Safe
  iintro H
  iapply (Scf.wp_for _ _ _ l.lb l.ub l.st hok init body (fun _ _ => R) h)
  isplitl [H]
  · iexact H
  · iintro %a H; iexact H

/-- A branch on a condition, either side of it safe. -/
theorem safe_dite {b : Prop} [Decidable b] {p : b → Prog (TpuEff nD τ sig Val Λ .tc) α}
    {q : ¬ b → Prog (TpuEff nD τ sig Val Λ .tc) α}
    (hp : ∀ h, Safe defs 𝒱 c R (p h)) (hq : ∀ h, Safe defs 𝒱 c R (q h)) : Safe defs 𝒱 c R (dite b p q) := by
  by_cases h : b
  · rw [dif_pos h]; exact hp h
  · rw [dif_neg h]; exact hq h

/-- The same on a condition neither side mentions. -/
theorem safe_ite {b : Prop} [Decidable b] {p q : Prog (TpuEff nD τ sig Val Λ .tc) α}
    (hp : Safe defs 𝒱 c R p) (hq : Safe defs 𝒱 c R q) : Safe defs 𝒱 c R (ite b p q) := by
  by_cases h : b
  · rw [if_pos h]; exact hp
  · rw [if_neg h]; exact hq

/-- A memref held is among what is held. -/
instance has_self {sp : Space} {s : Shape} {e : EltTy} {m : Memref sig .tc sp s e} :
    Has (Held c m : sProp (MT nD τ sig Unit Val ℕ (UR sig nD τ) ℕ)) c m where
  split := ⟨iprop(emp), Laws.sep_emp.2, Laws.sep_emp.1⟩

/-- Held on the left of a conjunction. -/
instance has_left {P Q : sProp (MT nD τ sig Unit Val ℕ (UR sig nD τ) ℕ)} {sp : Space} {s : Shape} {e : EltTy}
    {m : Memref sig .tc sp s e} [h : Has P c m] : Has iprop(P ∗ Q) c m where
  split := by
    obtain ⟨R', h₁, h₂⟩ := h.split
    refine ⟨iprop(R' ∗ Q), (sep_mono h₁ .rfl).trans ?_, .trans ?_ (sep_mono h₂ .rfl)⟩
    · iintro ⟨⟨H, HR⟩, HQ⟩; isplitl [H]
      · iexact H
      · isplitl [HR]
        · iexact HR
        · iexact HQ
    · iintro ⟨H, HR, HQ⟩; isplitl [H HR]
      · isplitl [H]
        · iexact H
        · iexact HR
      · iexact HQ

/-- Held on the right of a conjunction. -/
instance has_right {P Q : sProp (MT nD τ sig Unit Val ℕ (UR sig nD τ) ℕ)} {sp : Space} {s : Shape} {e : EltTy}
    {m : Memref sig .tc sp s e} [h : Has Q c m] : Has iprop(P ∗ Q) c m where
  split := by
    obtain ⟨R', h₁, h₂⟩ := h.split
    refine ⟨iprop(P ∗ R'), (sep_mono .rfl h₁).trans ?_, .trans ?_ (sep_mono .rfl h₂)⟩
    · iintro ⟨HP, H, HR⟩; isplitl [H]
      · iexact H
      · isplitl [HP]
        · iexact HP
        · iexact HR
    · iintro ⟨H, HP, HR⟩; isplitl [HP]
      · iexact HP
      · isplitl [H]
        · iexact H
        · iexact HR

/-- A memref owned at given contents is held. -/
theorem held_of_owns {sp : Space} {s : Shape} {e : EltTy} {m : Memref sig .tc sp s e} (X : s.Idx → Val e) :
    (owns (c.tc : Thread nD τ) m fullShare X : sProp (MT nD τ sig Unit Val ℕ (UR sig nD τ) ℕ)) ⊢ Held c m := by
  unfold owns Held
  iintro ⟨%f, -, H⟩
  iexists f; iexact H

/-- A memref held is owned at some contents, of which anything that holds of all may be said. -/
theorem owns_of_held {sp : Space} {s : Shape} {e : EltTy} {m : Memref sig .tc sp s e} {p : (s.Idx → Val e) → Prop}
    (hp : ∀ X, p X) :
    Held c m ⊢ (iprop(∃ X, ⌜p X⌝ ∗ owns (c.tc : Thread nD τ) m fullShare X) : sProp (MT nD τ sig Unit Val ℕ (UR sig nD τ) ℕ)) := by
  unfold owns Held
  iintro ⟨%f, H⟩
  iexists (m.view.read Val f)
  isplitr [H]
  · ipureintro; exact hp _
  · iexists f
    isplitr [H]
    · ipureintro; rfl
    · iexact H

/-- A whole buffer held is the buffer at some contents. -/
theorem held_whole (b : Ref sig .tc) :
    (Held c (Memref.whole b) : sProp (MT nD τ sig Unit Val ℕ (UR sig nD τ) ℕ))
      = iprop(∃ f : Buf Val ((c.tc : Thread nD τ).loc b), ((c.tc : Thread nD τ).loc b) ↦{fullShare} f) := by
  unfold Held
  simp only [Memref.view_whole, View.set_whole]

end Cert.Proof

end
-- ==== Proof.DsaBody.lean ====
/- The sparse attention call: its body runs safely whatever its buffers hold. -/
module

public import proofs.«01_k».proof.Proof.Safe
public import proofs.«01_k».proof.Proof.Gen.Kernel.Frame

@[expose] public section

noncomputable section

namespace Cert.Proof.Dsa

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F] [Facts]

set_option maxHeartbeats 0 in
/-- The call's body neither faults nor loses a buffer, from any state that holds its operands. -/
theorem safe_body {𝒱 : Variants} {c : Dev nD} {R : sProp (MT nD τ sig Unit (Elt F) ℕ (UR sig nD τ) ℕ)}
    (i : grid0.Coords) (arg2 : Memref sig .tc .vmem S1x128x1024 .bf16) (harg2 : arg2.IsWhole) (arg3 : Memref sig .tc
    .vmem S1x8192x256 .bf16) (harg3 : arg3.IsWhole) (arg4 : Memref sig .tc .vmem S1x16x256x512 .bf16) (harg4 :
    arg4.IsWhole) (arg5 : Memref sig .tc .vmem S1x1x256x128 .bf16) (harg5 : arg5.IsWhole) (arg6 : Memref sig .tc
    .vmem S1x1x256x128 .bf16) (harg6 : arg6.IsWhole) (arg7 : Memref sig .tc .vmem S1x128x512 .f32) (harg7 :
    arg7.IsWhole) (arg8 : Memref sig .tc .vmem S1x8192x128 .f32) (harg8 : arg8.IsWhole) (arg9 : Memref sig .tc .vmem
    S1x128x128 .f32) (harg9 : arg9.IsWhole) (arg10 : Memref sig .tc .vmem S1x128 .f32) (harg10 : arg10.IsWhole)
    (arg11 : Memref sig .tc .vmem S1x128 .f32) (harg11 : arg11.IsWhole) (arg12 : Memref sig .tc .vmem S2x2x128x512
    .f32) (harg12 : arg12.IsWhole) (arg13 : Memref sig .tc .vmem S1x128 .f32) (harg13 : arg13.IsWhole) (arg14 :
    Memref sig .tc .vmem S1x128x1024 .bf16) (harg14 : arg14.IsWhole) (arg15 : Memref sig .tc .vmem S8192x128 .bf16)
    (harg15 : arg15.IsWhole) (arg16 : Memref sig .tc .vmem S2x1x128 .f32) (harg16 : arg16.IsWhole) (arg17 : Memref
    sig .tc .vmem S8192x128 .i32) (harg17 : arg17.IsWhole) (arg18 : Memref sig .tc .vmem S2048x128 .i32) (harg18 :
    arg18.IsWhole) (arg19 : Memref sig .tc .vmem S2048x128 .i32) (harg19 : arg19.IsWhole) (arg20 : Memref sig .tc
    .vmem S8192x128 .bf16) (harg20 : arg20.IsWhole) (arg21 : Memref sig .tc .vmem S2x128x128 .bf16) (harg21 :
    arg21.IsWhole) (arg22 : Memref sig .tc .vmem S512x128 .bf16) (harg22 : arg22.IsWhole) (arg23 : Memref sig .tc
    .vmem S2x512x256 .bf16) (harg23 : arg23.IsWhole) (arg24 : Memref sig .tc .vmem S2x1x512 .f32) (harg24 :
    arg24.IsWhole) (arg25 : Memref sig .tc .vmem S2x1x512 .f32) (harg25 : arg25.IsWhole) (arg26 : Memref sig .tc
    .vmem S2x128x512 .f32) (harg26 : arg26.IsWhole)
    [Has R c arg2] [Has R c arg3] [Has R c arg4] [Has R c arg5] [Has R c arg6] [Has R c arg7] [Has R c arg8] [Has R
    c arg9] [Has R c arg10] [Has R c arg11] [Has R c arg12] [Has R c arg13] [Has R c arg14] [Has R c arg15] [Has R c
    arg16] [Has R c arg17] [Has R c arg18] [Has R c arg19] [Has R c arg20] [Has R c arg21] [Has R c arg22] [Has R c
    arg23] [Has R c arg24] [Has R c arg25] [Has R c arg26]  :
    Safe (defs₀ (F := F)) 𝒱 c R
      (cc0_dsa i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) := by
  repeat' first
    | with_reducible refine forall_psigma fun _ => ?_
    | with_reducible refine forall_prod fun _ => ?_
    | with_reducible intro _
    | with_reducible refine safe_bind ?_ ?_
    | with_reducible exact safe_load
    | with_reducible exact safe_store
    | with_reducible exact safe_pure _
    | with_reducible refine safe_for fun _ => ?_
    | with_reducible refine safe_dite ?_ ?_
    | with_reducible refine safe_ite ?_ ?_
    | delta cc0_dsa k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60 k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120 k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154

end Cert.Proof.Dsa

end
-- ==== Proof.Dsa.lean ====
/- The sparse attention call: the launch, from the safety of its body. -/
module

public import proofs.«01_k».proof.Proof.DsaBody
public import proofs.«01_k».proof.Proof.Gen.Kernel.Frame

@[expose] public section

noncomputable section

namespace Cert.Proof.Dsa

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [BitOps F] [Facts]

/-- The name given to a loop's variants: there are none. -/
abbrev 𝒱₀ : Variants := Variants.none

/-- The windows' staging buffers of one point, each held. -/
abbrev windows (c : Dev nD) (t : Fin cfg0.N) : sProp (MT nD τ sig Unit (Elt F) ℕ (UR sig nD τ) ℕ) :=
  iprop(Held c (win0_0.stage (cfg0.slots t 0)) ∗ Held c (win0_1.stage (cfg0.slots t 1)) ∗ Held c (win0_2.stage (cfg0.slots t 2)) ∗ Held c (win0_3.stage (cfg0.slots t 3)) ∗ Held c (win0_4.stage (cfg0.slots t 4)) ∗ Held c (win0_5.stage (cfg0.slots t 5)) ∗ Held c (win0_6.stage (cfg0.slots t 6)) ∗ Held c (win0_7.stage (cfg0.slots t 7)) ∗ Held c (win0_8.stage (cfg0.slots t 8)) ∗ Held c (win0_9.stage (cfg0.slots t 9)) ∗ Held c (win0_10.stage (cfg0.slots t 10)) ∗ Held c (win0_11.stage (cfg0.slots t 11)) ∗ Held c (win0_12.stage (cfg0.slots t 12)))

/-- The scratch buffers, each held. -/
abbrev scratch (c : Dev nD) : sProp (MT nD τ sig Unit (Elt F) ℕ (UR sig nD τ) ℕ) :=
  iprop(Held c (Memref.whole cc0_scratch0) ∗ Held c (Memref.whole cc0_scratch1) ∗ Held c (Memref.whole cc0_scratch2) ∗ Held c (Memref.whole cc0_scratch3) ∗ Held c (Memref.whole cc0_scratch4) ∗ Held c (Memref.whole cc0_scratch5) ∗ Held c (Memref.whole cc0_scratch6) ∗ Held c (Memref.whole cc0_scratch7) ∗ Held c (Memref.whole cc0_scratch8) ∗ Held c (Memref.whole cc0_scratch9) ∗ Held c (Memref.whole cc0_scratch10) ∗ Held c (Memref.whole cc0_scratch11))

variable (m : (ℓ : Loc nD τ sig) → Buf (Elt F) ℓ)

/-- The run's data, nothing said of what the body leaves in a window. -/
def rdat (c : Dev nD) : Pipeline.RDat τ (Elt F) Unit ℕ (UR sig nD τ) ℕ cfg0 c where
  A w := Gen.V m c (Pipeline.arrRef spec0 w)
  after _ _ _ _ := True
  Φ _ := Pipeline.ΦA spec0 c
  q w := Pipeline.shareOf spec0 w
  owed _ := 0

/-- The scoped buffers the windows leave over are the scratch buffers, held. -/
theorem scratch_eq (c : Dev nD) :
    (Pipeline.scopedRest (Ix := Unit) (Name := ℕ) (U := UR sig nD τ) (Lvl := ℕ) (Val := Elt F) spec0 c) = scratch c := by
  rw [Gen.scopedRest0_eq]
  simp only [scratch, held_whole]

set_option maxHeartbeats 1000000 in
/-- The body as the point `t` calls it, from what is held there. -/
theorem body_safe (c : Dev nD) (t : Fin cfg0.N) (P Q : sProp (MT nD τ sig Unit (Elt F) ℕ (UR sig nD τ) ℕ)) :
    Safe (defs₀ (F := F)) 𝒱₀ c iprop((scratch c ∗ P) ∗ Q ∗ windows c t) (Gen.bodyAt0 t) :=
  safe_body _ _ _ _ _ _ _ _ _ _ _ _ _ _ _ _ _ _ _ _ _ _ _ _ _ _ _ _ _ _ _ _ _ _ _ _ _ _ _ _ _ _ _ _ _ _ _ _ _ _ _

/-- The last of three assertions may be weakened. -/
theorem mono_last (A B : sProp (MT nD τ sig Unit (Elt F) ℕ (UR sig nD τ) ℕ))
    {P Q : sProp (MT nD τ sig Unit (Elt F) ℕ (UR sig nD τ) ℕ)} (h : P ⊢ Q) : iprop(A ∗ B ∗ P) ⊢ iprop(A ∗ B ∗ Q) :=
  BIClass.sep_mono .rfl (BIClass.sep_mono .rfl h)

set_option maxHeartbeats 4000000 in
/-- The obligation on the body that the launch asks for. -/
theorem body (c : Dev nD) : (rdat m c).BodyObligation defs₀ 𝒱₀ () Set.univ := by
  intro t Y _
  rw [Gen.bigSep_W0, Gen.bigSep_W0]
  show iprop(Pipeline.ΦA spec0 c ∗ (rdat m c).owesAt () t.castSucc ∗ _) ⊢
    wp frame (wpE defs₀ 𝒱₀ (c.tc : Thread nD τ) none) Set.univ (Gen.bodyAt0 t) fun _ =>
      iprop(Pipeline.ΦA spec0 c ∗ (rdat m c).owesAt () t.castSucc ∗ _)
  unfold Pipeline.ΦA
  rw [scratch_eq]
  refine BIBase.Entails.trans (mono_last _ _ (Q := windows c t) ?_) (BIBase.Entails.trans (body_safe c t _ _) (wp_mono _ _ _ fun _ => mono_last _ _ (P := windows c t) ?_))
  · iterate 12 (refine BIClass.sep_mono (held_of_owns _) ?_)
    exact held_of_owns _
  · iterate 12 (refine BIClass.sep_mono (owns_of_held fun _ => trivial) ?_)
    exact owns_of_held fun _ => trivial

/-- The call runs, ends quiescent, and leaves its arguments as they were. -/
theorem run (g) : θ_run (defs (F := F)) (onTc main) ⟨m, fun _ => 0, g⟩ (fun r =>
    (∀ c : Dev nD, r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)) ∧ r.2.sem = fun _ => 0) :=
  Pipeline.RDat.θ_run_frame_track_shared cfgs 0 Gen.launch₀0 defs₀ 𝒱₀ (rdat m) m g main (body m)
    (fun _ _ _ => rfl) (fun _ _ => rfl) (Gen.V m) (Gen.hmain m 𝒱₀) (fun _ _ => rfl) (fun _ => .rfl) (fun _ => .rfl) _
    (fun r h => ⟨fun c => ⟨(h.1.arr_in c 1 rfl).trans (Gen.V_main_arg0 m c), (h.1.arr_in c 7 rfl).trans (Gen.V_main_arg1 m c),
      (h.1.arr_in c 2 rfl).trans (Gen.V_main_arg2 m c), (h.1.arr_in c 4 rfl).trans (Gen.V_main_arg3 m c),
      (h.1.arr_in c 8 rfl).trans (Gen.V_main_arg4 m c), (h.1.arr_in c 9 rfl).trans (Gen.V_main_arg5 m c),
      (h.1.arr_in c 10 rfl).trans (Gen.V_main_arg6 m c)⟩, h.2⟩)

end Cert.Proof.Dsa

end
-- ==== Proof.Rows.lean ====
/- A loop that stores one block of whole rows per trip: what its stores leave, once each trip's block is known to be the
   matching block of one function. -/
module

public import Idealize.ShloMosaic.Lib.Pipeline.ValueKit
public import Idealize.ShloMosaic.Lib.Pipeline.CanonAppend
public import Idealize.ShloMosaic.Lib.WritesUnit
public import Idealize.ShloMosaic.Lib.Pointwise

@[expose] public section

noncomputable section

namespace Cert.Proof.Rows

open Idealize.ShloMosaic

variable {Val : EltTy → Type} [∀ e, Nonempty (Val e)] {e : EltTy} {R C r N : ℕ}

/-- The shape of `R` rows of `C`. -/
abbrev Mat (R C : ℕ) : Shape := ⟨2, ![R, C]⟩

variable (L : ℕ → List (View.Piece Val (Mat R C) e)) (off : Fin N → Fin 2 → ℕ)
  (inb : ∀ k a, off k a + (![r, C] : Fin 2 → ℕ) a ≤ (Mat R C).size a) (P : (k : Fin N) → (Mat r C).Idx → Val e)

/-- The stores of the trips before `n` agree with `G`. -/
theorem pieces (G : (Mat R C).Idx → Val e) (h₀ : L 0 = [])
    (hs : ∀ k : Fin N, L (k.val + 1) = ⟨Rect.unit (s := Mat R C) (off k) ![r, C] (inb k), P k⟩ :: L k.val)
    (hP : ∀ k x, P k x = G ((Rect.unit (s := Mat R C) (off k) ![r, C] (inb k)).emb x)) :
    ∀ n, n ≤ N → ∀ p ∈ L n, ∀ x, p.2 x = G (p.1.emb x)
  | 0, _, p, hp => by rw [h₀] at hp; cases hp
  | n + 1, hn, p, hp => by
    rw [hs ⟨n, hn⟩] at hp
    rcases List.mem_cons.mp hp with rfl | hp
    · exact hP ⟨n, hn⟩
    · exact pieces G h₀ hs hP n (Nat.le_of_succ_le hn) p hp

/-- The stores of the trips before `n` cover the rows before `r * n`. -/
theorem cover (h₀ : L 0 = [])
    (hs : ∀ k : Fin N, L (k.val + 1) = ⟨Rect.unit (s := Mat R C) (off k) ![r, C] (inb k), P k⟩ :: L k.val)
    (hoff : ∀ k, off k = ![r * k.val, 0]) (y : (Mat R C).Idx) :
    ∀ n, n ≤ N → (y 0).val < r * n → ∃ p ∈ L n, y ∈ p.1.set
  | 0, _, h => absurd h (by omega)
  | n + 1, hn, h => by
    rw [hs ⟨n, hn⟩]
    by_cases hy : (y 0).val < r * n
    · obtain ⟨p, hp, hp'⟩ := cover h₀ hs hoff y n (Nat.le_of_succ_le hn) hy
      exact ⟨p, List.mem_cons_of_mem _ hp, hp'⟩
    · refine ⟨_, List.mem_cons_self, (Rect.mem_set_unit (inb := inb ⟨n, hn⟩)).mpr ?_⟩
      have hC : (y 1).val < C := (y 1).isLt
      rw [hoff]
      refine Fin.forall_fin_two.mpr ⟨?_, ?_⟩
      · show r * n ≤ (y 0).val ∧ (y 0).val < r * n + r
        rw [Nat.mul_succ] at h; omega
      · show 0 ≤ (y 1).val ∧ (y 1).val < 0 + C
        omega

/-- A position of the block a trip stores, in the whole. -/
theorem emb_eq {o : Fin 2 → ℕ} (b : ∀ a, o a + (![r, C] : Fin 2 → ℕ) a ≤ (Mat R C).size a) {n : ℕ} (ho : o = ![n, 0])
    (a : Fin r) (d : Fin C) (a' : Fin R) (h : a'.val = n + a.val) :
    (Rect.unit (s := Mat R C) o ![r, C] b).emb (ix2 a d) = ix2 a' d := by
  subst ho
  refine funext (Fin.forall_fin_two.mpr ⟨Fin.ext ?_, Fin.ext ?_⟩)
  · show n + 1 * a.val = a'.val
    omega
  · show 0 + 1 * d.val = d.val
    omega

/-- All trips' stores, over whatever was stored before, leave `G`. -/
theorem canon_eq (L' : List (View.Piece Val (Mat R C) e)) (G : (Mat R C).Idx → Val e) (h₀ : L 0 = [])
    (hs : ∀ k : Fin N, L (k.val + 1) = ⟨Rect.unit (s := Mat R C) (off k) ![r, C] (inb k), P k⟩ :: L k.val)
    (hoff : ∀ k, off k = ![r * k.val, 0])
    (hP : ∀ (k : Fin N) (a : Fin r) (d : Fin C) (a' : Fin R), a'.val = r * k.val + a.val → P k (ix2 a d) = G (ix2 a' d))
    (hR : R = r * N) : View.canon (L N ++ L') = G :=
  funext fun y => View.canon_append_of_pieces G L' _ (pieces L off inb P G h₀ hs (fun k x => by
      obtain ⟨a, d, rfl⟩ : ∃ a d, x = ix2 a d := ⟨_, _, eq_ix2 x⟩
      have ha : r * k.val + a.val < R := by
        rw [hR]
        exact Nat.lt_of_lt_of_le (Nat.add_lt_add_left a.isLt _) (Nat.mul_succ r k.val ▸ Nat.mul_le_mul_left r k.isLt)
      rw [emb_eq (inb k) (hoff k) a d ⟨_, ha⟩ rfl]
      exact hP k a d ⟨_, ha⟩ rfl) N le_rfl) y
    (cover L off inb P h₀ hs hoff y N le_rfl (hR ▸ (y 0).isLt))

/-- The rows from `r * n` on are as they were before the stores of the trips before `n`. -/
theorem read_miss {sig : RefSig} {κ : Kind} {sp : Space} (v : View sig κ sp (Mat R C) e) (f : v.ty.Contents Val)
    (h₀ : L 0 = [])
    (hs : ∀ k : Fin N, L (k.val + 1) = ⟨Rect.unit (s := Mat R C) (off k) ![r, C] (inb k), P k⟩ :: L k.val)
    (hoff : ∀ k, off k = ![r * k.val, 0]) (y : (Mat R C).Idx) :
    ∀ n, n ≤ N → r * n ≤ (y 0).val → v.read Val (v.writes Val f (L n)) y = v.read Val f y
  | 0, _, _ => by rw [h₀]; rfl
  | n + 1, hn, h => by
    rw [hs ⟨n, hn⟩, View.read_writes_cons_rows_of_not_mem v f _ _ _ y (hoff _) rfl
      (.inr (by rw [Nat.mul_succ] at h; exact h))]
    exact read_miss v f h₀ hs hoff y n (Nat.le_of_succ_le hn) (Nat.le_trans (Nat.mul_le_mul_left r (Nat.le_succ n)) h)

/-- A load of a block of whole rows, at a position of the block. -/
theorem ld_rows (X : (Mat R C).Idx → Val e) {o : Fin 2 → ℕ} (b : ∀ a, o a + (![r, C] : Fin 2 → ℕ) a ≤ (Mat R C).size a)
    {n : ℕ} (ho : o = ![n, 0]) (a : Fin r) (a' : Fin R) (h : a'.val = n + a.val) (j : Fin C) :
    View.ld X (Rect.unit (s := Mat R C) o ![r, C] b) (ix2 a j) = X (ix2 a' j) :=
  congrArg X (emb_eq b ho a j a' h)

end Cert.Proof.Rows

end
-- ==== Proof.FfnMath.lean ====
/- The feed-forward's arithmetic on one row: the gated hidden activations, and their sum over columns padded to a whole
   number of tiles. -/
module

public import Idealize.ShloMosaic.Lib.Pipeline.ValueKit
public import Idealize.ShloMosaic.Lib.Pointwise

@[expose] public section

noncomputable section

namespace Cert.Proof

open Idealize.ShloMosaic

/-- A row divided by the root of its mean square, times a gain. -/
def rms (row g : Fin 2048 → EReal) (d : Fin 2048) : EReal :=
  row d * Ideal.rsqrt (Ideal.div (∑ j, row j * row j) (Ideal.ofBits FTy.f32 1157627904#32) + Ideal.ofBits FTy.f32 897988541#32) * g d

/-- Half of `s` added to a row. -/
def half (row s : Fin 2048 → EReal) (d : Fin 2048) : EReal := row d + Ideal.ofBits FTy.f32 1056964608#32 * s d

/-- The hidden activation of a normalised row: the gated product of two of its projections. -/
def act (h g u : Fin 2048 → EReal) : EReal :=
  (∑ y, h y * g y) * Ideal.div 1 (1 + Ideal.exp (0 - ∑ y, h y * g y)) * ∑ y, h y * u y

variable (h : Fin 2048 → EReal) (W : Fin 2048 → Fin 11008 → EReal) (D : Fin 5504 → Fin 2048 → EReal) (d : Fin 2048)

/-- Hidden column `n`'s contribution to column `d` of the row. -/
def term (n : Fin 5504) : EReal :=
  act h (fun y => W y ⟨n.val, by omega⟩) (fun y => W y ⟨5504 + n.val, by omega⟩) * D n d

/-- The same for a column of the padded width. -/
def termP (n : ℕ) : EReal := if h' : n < 5504 then term h W D d ⟨n, h'⟩ else 0

/-- The padded columns add nothing. -/
theorem sum_padded :
    ∑ f ∈ Finset.range 11, ∑ x : Fin 512, termP h W D d (512 * f + x.val) = ∑ n, term h W D d n := by
  have h0 : ∀ f : ℕ, ∑ x : Fin 512, termP h W D d (512 * f + x.val) = ∑ x ∈ Finset.range 512, termP h W D d (f * 512 + x) := fun f => by
    rw [Finset.sum_range, mul_comm]
  have hz : ∑ x ∈ Finset.range 128, termP h W D d (5504 + x) = 0 :=
    Finset.sum_eq_zero fun x _ => dif_neg (by omega)
  simp only [h0]
  rw [← Finset.sum_range_mul_split 11 512 (termP h W D d), show 11 * 512 = 5504 + 128 by norm_num, Finset.sum_range_add, hz, add_zero,
    Finset.sum_range]
  exact Finset.sum_congr rfl fun n _ => dif_pos n.isLt

end Cert.Proof

end
-- ==== Proof.FfnStep.lean ====
/- The feed-forward call, one grid point at a time: what each of the body's three cases leaves in the output block and
   in the scratch that carries the normalised rows. -/
module

public import proofs.«01_k».proof.Proof.Gen.Kernel2Ideal.Value
public import proofs.«01_k».proof.Proof.Rows
public import proofs.«01_k».proof.Proof.FfnMath

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
  (x0 : Vec Ideal S1024x2048 .f32) (x1 : Vec Ideal S1x2048 .f32) (x2 : Vec Ideal S1x2048x512 .bf16) (x3 : Vec Ideal S1x2048x512 .bf16) (x4 : Vec Ideal S1x512x2048 .bf16) (x5 : Vec Ideal S1x2048 .f32) (xo : Vec Ideal S1024x2048 .f32) (xs : Vec Ideal S1024x2048 .bf16)

/-- The block's rows, each divided by its root mean square. -/
def normed : Vec Ideal S1024x2048 .bf16 := fun y => rms (fun j => x0 (ix2 (y 0) j)) (fun j => x1 (ix2 0 j)) (y 1)

/-- The block's rows with half the sum added, each divided by its root mean square. -/
def finished (xo : Vec Ideal S1024x2048 .f32) : Vec Ideal S1024x2048 .f32 := fun y =>
  rms (fun j => x0 (ix2 (y 0) j) + Ideal.ofBits FTy.f32 1056964608#32 * xo (ix2 (y 0) j)) (fun j => x5 (ix2 0 j)) (y 1)

theorem pay1_at (x : Vec Ideal S256x2048 .f32) (g : Vec Ideal S1x2048 .f32) (a : Fin 256) (d : Fin 2048) :
    k0_pay1 x g (ix2 a d) = rms (fun j => x (ix2 a j)) (fun j => g (ix2 0 j)) d := by
  pointwise [k0_pay1, rms]

theorem pay4_at (x o : Vec Ideal S256x2048 .f32) (g : Vec Ideal S1x2048 .f32) (a : Fin 256) (d : Fin 2048) :
    k0_pay4 x o g (ix2 a d)
      = rms (fun j => x (ix2 a j) + Ideal.ofBits FTy.f32 1056964608#32 * o (ix2 a j)) (fun j => g (ix2 0 j)) d := by
  pointwise [k0_pay4, rms]

theorem trips1 : k0_t1_loop.trips = 4 := by decide
theorem trips2 : k0_t2_loop.trips = 4 := by decide

/-- One trip of the first loop, of the scratch that holds the normalised rows. -/
theorem trip1_scratch (hc0) (k : Fin k0_t1_loop.trips) :
    (trip_k0_t1 (F := Ideal) Variants.none c none i arg2 harg2 arg3 harg3 arg4 harg4 arg5 harg5 arg6 harg6 arg7 harg7 arg8 harg8 arg9 harg9 hc0 (harg2.unread x0) (harg3.unread x1) k).2.1
      = [⟨Rect.unit (k0_off1 k) ![256, 2048] (k0_off1_inb i k hc0), k0_pay1 (View.ld x0 (Rect.unit (k0_off1 k) ![256, 2048] (k0_off1_inb i k hc0))) x1⟩] := by
  unfold trip_k0_t1
  simp only [View.readAt_eq_ld, harg2.read_unread, harg3.read_unread]
  rw [View.ld_unit_zero (by decide)]

/-- One trip of the first loop, of the output block. -/
theorem trip1_out (hc0) (k : Fin k0_t1_loop.trips) :
    (trip_k0_t1 (F := Ideal) Variants.none c none i arg2 harg2 arg3 harg3 arg4 harg4 arg5 harg5 arg6 harg6 arg7 harg7 arg8 harg8 arg9 harg9 hc0 (harg2.unread x0) (harg3.unread x1) k).1
      = [⟨Rect.unit (k0_off1 k) ![256, 2048] (k0_off1_inb i k hc0), k0_pay2 (F := Ideal)⟩] := by
  unfold trip_k0_t1
  rfl

/-- One trip of the second loop. -/
theorem trip2_out (hc1) (f) (k : Fin k0_t2_loop.trips) :
    (trip_k0_t2 (F := Ideal) Variants.none c none i arg2 harg2 arg3 harg3 arg4 harg4 arg5 harg5 arg6 harg6 arg7 harg7 arg8 harg8 arg9 harg9 hc1 (harg2.unread x0) (harg7.unread x5) k).1 f
      = [⟨Rect.unit (k0_off2 k) ![256, 2048] (k0_off2_inb i k hc1), k0_pay4 (View.ld x0 (Rect.unit (k0_off2 k) ![256, 2048] (k0_off2_inb i k hc1)))
          (View.ld (arg8.view.read (Elt Ideal) f) (Rect.unit (k0_off2 k) ![256, 2048] (k0_off2_inb i k hc1))) x5⟩] := by
  unfold trip_k0_t2
  simp only [View.readAt_eq_ld, harg2.read_unread, harg7.read_unread]
  rw [View.ld_unit_zero (by decide)]

/-- The first loop leaves the normalised rows in the scratch. -/
theorem loop1_scratch (hc0) :
    View.canon (pb_k0_t1 (F := Ideal) Variants.none c none i arg2 harg2 arg3 harg3 arg4 harg4 arg5 harg5 arg6 harg6 arg7 harg7 arg8 harg8 arg9 harg9 hc0 (harg2.unread x0) (harg3.unread x1) k0_t1_loop.trips).2 = normed x0 x1 := by
  rw [← List.append_nil (pb_k0_t1 _ _ _ _ _ _ _ _ _ _ _ _ _ _ _ _ _ _ _ _ _ _ _ _).2]
  refine Rows.canon_eq (R := 1024) (C := 2048) (r := 256) (fun n => (pb_k0_t1 (F := Ideal) Variants.none c none i arg2 harg2 arg3 harg3 arg4 harg4 arg5 harg5 arg6 harg6 arg7 harg7 arg8 harg8 arg9 harg9 hc0 (harg2.unread x0) (harg3.unread x1) n).2)
    (N := k0_t1_loop.trips) k0_off1 (fun k => k0_off1_inb i k hc0) (fun k => k0_pay1 (View.ld x0 (Rect.unit (k0_off1 k) ![256, 2048] (k0_off1_inb i k hc0))) x1)
    [] _ rfl (fun k => ?_) (fun k => k0_off1_eq k) (fun k a d a' ha => ?_) (by rw [trips1])
  · exact (congrArg Prod.snd (pb_k0_t1_succ ..)).trans (congrArg (· ++ _) (trip1_scratch ..))
  · exact (pay1_at _ _ a d).trans (congrArg (fun h => rms h (fun j => x1 (ix2 0 j)) d)
      (funext fun j => Rows.ld_rows x0 _ (k0_off1_eq k) a a' ha j))

/-- What trip `k` of the second loop stores. -/
def chunk2 (hc1 : k0_cond2 i = 1#1) (f : BufTy.Contents (Elt Ideal) arg8.view.ty) (k : Fin k0_t2_loop.trips) : Vec Ideal S256x2048 .f32 :=
  k0_pay4 (View.ld x0 (Rect.unit (k0_off2 k) ![256, 2048] (k0_off2_inb i k hc1)))
    (View.ld (arg8.view.read (Elt Ideal) (arg8.view.writes (Elt Ideal) f (pb_k0_t2 (F := Ideal) Variants.none c none i arg2 harg2 arg3 harg3 arg4 harg4 arg5 harg5 arg6 harg6 arg7 harg7 arg8 harg8 arg9 harg9 hc1 (harg2.unread x0) (harg7.unread x5) f k.val)))
      (Rect.unit (k0_off2 k) ![256, 2048] (k0_off2_inb i k hc1))) x5

/-- The second loop's stores, one trip more. -/
theorem loop2_succ (hc1) (f : BufTy.Contents (Elt Ideal) arg8.view.ty) (k : Fin k0_t2_loop.trips) :
    pb_k0_t2 (F := Ideal) Variants.none c none i arg2 harg2 arg3 harg3 arg4 harg4 arg5 harg5 arg6 harg6 arg7 harg7 arg8 harg8 arg9 harg9 hc1 (harg2.unread x0) (harg7.unread x5) f (k.val + 1)
      = ⟨Rect.unit (k0_off2 k) ![256, 2048] (k0_off2_inb i k hc1), chunk2 c i arg2 harg2 arg3 harg3 arg4 harg4 arg5 harg5 arg6 harg6 arg7 harg7 arg8 harg8 arg9 harg9 x0 x5 hc1 f k⟩
        :: pb_k0_t2 (F := Ideal) Variants.none c none i arg2 harg2 arg3 harg3 arg4 harg4 arg5 harg5 arg6 harg6 arg7 harg7 arg8 harg8 arg9 harg9 hc1 (harg2.unread x0) (harg7.unread x5) f k.val := by
  rw [pb_k0_t2_succ, tripL_k0_t2, trip2_out]; rfl

/-- Trip `k`'s rows are the output block's until trip `k` stores there. -/
theorem loop2_miss (hc1) (f : BufTy.Contents (Elt Ideal) arg8.view.ty) (k : Fin k0_t2_loop.trips) (a' : Fin 1024) (j : Fin 2048) (ha : 256 * k.val ≤ a'.val) :
    arg8.view.read (Elt Ideal) (arg8.view.writes (Elt Ideal) f (pb_k0_t2 (F := Ideal) Variants.none c none i arg2 harg2 arg3 harg3 arg4 harg4 arg5 harg5 arg6 harg6 arg7 harg7 arg8 harg8 arg9 harg9 hc1 (harg2.unread x0) (harg7.unread x5) f k.val)) (ix2 a' j)
      = arg8.view.read (Elt Ideal) f (ix2 a' j) :=
  Rows.read_miss (R := 1024) (C := 2048) (r := 256) (N := k0_t2_loop.trips)
    (pb_k0_t2 (F := Ideal) Variants.none c none i arg2 harg2 arg3 harg3 arg4 harg4 arg5 harg5 arg6 harg6 arg7 harg7 arg8 harg8 arg9 harg9 hc1 (harg2.unread x0) (harg7.unread x5) f)
    k0_off2 (fun k => k0_off2_inb i k hc1) (chunk2 c i arg2 harg2 arg3 harg3 arg4 harg4 arg5 harg5 arg6 harg6 arg7 harg7 arg8 harg8 arg9 harg9 x0 x5 hc1 f) arg8.view f rfl
    (loop2_succ c i arg2 harg2 arg3 harg3 arg4 harg4 arg5 harg5 arg6 harg6 arg7 harg7 arg8 harg8 arg9 harg9 x0 x5 hc1 f) (fun k => k0_off2_eq k) (ix2 a' j) k.val k.isLt.le ha

/-- The second loop leaves the finished rows in the output block. -/
theorem loop2_out (hc1) (P : Vec Ideal S1024x2048 .f32) (L' f) (hf : arg8.view.read (Elt Ideal) f = P) :
    View.canon (pb_k0_t2 (F := Ideal) Variants.none c none i arg2 harg2 arg3 harg3 arg4 harg4 arg5 harg5 arg6 harg6 arg7 harg7 arg8 harg8 arg9 harg9 hc1 (harg2.unread x0) (harg7.unread x5) f k0_t2_loop.trips ++ L') = finished x0 x5 P := by
  refine Rows.canon_eq (R := 1024) (C := 2048) (r := 256) (N := k0_t2_loop.trips)
    (pb_k0_t2 (F := Ideal) Variants.none c none i arg2 harg2 arg3 harg3 arg4 harg4 arg5 harg5 arg6 harg6 arg7 harg7 arg8 harg8 arg9 harg9 hc1 (harg2.unread x0) (harg7.unread x5) f)
    k0_off2 (fun k => k0_off2_inb i k hc1) (chunk2 c i arg2 harg2 arg3 harg3 arg4 harg4 arg5 harg5 arg6 harg6 arg7 harg7 arg8 harg8 arg9 harg9 x0 x5 hc1 f)
    L' _ rfl (loop2_succ c i arg2 harg2 arg3 harg3 arg4 harg4 arg5 harg5 arg6 harg6 arg7 harg7 arg8 harg8 arg9 harg9 x0 x5 hc1 f) (fun k => k0_off2_eq k) (fun k a d a' ha => ?_) (by rw [trips2])
  refine (pay4_at _ _ _ a d).trans ?_
  subst hf
  exact congrArg (fun h => rms h (fun j => x5 (ix2 0 j)) d) (funext fun j =>
    congrArg₂ (fun u v => u + Ideal.ofBits FTy.f32 1056964608#32 * v) (Rows.ld_rows x0 _ (k0_off2_eq k) a a' ha j)
      ((Rows.ld_rows (arg8.view.read (Elt Ideal) _) _ (k0_off2_eq k) a a' ha j).trans
        (loop2_miss c i arg2 harg2 arg3 harg3 arg4 harg4 arg5 harg5 arg6 harg6 arg7 harg7 arg8 harg8 arg9 harg9 x0 x5 hc1 f k a' j (by omega))))

/-- The first loop leaves zeros in the output block. -/
theorem loop1_out (hc0) :
    View.canon (pb_k0_t1 (F := Ideal) Variants.none c none i arg2 harg2 arg3 harg3 arg4 harg4 arg5 harg5 arg6 harg6 arg7 harg7 arg8 harg8 arg9 harg9 hc0 (harg2.unread x0) (harg3.unread x1) k0_t1_loop.trips).1 = fun _ => (0 : EReal) := by
  rw [← List.append_nil (pb_k0_t1 _ _ _ _ _ _ _ _ _ _ _ _ _ _ _ _ _ _ _ _ _ _ _ _).1]
  refine Rows.canon_eq (R := 1024) (C := 2048) (r := 256) (fun n => (pb_k0_t1 (F := Ideal) Variants.none c none i arg2 harg2 arg3 harg3 arg4 harg4 arg5 harg5 arg6 harg6 arg7 harg7 arg8 harg8 arg9 harg9 hc0 (harg2.unread x0) (harg3.unread x1) n).1)
    (N := k0_t1_loop.trips) k0_off1 (fun k => k0_off1_inb i k hc0) (fun _ => k0_pay2 (F := Ideal))
    [] (fun _ => (0 : EReal)) rfl (fun k => ?_) (fun k => k0_off1_eq k) (fun k a d a' ha => ?_) (by rw [trips1])
  · exact (congrArg Prod.fst (pb_k0_t1_succ ..)).trans (congrArg (· ++ _) (trip1_out ..))
  · pointwise [k0_pay2]

theorem step_B (hc0) (hc1) :
    out0_B_6 c i arg2 harg2 arg3 harg3 arg4 harg4 arg5 harg5 arg6 harg6 arg7 harg7 arg8 harg8 arg9 harg9 hc0 hc1 x0 x1 x2 x3 x4 x5 xo xs = k0_pay3 xs x2 x3 xo x4 := by
  frame_out

theorem scratch_A (hc0) (hc1) :
    sout0_A_0 c i arg2 harg2 arg3 harg3 arg4 harg4 arg5 harg5 arg6 harg6 arg7 harg7 arg8 harg8 arg9 harg9 hc0 hc1 x0 x1 x2 x3 x4 x5 = normed x0 x1 := by
  frame_out
  exact loop1_scratch ..

theorem step_A (hc0) (hc1) :
    out0_A_6 c i arg2 harg2 arg3 harg3 arg4 harg4 arg5 harg5 arg6 harg6 arg7 harg7 arg8 harg8 arg9 harg9 hc0 hc1 x0 x1 x2 x3 x4 x5 = k0_pay3 (normed x0 x1) x2 x3 (fun _ => (0 : EReal)) x4 := by
  frame_out
  rw [View.readCov_eq_canon', View.readCov_eq_canon']
  erw [loop1_scratch, loop1_out]
  exact congrArg₂ (fun a b => k0_pay3 a x2 x3 b x4) (View.ld_unit_zero (S := S1024x2048) (off := ![0, 0]) (by decide) _ (normed x0 x1)) rfl

theorem step_C (hc0) (hc1) :
    out0_C_6 c i arg2 harg2 arg3 harg3 arg4 harg4 arg5 harg5 arg6 harg6 arg7 harg7 arg8 harg8 arg9 harg9 hc0 hc1 x0 x1 x2 x3 x4 x5 xo xs = finished x0 x5 (k0_pay3 xs x2 x3 xo x4) := by
  frame_out
  refine loop2_out c i arg2 harg2 arg3 harg3 arg4 harg4 arg5 harg5 arg6 harg6 arg7 harg7 arg8 harg8 arg9 harg9 x0 x5 hc1 _ _ _ ?_
  rw [View.read_writes_junk_eq_canon]
  exact View.canon_unit_zero (by decide) _ _

end Cert.Proof.Ffn

end
-- ==== Proof.FfnBlocks.lean ====
/- The feed-forward call's input blocks, read at an index of the call's arguments. -/
module

public import proofs.«01_k».proof.Proof.FfnStep

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- The padding's zero. -/
theorem pad_zero : (FloatOps.sitofp FTy.bf16 0#32 : Ideal FTy.bf16) = (0 : EReal) := by
  simp [FloatOps.sitofp]

/-- The gate weights as padded, at a column. -/
theorem entry_gate (y : Fin 2048) (n : Fin 5632) : V m c main_v3 (ix3 0 y n)
    = if h : n.val < 5504 then (m (c.tc.loc main_arg2) (ix2 y ⟨n.val, by omega⟩) : EReal) else (0 : EReal) := by
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  rw [pad_zero]

/-- The up weights as padded, at a column. -/
theorem entry_up (y : Fin 2048) (n : Fin 5632) : V m c main_v7 (ix3 0 y n)
    = if h : n.val < 5504 then (m (c.tc.loc main_arg2) (ix2 y ⟨5504 + n.val, by omega⟩) : EReal) else (0 : EReal) := by
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  rw [pad_zero]

/-- The down weights as padded, at a row. -/
theorem entry_down (n : Fin 5632) (d : Fin 2048) : V m c main_v10 (ix3 0 n d)
    = if h : n.val < 5504 then (m (c.tc.loc main_arg3) (ix2 ⟨n.val, h⟩ d) : EReal) else (0 : EReal) := by
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  rw [pad_zero]

/-- The first gain, as a row. -/
theorem entry_gain (d : Fin 2048) : V m c main_v11 (ix2 0 d) = m (c.tc.loc main_arg1) (ix1 d) := by
  simp only [V, hostOps0, hostOps0_1, hostOps0_2, hostOps0_3, hostOps0_4, hostOps0_5, hostOps0_6, List.flatten_cons, List.flatten_nil, List.append_nil, List.cons_append, List.nil_append]
  entry_read
  pointwise

/-- The last gain, as a row. -/
theorem entry_last (d : Fin 2048) : V m c main_v12 (ix2 0 d) = m (c.tc.loc main_arg4) (ix1 d) := by
  simp only [V, hostOps0, hostOps0_1, hostOps0_2, hostOps0_3, hostOps0_4, hostOps0_5, hostOps0_6, List.flatten_cons, List.flatten_nil, List.append_nil, List.cons_append, List.nil_append]
  entry_read
  pointwise

/-- The windows' block indices at a point. -/
theorem idx : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 11
    ∧ win0_3.index t (0 : Fin 3) = 0 ∧ win0_3.index t (1 : Fin 3) = 0 ∧ win0_3.index t (2 : Fin 3) = t.val % 11
    ∧ win0_4.index t (0 : Fin 3) = 0 ∧ win0_4.index t (1 : Fin 3) = t.val % 11 ∧ win0_4.index t (2 : Fin 3) = 0
    ∧ win0_5.index t (0 : Fin 2) = 0 ∧ win0_5.index t (1 : Fin 2) = 0 := by decide +kernel

theorem blk_x (t : Fin cfg0.N) (a : Fin 1024) (j : Fin 2048) (R : Fin 16384) (hR : R.val = 1024 * (t.val / 11) + a.val) :
    iblk m c 0 t (ix2 a j) = m (c.tc.loc main_arg0) (ix2 R j) := by
  blk_ext [iblk, V, idx t]

theorem blk_gain (t : Fin cfg0.N) (j : Fin 2048) : iblk m c 1 t (ix2 0 j) = m (c.tc.loc main_arg1) (ix1 j) := by
  refine (show _ = V m c main_v11 (ix2 0 j) from ?_).trans (entry_gain m c j)
  blk_ext [iblk, idx t]

theorem blk_last (t : Fin cfg0.N) (j : Fin 2048) : iblk m c 5 t (ix2 0 j) = m (c.tc.loc main_arg4) (ix1 j) := by
  refine (show _ = V m c main_v12 (ix2 0 j) from ?_).trans (entry_last m c j)
  blk_ext [iblk, idx t]

theorem blk_gate (t : Fin cfg0.N) (y : Fin 2048) (x : Fin 512) (n : Fin 5632) (hn : n.val = 512 * (t.val % 11) + x.val) :
    iblk m c 2 t (ix3 0 y x) = V m c main_v3 (ix3 0 y n) := by
  blk_ext [iblk, idx t]

theorem blk_up (t : Fin cfg0.N) (y : Fin 2048) (x : Fin 512) (n : Fin 5632) (hn : n.val = 512 * (t.val % 11) + x.val) :
    iblk m c 3 t (ix3 0 y x) = V m c main_v7 (ix3 0 y n) := by
  blk_ext [iblk, idx t]

theorem blk_down (t : Fin cfg0.N) (x : Fin 512) (d : Fin 2048) (n : Fin 5632) (hn : n.val = 512 * (t.val % 11) + x.val) :
    iblk m c 4 t (ix3 0 x d) = V m c main_v10 (ix3 0 n d) := by
  blk_ext [iblk, idx t]

/-- The gate weights' block at a point, of the argument. -/
theorem gate_at (t : Fin cfg0.N) (y : Fin 2048) (x : Fin 512) : (iblk m c 2 t (ix3 0 y x) : EReal)
    = if h : 512 * (t.val % 11) + x.val < 5504 then (m (c.tc.loc main_arg2) (ix2 y ⟨512 * (t.val % 11) + x.val, by omega⟩) : EReal) else (0 : EReal) :=
  (blk_gate m c t y x ⟨512 * (t.val % 11) + x.val, by omega⟩ rfl).trans (entry_gate m c y ⟨512 * (t.val % 11) + x.val, by omega⟩)

/-- The up weights' block at a point, of the argument. -/
theorem up_at (t : Fin cfg0.N) (y : Fin 2048) (x : Fin 512) : (iblk m c 3 t (ix3 0 y x) : EReal)
    = if h : 512 * (t.val % 11) + x.val < 5504 then (m (c.tc.loc main_arg2) (ix2 y ⟨5504 + (512 * (t.val % 11) + x.val), by omega⟩) : EReal) else (0 : EReal) :=
  (blk_up m c t y x ⟨512 * (t.val % 11) + x.val, by omega⟩ rfl).trans (entry_up m c y ⟨512 * (t.val % 11) + x.val, by omega⟩)

/-- The down weights' block at a point, of the argument. -/
theorem down_at (t : Fin cfg0.N) (x : Fin 512) (d : Fin 2048) : (iblk m c 4 t (ix3 0 x d) : EReal)
    = if h : 512 * (t.val % 11) + x.val < 5504 then (m (c.tc.loc main_arg3) (ix2 ⟨512 * (t.val % 11) + x.val, h⟩ d) : EReal) else (0 : EReal) :=
  (blk_down m c t x d ⟨512 * (t.val % 11) + x.val, by omega⟩ rfl).trans (entry_down m c ⟨512 * (t.val % 11) + x.val, by omega⟩ d)

end Cert.Proof.Ffn

end
-- ==== Proof.FfnSum.lean ====
/- The feed-forward call over its grid: the points of one block of rows sum the hidden columns, and the last of them
   finishes the rows. -/
module

public import proofs.«01_k».proof.Proof.FfnBlocks

@[expose] public section

set_option maxRecDepth 16384

noncomputable section

namespace Cert.Proof.Ffn

open Cert.Kernel2Ideal Cert.Kernel2Ideal.Gen
open Idealize.ShloMosaic Idealize.ShloMosaic.TcCoe Idealize.ShloMosaic.Tactic

variable (m : (ℓ : Loc nD τ sig) → Buf (Elt Ideal) ℓ) (c : Dev nD)

/-- Row `R`, normalised. -/
def nrm (R : Fin 16384) : Fin 2048 → EReal :=
  rms (fun j => m (c.tc.loc main_arg0) (ix2 R j)) (fun j => m (c.tc.loc main_arg1) (ix1 j))

/-- Hidden column `n`'s contribution to row `R`, column `d`. -/
def part (R : Fin 16384) (d : Fin 2048) (n : Fin 5504) : EReal :=
  term (nrm m c R) (fun y n => m (c.tc.loc main_arg2) (ix2 y n)) (fun n d => m (c.tc.loc main_arg3) (ix2 n d)) d n

/-- The same for a column of the padded width. -/
def partP (R : Fin 16384) (d : Fin 2048) (n : ℕ) : EReal :=
  termP (nrm m c R) (fun y n => m (c.tc.loc main_arg2) (ix2 y n)) (fun n d => m (c.tc.loc main_arg3) (ix2 n d)) d n

/-- The call's result. -/
def result (R : Fin 16384) (d : Fin 2048) : EReal :=
  rms (half (fun j => m (c.tc.loc main_arg0) (ix2 R j)) fun j => ∑ n, part m c R j n) (fun j => m (c.tc.loc main_arg4) (ix1 j)) d

/-- One point's share of the sum. -/
theorem point (t : Fin cfg0.N) (xs : Vec Ideal S1024x2048 .bf16) (xo : Vec Ideal S1024x2048 .f32) (a : Fin 1024) (d : Fin 2048)
    (R : Fin 16384) (hs : ∀ y, xs (ix2 a y) = nrm m c R y) :
    k0_pay3 xs (iblk m c 2 t) (iblk m c 3 t) xo (iblk m c 4 t) (ix2 a d)
      = xo (ix2 a d) + ∑ x : Fin 512, partP m c R d (512 * (t.val % 11) + x.val) := by
  have h1 : ∀ (A B : Vec Ideal S1x2048x512 .bf16) (D : Vec Ideal S1x512x2048 .bf16), k0_pay3 xs A B xo D (ix2 a d)
      = xo (ix2 a d) + ∑ x : Fin 512, act (fun y => xs (ix2 a y)) (fun y => A (ix3 0 y x)) (fun y => B (ix3 0 y x)) * D (ix3 0 x d) := by
    intro A B D
    pointwise [k0_pay3, act]
  rw [h1]
  refine congrArg (xo (ix2 a d) + ·) (Finset.sum_congr rfl fun x _ => ?_)
  simp only [hs, gate_at, up_at, down_at]
  unfold partP termP
  by_cases h : 512 * (t.val % 11) + x.val < 5504
  · simp only [h, dif_pos]
    rfl
  · simp only [h, dif_neg, not_false_eq_true, mul_zero]

theorem normed_at (t : Fin cfg0.N) (a : Fin 1024) (y : Fin 2048) (R : Fin 16384) (hR : R.val = 1024 * (t.val / 11) + a.val) :
    normed (iblk m c 0 t) (iblk m c 1 t) (ix2 a y) = nrm m c R y := by
  show rms (fun j => iblk m c 0 t (ix2 a j)) (fun j => iblk m c 1 t (ix2 0 j)) y = _
  simp only [blk_x m c t a _ R hR, blk_gain]
  rfl

/-- The scratch holds the block's normalised rows throughout, and before the last point of the block the output holds the
    columns summed so far. -/
theorem held (n : ℕ) (hn : n < cfg0.N) (a : Fin 1024) (R : Fin 16384) (hR : R.val = 1024 * (n / 11) + a.val) :
    (∀ y, (outsAt0 m c n hn).2 (ix2 a y) = nrm m c R y) ∧ (n % 11 < 10 → ∀ d, (outsAt0 m c n hn).1 (ix2 a d)
      = ∑ f ∈ Finset.range (n % 11 + 1), ∑ x : Fin 512, partP m c R d (512 * f + x.val)) := by
  induction n with
  | zero =>
    have e := outsAt0_A m c ⟨0, hn⟩ rfl (by dsimp only; omega)
    rw [scratch_A, step_A] at e
    dsimp only at e
    rw [e]
    refine ⟨fun y => normed_at m c ⟨0, hn⟩ a y R hR, fun _ d => ?_⟩
    refine (point m c ⟨0, hn⟩ _ _ a d R (fun y => normed_at m c ⟨0, hn⟩ a y R hR)).trans ?_
    simp
  | succ n ih =>
    by_cases h0 : (n + 1) % 11 = 0
    · have e := outsAt0_A m c ⟨n + 1, hn⟩ h0 (by dsimp only; omega)
      rw [scratch_A, step_A] at e
      dsimp only at e
      rw [e]
      refine ⟨fun y => normed_at m c ⟨n + 1, hn⟩ a y R hR, fun _ d => ?_⟩
      refine (point m c ⟨n + 1, hn⟩ _ _ a d R (fun y => normed_at m c ⟨n + 1, hn⟩ a y R hR)).trans ?_
      simp [h0]
    · obtain ⟨ihs, iho⟩ := ih (by omega) (by omega)
      by_cases h1 : (n + 1) % 11 = 10
      · have e := outsAt0_C m c ⟨n + 1, hn⟩ h0 h1
        dsimp only at e
        rw [e]
        exact ⟨ihs, fun h => absurd h (by omega)⟩
      · have e := outsAt0_B m c ⟨n + 1, hn⟩ h0 h1
        rw [step_B] at e
        dsimp only at e
        rw [e]
        refine ⟨ihs, fun _ d => ?_⟩
        refine (point m c ⟨n + 1, hn⟩ _ _ a d R ihs).trans ?_
        refine (congrArg (· + _) (iho (by omega) d)).trans ?_
        dsimp only
        rw [show (n + 1) % 11 = n % 11 + 1 by omega, Finset.sum_range_succ _ (n % 11 + 1)]

/-- The last point of a block leaves the finished rows. -/
theorem last (t : Fin cfg0.N) (h1 : t.val % 11 = 10) (a : Fin 1024) (d : Fin 2048) (R : Fin 16384) (hR : R.val = 1024 * (t.val / 11) + a.val) :
    (outsAt0 m c t.val t.isLt).1 (ix2 a d) = result m c R d := by
  have h0 : ¬t.val % 11 = 0 := by omega
  have e := outsAt0_C m c t h0 h1
  rw [step_C] at e
  rw [e]
  obtain ⟨ihs, iho⟩ := held m c (t.val - 1) (by have := t.isLt; omega) a R (by omega)
  have hf : ∀ xo : Vec Ideal S1024x2048 .f32, finished (iblk m c 0 t) (iblk m c 5 t) xo (ix2 a d)
      = rms (half (fun j => iblk m c 0 t (ix2 a j)) fun j => xo (ix2 a j)) (fun j => iblk m c 5 t (ix2 0 j)) d := fun _ => rfl
  refine (hf _).trans ?_
  unfold result half
  simp only [point m c t _ _ a _ R ihs, iho (by omega), part, ← sum_padded, blk_x m c t a _ R hR, blk_last]
  have e : (t.val - 1) % 11 + 1 = 10 := by omega
  rw [e, h1]
  simp only [Finset.sum_range_succ _ 10, partP]

/-- The array after the run. -/
theorem final (R : Fin 16384) (d : Fin 2048) : Value.G6 m c (ix2 R d) = result m c R d := by
  have hp : Value.pt6Of (ix2 R d) = 11 * (R.val / 1024) + 10 := by
    simp only [Value.pt6Of, Value.run6Of]
    show 11 * (1 * (R.val / 1024 - 0) + 1 * (d.val / 2048 - 0)) + 10 = _
    have := d.isLt
    omega
  have hl : Value.loc6Of (ix2 R d) = ix2 ⟨R.val % 1024, Nat.mod_lt _ (by decide)⟩ d := by
    rw [eq_ix2 (Value.loc6Of (ix2 R d))]
    exact congrArg (ix2 _) (Fin.ext (Nat.mod_eq_of_lt d.isLt))
  have hN : 11 * (R.val / 1024) + 10 < cfg0.N := lt_of_lt_of_eq (by omega) N_0.symm
  unfold Value.G6
  rw [dif_pos (lt_of_eq_of_lt hp hN), ← Value.outsAt0_sweep m c _ (lt_of_eq_of_lt hp hN)]
  simp only [hp, hl]
  exact last m c ⟨_, hN⟩ (by dsimp only; omega) ⟨R.val % 1024, Nat.mod_lt _ (by decide)⟩ d R (by dsimp only; omega)

end Cert.Proof.Ffn

end
-- ==== Proof.FfnRef.lean ====
/- The feed-forward call's result is the reference's. -/
module

public import proofs.«01_k».proof.Proof.FfnSum
public import proofs.«01_k».proof.Proof.Gen.Reference2Ideal.Run
public import Idealize.ShloMosaic.Lib.Tactic.CleanTypes

@[expose] public section

set_option maxRecDepth 16384

noncomputable section

namespace Cert.Proof.Ffn

open Idealize.ShloMosaic Idealize.ShloMosaic.TcCoe Idealize.ShloMosaic.Tactic

/-- The reference's result at an index, of memories agreeing on the arguments. -/
theorem reference_at (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev 1)
    (h0 : m' (c.tc.loc Cert.Reference2Ideal.main_arg0) = m (c.tc.loc Cert.Kernel2Ideal.main_arg0))
    (h1 : m' (c.tc.loc Cert.Reference2Ideal.main_arg1) = m (c.tc.loc Cert.Kernel2Ideal.main_arg1))
    (h2 : m' (c.tc.loc Cert.Reference2Ideal.main_arg2) = m (c.tc.loc Cert.Kernel2Ideal.main_arg2))
    (h3 : m' (c.tc.loc Cert.Reference2Ideal.main_arg3) = m (c.tc.loc Cert.Kernel2Ideal.main_arg3))
    (h4 : m' (c.tc.loc Cert.Reference2Ideal.main_arg4) = m (c.tc.loc Cert.Kernel2Ideal.main_arg4))
    (R : Fin 16384) (d : Fin 2048) :
    Cert.Reference2Ideal.Value.res_main_v34 m' c (ix2 R d) = result m c R d := by
  unfold Cert.Reference2Ideal.Value.res_main_v34
  clean_types
  rw [h0, h1, h2, h3, h4]
  pointwise
  simp only [result, half, rms, part, term, act, nrm, zero_sub]

end Cert.Proof.Ffn

end
-- ==== Proof.MacStep.lean ====
/- The feed-forward call without a last norm, one grid point at a time: what each of the body's three cases leaves in the output block and
   in the scratch that carries the normalised rows. -/
module

public import proofs.«01_k».proof.Proof.Gen.Kernel3Ideal.Value
public import proofs.«01_k».proof.Proof.Rows
public import proofs.«01_k».proof.Proof.FfnMath

@[expose] public section

set_option maxRecDepth 16384

noncomputable section

namespace Cert.Proof.Mac

open Cert.Kernel3Ideal Cert.Kernel3Ideal.Gen
open Idealize.ShloMosaic Idealize.ShloMosaic.TcCoe Idealize.ShloMosaic.Tactic

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x2048x512 .bf16) (harg5 : arg5.IsWhole) (arg6 : Memref sig .tc .vmem S1x512x2048 .bf16) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole)
  (x0 : Vec Ideal S1024x2048 .f32) (x1 : Vec Ideal S1x2048 .f32) (x2 : Vec Ideal S1x2048x512 .bf16) (x3 : Vec Ideal S1x2048x512 .bf16) (x4 : Vec Ideal S1x512x2048 .bf16) (x5 : Vec Ideal S1x2048 .f32) (xo : Vec Ideal S1024x2048 .f32) (xs : Vec Ideal S1024x2048 .bf16)

/-- The block's rows, each divided by its root mean square. -/
def normed : Vec Ideal S1024x2048 .bf16 := fun y => rms (fun j => x0 (ix2 (y 0) j)) (fun j => x1 (ix2 0 j)) (y 1)

/-- The block's rows with half the sum added. -/
def finished (xo : Vec Ideal S1024x2048 .f32) : Vec Ideal S1024x2048 .f32 := fun y =>
  half (fun j => x0 (ix2 (y 0) j)) (fun j => xo (ix2 (y 0) j)) (y 1)

theorem pay1_at (x : Vec Ideal S256x2048 .f32) (g : Vec Ideal S1x2048 .f32) (a : Fin 256) (d : Fin 2048) :
    k0_pay1 x g (ix2 a d) = rms (fun j => x (ix2 a j)) (fun j => g (ix2 0 j)) d := by
  pointwise [k0_pay1, rms]

theorem pay4_at (x o : Vec Ideal S256x2048 .f32) (a : Fin 256) (d : Fin 2048) :
    k0_pay4 x o (ix2 a d) = half (fun j => x (ix2 a j)) (fun j => o (ix2 a j)) d := by
  pointwise [k0_pay4, half]

theorem trips1 : k0_t1_loop.trips = 4 := by decide
theorem trips2 : k0_t2_loop.trips = 4 := by decide

/-- One trip of the first loop, of the scratch that holds the normalised rows. -/
theorem trip1_scratch (hc0) (k : Fin k0_t1_loop.trips) :
    (trip_k0_t1 (F := Ideal) Variants.none c none i arg2 harg2 arg3 harg3 arg4 harg4 arg5 harg5 arg6 harg6 arg7 harg7 arg8 harg8 arg9 harg9 hc0 (harg2.unread x0) (harg3.unread x1) k).2.1
      = [⟨Rect.unit (k0_off1 k) ![256, 2048] (k0_off1_inb i k hc0), k0_pay1 (View.ld x0 (Rect.unit (k0_off1 k) ![256, 2048] (k0_off1_inb i k hc0))) x1⟩] := by
  unfold trip_k0_t1
  simp only [View.readAt_eq_ld, harg2.read_unread, harg3.read_unread]
  rw [View.ld_unit_zero (by decide)]

/-- One trip of the first loop, of the output block. -/
theorem trip1_out (hc0) (k : Fin k0_t1_loop.trips) :
    (trip_k0_t1 (F := Ideal) Variants.none c none i arg2 harg2 arg3 harg3 arg4 harg4 arg5 harg5 arg6 harg6 arg7 harg7 arg8 harg8 arg9 harg9 hc0 (harg2.unread x0) (harg3.unread x1) k).1
      = [⟨Rect.unit (k0_off1 k) ![256, 2048] (k0_off1_inb i k hc0), k0_pay2 (F := Ideal)⟩] := by
  unfold trip_k0_t1
  rfl

/-- One trip of the second loop. -/
theorem trip2_out (hc1) (f) (k : Fin k0_t2_loop.trips) :
    (trip_k0_t2 (F := Ideal) Variants.none c none i arg2 harg2 arg3 harg3 arg4 harg4 arg5 harg5 arg6 harg6 arg7 harg7 arg8 harg8 arg9 harg9 hc1 (harg2.unread x0) k).1 f
      = [⟨Rect.unit (k0_off2 k) ![256, 2048] (k0_off2_inb i k hc1), k0_pay4 (View.ld x0 (Rect.unit (k0_off2 k) ![256, 2048] (k0_off2_inb i k hc1)))
          (View.ld (arg8.view.read (Elt Ideal) f) (Rect.unit (k0_off2 k) ![256, 2048] (k0_off2_inb i k hc1)))⟩] := by
  unfold trip_k0_t2
  simp only [View.readAt_eq_ld, harg2.read_unread]

/-- The first loop leaves the normalised rows in the scratch. -/
theorem loop1_scratch (hc0) :
    View.canon (pb_k0_t1 (F := Ideal) Variants.none c none i arg2 harg2 arg3 harg3 arg4 harg4 arg5 harg5 arg6 harg6 arg7 harg7 arg8 harg8 arg9 harg9 hc0 (harg2.unread x0) (harg3.unread x1) k0_t1_loop.trips).2 = normed x0 x1 := by
  rw [← List.append_nil (pb_k0_t1 _ _ _ _ _ _ _ _ _ _ _ _ _ _ _ _ _ _ _ _ _ _ _ _).2]
  refine Rows.canon_eq (R := 1024) (C := 2048) (r := 256) (fun n => (pb_k0_t1 (F := Ideal) Variants.none c none i arg2 harg2 arg3 harg3 arg4 harg4 arg5 harg5 arg6 harg6 arg7 harg7 arg8 harg8 arg9 harg9 hc0 (harg2.unread x0) (harg3.unread x1) n).2)
    (N := k0_t1_loop.trips) k0_off1 (fun k => k0_off1_inb i k hc0) (fun k => k0_pay1 (View.ld x0 (Rect.unit (k0_off1 k) ![256, 2048] (k0_off1_inb i k hc0))) x1)
    [] _ rfl (fun k => ?_) (fun k => k0_off1_eq k) (fun k a d a' ha => ?_) (by rw [trips1])
  · exact (congrArg Prod.snd (pb_k0_t1_succ ..)).trans (congrArg (· ++ _) (trip1_scratch ..))
  · exact (pay1_at _ _ a d).trans (congrArg (fun h => rms h (fun j => x1 (ix2 0 j)) d)
      (funext fun j => Rows.ld_rows x0 _ (k0_off1_eq k) a a' ha j))

/-- What trip `k` of the second loop stores. -/
def chunk2 (hc1 : k0_cond2 i = 1#1) (f : BufTy.Contents (Elt Ideal) arg8.view.ty) (k : Fin k0_t2_loop.trips) : Vec Ideal S256x2048 .f32 :=
  k0_pay4 (View.ld x0 (Rect.unit (k0_off2 k) ![256, 2048] (k0_off2_inb i k hc1)))
    (View.ld (arg8.view.read (Elt Ideal) (arg8.view.writes (Elt Ideal) f (pb_k0_t2 (F := Ideal) Variants.none c none i arg2 harg2 arg3 harg3 arg4 harg4 arg5 harg5 arg6 harg6 arg7 harg7 arg8 harg8 arg9 harg9 hc1 (harg2.unread x0) f k.val)))
      (Rect.unit (k0_off2 k) ![256, 2048] (k0_off2_inb i k hc1)))

/-- The second loop's stores, one trip more. -/
theorem loop2_succ (hc1) (f : BufTy.Contents (Elt Ideal) arg8.view.ty) (k : Fin k0_t2_loop.trips) :
    pb_k0_t2 (F := Ideal) Variants.none c none i arg2 harg2 arg3 harg3 arg4 harg4 arg5 harg5 arg6 harg6 arg7 harg7 arg8 harg8 arg9 harg9 hc1 (harg2.unread x0) f (k.val + 1)
      = ⟨Rect.unit (k0_off2 k) ![256, 2048] (k0_off2_inb i k hc1), chunk2 c i arg2 harg2 arg3 harg3 arg4 harg4 arg5 harg5 arg6 harg6 arg7 harg7 arg8 harg8 arg9 harg9 x0 hc1 f k⟩
        :: pb_k0_t2 (F := Ideal) Variants.none c none i arg2 harg2 arg3 harg3 arg4 harg4 arg5 harg5 arg6 harg6 arg7 harg7 arg8 harg8 arg9 harg9 hc1 (harg2.unread x0) f k.val := by
  rw [pb_k0_t2_succ, tripL_k0_t2, trip2_out]; rfl

/-- Trip `k`'s rows are the output block's until trip `k` stores there. -/
theorem loop2_miss (hc1) (f : BufTy.Contents (Elt Ideal) arg8.view.ty) (k : Fin k0_t2_loop.trips) (a' : Fin 1024) (j : Fin 2048) (ha : 256 * k.val ≤ a'.val) :
    arg8.view.read (Elt Ideal) (arg8.view.writes (Elt Ideal) f (pb_k0_t2 (F := Ideal) Variants.none c none i arg2 harg2 arg3 harg3 arg4 harg4 arg5 harg5 arg6 harg6 arg7 harg7 arg8 harg8 arg9 harg9 hc1 (harg2.unread x0) f k.val)) (ix2 a' j)
      = arg8.view.read (Elt Ideal) f (ix2 a' j) :=
  Rows.read_miss (R := 1024) (C := 2048) (r := 256) (N := k0_t2_loop.trips)
    (pb_k0_t2 (F := Ideal) Variants.none c none i arg2 harg2 arg3 harg3 arg4 harg4 arg5 harg5 arg6 harg6 arg7 harg7 arg8 harg8 arg9 harg9 hc1 (harg2.unread x0) f)
    k0_off2 (fun k => k0_off2_inb i k hc1) (chunk2 c i arg2 harg2 arg3 harg3 arg4 harg4 arg5 harg5 arg6 harg6 arg7 harg7 arg8 harg8 arg9 harg9 x0 hc1 f) arg8.view f rfl
    (loop2_succ c i arg2 harg2 arg3 harg3 arg4 harg4 arg5 harg5 arg6 harg6 arg7 harg7 arg8 harg8 arg9 harg9 x0 hc1 f) (fun k => k0_off2_eq k) (ix2 a' j) k.val k.isLt.le ha

/-- The second loop leaves the finished rows in the output block. -/
theorem loop2_out (hc1) (P : Vec Ideal S1024x2048 .f32) (L' f) (hf : arg8.view.read (Elt Ideal) f = P) :
    View.canon (pb_k0_t2 (F := Ideal) Variants.none c none i arg2 harg2 arg3 harg3 arg4 harg4 arg5 harg5 arg6 harg6 arg7 harg7 arg8 harg8 arg9 harg9 hc1 (harg2.unread x0) f k0_t2_loop.trips ++ L') = finished x0 P := by
  refine Rows.canon_eq (R := 1024) (C := 2048) (r := 256) (N := k0_t2_loop.trips)
    (pb_k0_t2 (F := Ideal) Variants.none c none i arg2 harg2 arg3 harg3 arg4 harg4 arg5 harg5 arg6 harg6 arg7 harg7 arg8 harg8 arg9 harg9 hc1 (harg2.unread x0) f)
    k0_off2 (fun k => k0_off2_inb i k hc1) (chunk2 c i arg2 harg2 arg3 harg3 arg4 harg4 arg5 harg5 arg6 harg6 arg7 harg7 arg8 harg8 arg9 harg9 x0 hc1 f)
    L' _ rfl (loop2_succ c i arg2 harg2 arg3 harg3 arg4 harg4 arg5 harg5 arg6 harg6 arg7 harg7 arg8 harg8 arg9 harg9 x0 hc1 f) (fun k => k0_off2_eq k) (fun k a d a' ha => ?_) (by rw [trips2])
  refine (pay4_at _ _ a d).trans ?_
  subst hf
  exact congrArg₂ (fun u v => u + Ideal.ofBits FTy.f32 1056964608#32 * v) (Rows.ld_rows x0 _ (k0_off2_eq k) a a' ha d)
    ((Rows.ld_rows (arg8.view.read (Elt Ideal) _) _ (k0_off2_eq k) a a' ha d).trans
      (loop2_miss c i arg2 harg2 arg3 harg3 arg4 harg4 arg5 harg5 arg6 harg6 arg7 harg7 arg8 harg8 arg9 harg9 x0 hc1 f k a' d (by omega)))

/-- The first loop leaves zeros in the output block. -/
theorem loop1_out (hc0) :
    View.canon (pb_k0_t1 (F := Ideal) Variants.none c none i arg2 harg2 arg3 harg3 arg4 harg4 arg5 harg5 arg6 harg6 arg7 harg7 arg8 harg8 arg9 harg9 hc0 (harg2.unread x0) (harg3.unread x1) k0_t1_loop.trips).1 = fun _ => (0 : EReal) := by
  rw [← List.append_nil (pb_k0_t1 _ _ _ _ _ _ _ _ _ _ _ _ _ _ _ _ _ _ _ _ _ _ _ _).1]
  refine Rows.canon_eq (R := 1024) (C := 2048) (r := 256) (fun n => (pb_k0_t1 (F := Ideal) Variants.none c none i arg2 harg2 arg3 harg3 arg4 harg4 arg5 harg5 arg6 harg6 arg7 harg7 arg8 harg8 arg9 harg9 hc0 (harg2.unread x0) (harg3.unread x1) n).1)
    (N := k0_t1_loop.trips) k0_off1 (fun k => k0_off1_inb i k hc0) (fun _ => k0_pay2 (F := Ideal))
    [] (fun _ => (0 : EReal)) rfl (fun k => ?_) (fun k => k0_off1_eq k) (fun k a d a' ha => ?_) (by rw [trips1])
  · exact (congrArg Prod.fst (pb_k0_t1_succ ..)).trans (congrArg (· ++ _) (trip1_out ..))
  · pointwise [k0_pay2]

theorem step_B (hc0) (hc1) :
    out0_B_6 c i arg2 harg2 arg3 harg3 arg4 harg4 arg5 harg5 arg6 harg6 arg7 harg7 arg8 harg8 arg9 harg9 hc0 hc1 x0 x1 x2 x3 x4 x5 xo xs = k0_pay3 xs x2 x3 xo x4 := by
  frame_out

theorem scratch_A (hc0) (hc1) :
    sout0_A_0 c i arg2 harg2 arg3 harg3 arg4 harg4 arg5 harg5 arg6 harg6 arg7 harg7 arg8 harg8 arg9 harg9 hc0 hc1 x0 x1 x2 x3 x4 x5 = normed x0 x1 := by
  frame_out
  exact loop1_scratch ..

theorem step_A (hc0) (hc1) :
    out0_A_6 c i arg2 harg2 arg3 harg3 arg4 harg4 arg5 harg5 arg6 harg6 arg7 harg7 arg8 harg8 arg9 harg9 hc0 hc1 x0 x1 x2 x3 x4 x5 = k0_pay3 (normed x0 x1) x2 x3 (fun _ => (0 : EReal)) x4 := by
  frame_out
  rw [View.readCov_eq_canon', View.readCov_eq_canon']
  erw [loop1_scratch, loop1_out]
  exact congrArg₂ (fun a b => k0_pay3 a x2 x3 b x4) (View.ld_unit_zero (S := S1024x2048) (off := ![0, 0]) (by decide) _ (normed x0 x1)) rfl

theorem step_C (hc0) (hc1) :
    out0_C_6 c i arg2 harg2 arg3 harg3 arg4 harg4 arg5 harg5 arg6 harg6 arg7 harg7 arg8 harg8 arg9 harg9 hc0 hc1 x0 x1 x2 x3 x4 x5 xo xs = finished x0 (k0_pay3 xs x2 x3 xo x4) := by
  frame_out
  refine loop2_out c i arg2 harg2 arg3 harg3 arg4 harg4 arg5 harg5 arg6 harg6 arg7 harg7 arg8 harg8 arg9 harg9 x0 hc1 _ _ _ ?_
  rw [View.read_writes_junk_eq_canon]
  exact View.canon_unit_zero (by decide) _ _

end Cert.Proof.Mac

end
-- ==== Proof.MacBlocks.lean ====
/- The input blocks of the feed-forward call without a last norm, at an index of the call's arguments. -/
module

public import proofs.«01_k».proof.Proof.MacStep

@[expose] public section

set_option maxRecDepth 16384

noncomputable section

namespace Cert.Proof.Mac

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

/-- The padding's zero. -/
theorem pad_zero : (FloatOps.sitofp FTy.bf16 0#32 : Ideal FTy.bf16) = (0 : EReal) := by
  simp [FloatOps.sitofp]

/-- The gate weights as padded, at a column. -/
theorem entry_gate (y : Fin 2048) (n : Fin 5632) : V m c main_v3 (ix3 0 y n)
    = if h : n.val < 5504 then (m (c.tc.loc main_arg2) (ix2 y ⟨n.val, by omega⟩) : EReal) else (0 : EReal) := by
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  rw [pad_zero]

/-- The up weights as padded, at a column. -/
theorem entry_up (y : Fin 2048) (n : Fin 5632) : V m c main_v7 (ix3 0 y n)
    = if h : n.val < 5504 then (m (c.tc.loc main_arg2) (ix2 y ⟨5504 + n.val, by omega⟩) : EReal) else (0 : EReal) := by
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  rw [pad_zero]

/-- The down weights as padded, at a row. -/
theorem entry_down (n : Fin 5632) (d : Fin 2048) : V m c main_v10 (ix3 0 n d)
    = if h : n.val < 5504 then (m (c.tc.loc main_arg3) (ix2 ⟨n.val, h⟩ d) : EReal) else (0 : EReal) := by
  simp only [V, hostOps0, hostOps0_1, hostOps0_2, hostOps0_3, hostOps0_4, hostOps0_5, hostOps0_6, List.flatten_cons, List.flatten_nil, List.append_nil, List.cons_append, List.nil_append]
  entry_read
  simp -implicitDefEqProofs only [StableHlo.TRef.toBuf, StableHlo.TRef.ofBuf, cast_cast, cast_eq]
  pointwise
  rw [pad_zero]

/-- The first gain, as a row. -/
theorem entry_gain (d : Fin 2048) : V m c main_v11 (ix2 0 d) = m (c.tc.loc main_arg1) (ix1 d) := by
  simp only [V, hostOps0, hostOps0_1, hostOps0_2, hostOps0_3, hostOps0_4, hostOps0_5, hostOps0_6, List.flatten_cons, List.flatten_nil, List.append_nil, List.cons_append, List.nil_append]
  entry_read
  pointwise

/-- The windows' block indices at a point. -/
theorem idx : ∀ t : Fin cfg0.N, win0_0.index t (0 : Fin 2) = t.val / 11 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 11
    ∧ win0_3.index t (0 : Fin 3) = 0 ∧ win0_3.index t (1 : Fin 3) = 0 ∧ win0_3.index t (2 : Fin 3) = t.val % 11
    ∧ win0_4.index t (0 : Fin 3) = 0 ∧ win0_4.index t (1 : Fin 3) = t.val % 11 ∧ win0_4.index t (2 : Fin 3) = 0
    ∧ win0_5.index t (0 : Fin 2) = 0 ∧ win0_5.index t (1 : Fin 2) = 0 := by decide +kernel

theorem blk_x (t : Fin cfg0.N) (a : Fin 1024) (j : Fin 2048) (R : Fin 16384) (hR : R.val = 1024 * (t.val / 11) + a.val) :
    iblk m c 0 t (ix2 a j) = m (c.tc.loc main_arg0) (ix2 R j) := by
  blk_ext [iblk, V, idx t]

theorem blk_gain (t : Fin cfg0.N) (j : Fin 2048) : iblk m c 1 t (ix2 0 j) = m (c.tc.loc main_arg1) (ix1 j) := by
  refine (show _ = V m c main_v11 (ix2 0 j) from ?_).trans (entry_gain m c j)
  blk_ext [iblk, idx t]

theorem blk_gate (t : Fin cfg0.N) (y : Fin 2048) (x : Fin 512) (n : Fin 5632) (hn : n.val = 512 * (t.val % 11) + x.val) :
    iblk m c 2 t (ix3 0 y x) = V m c main_v3 (ix3 0 y n) := by
  blk_ext [iblk, idx t]

theorem blk_up (t : Fin cfg0.N) (y : Fin 2048) (x : Fin 512) (n : Fin 5632) (hn : n.val = 512 * (t.val % 11) + x.val) :
    iblk m c 3 t (ix3 0 y x) = V m c main_v7 (ix3 0 y n) := by
  blk_ext [iblk, idx t]

theorem blk_down (t : Fin cfg0.N) (x : Fin 512) (d : Fin 2048) (n : Fin 5632) (hn : n.val = 512 * (t.val % 11) + x.val) :
    iblk m c 4 t (ix3 0 x d) = V m c main_v10 (ix3 0 n d) := by
  blk_ext [iblk, idx t]

/-- The gate weights' block at a point, of the argument. -/
theorem gate_at (t : Fin cfg0.N) (y : Fin 2048) (x : Fin 512) : (iblk m c 2 t (ix3 0 y x) : EReal)
    = if h : 512 * (t.val % 11) + x.val < 5504 then (m (c.tc.loc main_arg2) (ix2 y ⟨512 * (t.val % 11) + x.val, by omega⟩) : EReal) else (0 : EReal) :=
  (blk_gate m c t y x ⟨512 * (t.val % 11) + x.val, by omega⟩ rfl).trans (entry_gate m c y ⟨512 * (t.val % 11) + x.val, by omega⟩)

/-- The up weights' block at a point, of the argument. -/
theorem up_at (t : Fin cfg0.N) (y : Fin 2048) (x : Fin 512) : (iblk m c 3 t (ix3 0 y x) : EReal)
    = if h : 512 * (t.val % 11) + x.val < 5504 then (m (c.tc.loc main_arg2) (ix2 y ⟨5504 + (512 * (t.val % 11) + x.val), by omega⟩) : EReal) else (0 : EReal) :=
  (blk_up m c t y x ⟨512 * (t.val % 11) + x.val, by omega⟩ rfl).trans (entry_up m c y ⟨512 * (t.val % 11) + x.val, by omega⟩)

/-- The down weights' block at a point, of the argument. -/
theorem down_at (t : Fin cfg0.N) (x : Fin 512) (d : Fin 2048) : (iblk m c 4 t (ix3 0 x d) : EReal)
    = if h : 512 * (t.val % 11) + x.val < 5504 then (m (c.tc.loc main_arg3) (ix2 ⟨512 * (t.val % 11) + x.val, h⟩ d) : EReal) else (0 : EReal) :=
  (blk_down m c t x d ⟨512 * (t.val % 11) + x.val, by omega⟩ rfl).trans (entry_down m c ⟨512 * (t.val % 11) + x.val, by omega⟩ d)

end Cert.Proof.Mac

end
-- ==== Proof.MacSum.lean ====
/- The feed-forward call without a last norm over its grid: the points of one block of rows sum the hidden columns, and the last of them
   finishes the rows. -/
module

public import proofs.«01_k».proof.Proof.MacBlocks

@[expose] public section

set_option maxRecDepth 16384

noncomputable section

namespace Cert.Proof.Mac

open Cert.Kernel3Ideal Cert.Kernel3Ideal.Gen
open Idealize.ShloMosaic Idealize.ShloMosaic.TcCoe Idealize.ShloMosaic.Tactic

variable (m : (ℓ : Loc nD τ sig) → Buf (Elt Ideal) ℓ) (c : Dev nD)

/-- Row `R`, normalised. -/
def nrm (R : Fin 16384) : Fin 2048 → EReal :=
  rms (fun j => m (c.tc.loc main_arg0) (ix2 R j)) (fun j => m (c.tc.loc main_arg1) (ix1 j))

/-- Hidden column `n`'s contribution to row `R`, column `d`. -/
def part (R : Fin 16384) (d : Fin 2048) (n : Fin 5504) : EReal :=
  term (nrm m c R) (fun y n => m (c.tc.loc main_arg2) (ix2 y n)) (fun n d => m (c.tc.loc main_arg3) (ix2 n d)) d n

/-- The same for a column of the padded width. -/
def partP (R : Fin 16384) (d : Fin 2048) (n : ℕ) : EReal :=
  termP (nrm m c R) (fun y n => m (c.tc.loc main_arg2) (ix2 y n)) (fun n d => m (c.tc.loc main_arg3) (ix2 n d)) d n

/-- The call's result. -/
def result (R : Fin 16384) (d : Fin 2048) : EReal :=
  half (fun j => m (c.tc.loc main_arg0) (ix2 R j)) (fun j => ∑ n, part m c R j n) d

/-- One point's share of the sum. -/
theorem point (t : Fin cfg0.N) (xs : Vec Ideal S1024x2048 .bf16) (xo : Vec Ideal S1024x2048 .f32) (a : Fin 1024) (d : Fin 2048)
    (R : Fin 16384) (hs : ∀ y, xs (ix2 a y) = nrm m c R y) :
    k0_pay3 xs (iblk m c 2 t) (iblk m c 3 t) xo (iblk m c 4 t) (ix2 a d)
      = xo (ix2 a d) + ∑ x : Fin 512, partP m c R d (512 * (t.val % 11) + x.val) := by
  have h1 : ∀ (A B : Vec Ideal S1x2048x512 .bf16) (D : Vec Ideal S1x512x2048 .bf16), k0_pay3 xs A B xo D (ix2 a d)
      = xo (ix2 a d) + ∑ x : Fin 512, act (fun y => xs (ix2 a y)) (fun y => A (ix3 0 y x)) (fun y => B (ix3 0 y x)) * D (ix3 0 x d) := by
    intro A B D
    pointwise [k0_pay3, act]
  rw [h1]
  refine congrArg (xo (ix2 a d) + ·) (Finset.sum_congr rfl fun x _ => ?_)
  simp only [hs, gate_at, up_at, down_at]
  unfold partP termP
  by_cases h : 512 * (t.val % 11) + x.val < 5504
  · simp only [h, dif_pos]
    rfl
  · simp only [h, dif_neg, not_false_eq_true, mul_zero]

theorem normed_at (t : Fin cfg0.N) (a : Fin 1024) (y : Fin 2048) (R : Fin 16384) (hR : R.val = 1024 * (t.val / 11) + a.val) :
    normed (iblk m c 0 t) (iblk m c 1 t) (ix2 a y) = nrm m c R y := by
  show rms (fun j => iblk m c 0 t (ix2 a j)) (fun j => iblk m c 1 t (ix2 0 j)) y = _
  simp only [blk_x m c t a _ R hR, blk_gain]
  rfl

/-- The scratch holds the block's normalised rows throughout, and before the last point of the block the output holds the
    columns summed so far. -/
theorem held (n : ℕ) (hn : n < cfg0.N) (a : Fin 1024) (R : Fin 16384) (hR : R.val = 1024 * (n / 11) + a.val) :
    (∀ y, (outsAt0 m c n hn).2 (ix2 a y) = nrm m c R y) ∧ (n % 11 < 10 → ∀ d, (outsAt0 m c n hn).1 (ix2 a d)
      = ∑ f ∈ Finset.range (n % 11 + 1), ∑ x : Fin 512, partP m c R d (512 * f + x.val)) := by
  induction n with
  | zero =>
    have e := outsAt0_A m c ⟨0, hn⟩ rfl (by dsimp only; omega)
    rw [scratch_A, step_A] at e
    dsimp only at e
    rw [e]
    refine ⟨fun y => normed_at m c ⟨0, hn⟩ a y R hR, fun _ d => ?_⟩
    refine (point m c ⟨0, hn⟩ _ _ a d R (fun y => normed_at m c ⟨0, hn⟩ a y R hR)).trans ?_
    simp
  | succ n ih =>
    by_cases h0 : (n + 1) % 11 = 0
    · have e := outsAt0_A m c ⟨n + 1, hn⟩ h0 (by dsimp only; omega)
      rw [scratch_A, step_A] at e
      dsimp only at e
      rw [e]
      refine ⟨fun y => normed_at m c ⟨n + 1, hn⟩ a y R hR, fun _ d => ?_⟩
      refine (point m c ⟨n + 1, hn⟩ _ _ a d R (fun y => normed_at m c ⟨n + 1, hn⟩ a y R hR)).trans ?_
      simp [h0]
    · obtain ⟨ihs, iho⟩ := ih (by omega) (by omega)
      by_cases h1 : (n + 1) % 11 = 10
      · have e := outsAt0_C m c ⟨n + 1, hn⟩ h0 h1
        dsimp only at e
        rw [e]
        exact ⟨ihs, fun h => absurd h (by omega)⟩
      · have e := outsAt0_B m c ⟨n + 1, hn⟩ h0 h1
        rw [step_B] at e
        dsimp only at e
        rw [e]
        refine ⟨ihs, fun _ d => ?_⟩
        refine (point m c ⟨n + 1, hn⟩ _ _ a d R ihs).trans ?_
        refine (congrArg (· + _) (iho (by omega) d)).trans ?_
        dsimp only
        rw [show (n + 1) % 11 = n % 11 + 1 by omega, Finset.sum_range_succ _ (n % 11 + 1)]

/-- The last point of a block leaves the finished rows. -/
theorem last (t : Fin cfg0.N) (h1 : t.val % 11 = 10) (a : Fin 1024) (d : Fin 2048) (R : Fin 16384) (hR : R.val = 1024 * (t.val / 11) + a.val) :
    (outsAt0 m c t.val t.isLt).1 (ix2 a d) = result m c R d := by
  have h0 : ¬t.val % 11 = 0 := by omega
  have e := outsAt0_C m c t h0 h1
  rw [step_C] at e
  rw [e]
  obtain ⟨ihs, iho⟩ := held m c (t.val - 1) (by have := t.isLt; omega) a R (by omega)
  have hf : ∀ xo : Vec Ideal S1024x2048 .f32, finished (iblk m c 0 t) xo (ix2 a d)
      = half (fun j => iblk m c 0 t (ix2 a j)) (fun j => xo (ix2 a j)) d := fun _ => rfl
  refine (hf _).trans ?_
  unfold result half
  simp only [point m c t _ _ a _ R ihs, iho (by omega), part, ← sum_padded, blk_x m c t a _ R hR]
  have e : (t.val - 1) % 11 + 1 = 10 := by omega
  rw [e, h1]
  simp only [Finset.sum_range_succ _ 10, partP]

/-- The array after the run. -/
theorem final (R : Fin 16384) (d : Fin 2048) : Value.G6 m c (ix2 R d) = result m c R d := by
  have hp : Value.pt6Of (ix2 R d) = 11 * (R.val / 1024) + 10 := by
    simp only [Value.pt6Of, Value.run6Of]
    show 11 * (1 * (R.val / 1024 - 0) + 1 * (d.val / 2048 - 0)) + 10 = _
    have := d.isLt
    omega
  have hl : Value.loc6Of (ix2 R d) = ix2 ⟨R.val % 1024, Nat.mod_lt _ (by decide)⟩ d := by
    rw [eq_ix2 (Value.loc6Of (ix2 R d))]
    exact congrArg (ix2 _) (Fin.ext (Nat.mod_eq_of_lt d.isLt))
  have hN : 11 * (R.val / 1024) + 10 < cfg0.N := lt_of_lt_of_eq (by omega) N_0.symm
  unfold Value.G6
  rw [dif_pos (lt_of_eq_of_lt hp hN), ← Value.outsAt0_sweep m c _ (lt_of_eq_of_lt hp hN)]
  simp only [hp, hl]
  exact last m c ⟨_, hN⟩ (by dsimp only; omega) ⟨R.val % 1024, Nat.mod_lt _ (by decide)⟩ d R (by dsimp only; omega)

end Cert.Proof.Mac

end
-- ==== Proof.MacRef.lean ====
/- The feed-forward call without a last norm computes its reference. -/
module

public import proofs.«01_k».proof.Defs
public import proofs.«01_k».proof.Proof.MacSum
public import proofs.«01_k».proof.Proof.Gen.Reference3Ideal.Run
public import Idealize.ShloMosaic.Lib.Tactic.CleanTypes

@[expose] public section

set_option maxRecDepth 16384

noncomputable section

namespace Cert.Proof.Mac

open Idealize.ShloMosaic Idealize.ShloMosaic.TcCoe Idealize.ShloMosaic.Tactic Idealize.SL.Sem

/-- On memories that agree on the arguments, the call and the reference leave one array. -/
theorem algebraic : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨(h c).1.trans ?_, (h c).2⟩) (Cert.Reference3Ideal.Value.run (F := Ideal) m' ρ')
  obtain ⟨h0, h1, h2, h3, -⟩ := hagree c
  funext i
  obtain ⟨R, d, rfl⟩ : ∃ R d, i = ix2 R d := ⟨i 0, i 1, eq_ix2 i⟩
  rw [final m c R d]
  clean_types
  rw [h0, h1, h2, h3]
  pointwise
  simp only [result, half, rms, part, term, act, nrm, zero_sub]

end Cert.Proof.Mac

end
-- ==== Proof.MergeStep.lean ====
/- The merge call, one grid point at a time: what each of the body's three cases leaves in the output block and in the
   scratch that carries the normalised rows. -/
module

public import proofs.«01_k».proof.Proof.Gen.Kernel4Ideal.Value
public import proofs.«01_k».proof.Proof.FfnMath

@[expose] public section

set_option maxRecDepth 16384

noncomputable section

namespace Cert.Proof.Merge

open Cert.Kernel4Ideal Cert.Kernel4Ideal.Gen
open Idealize.ShloMosaic Idealize.ShloMosaic.TcCoe Idealize.ShloMosaic.Tactic

variable (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1x2048x512 .bf16) (harg7 : arg7.IsWhole) (arg8 : Memref sig .tc .vmem S1x2048x512 .bf16) (harg8 : arg8.IsWhole) (arg9 : Memref sig .tc .vmem S1x2048x512 .bf16) (harg9 : arg9.IsWhole) (arg10 : Memref sig .tc .vmem S1x3x1024x512 .bf16) (harg10 : arg10.IsWhole) (arg11 : Memref sig .tc .vmem S1x512x2048 .bf16) (harg11 : arg11.IsWhole) (arg12 : Memref sig .tc .vmem S512x2048 .f32) (harg12 : arg12.IsWhole) (arg13 : Memref sig .tc .vmem S512x2048 .bf16) (harg13 : arg13.IsWhole)
  (x0 : Vec Ideal S512x2048 .f32) (x1 : Vec Ideal S1x2048 .f32) (x2 x3 x4 : Vec Ideal S512x1024 .bf16) (x5 x6 x7 : Vec Ideal S1x2048x512 .bf16) (x8 : Vec Ideal S1x3x1024x512 .bf16) (x9 : Vec Ideal S1x512x2048 .bf16) (xo : Vec Ideal S512x2048 .f32) (xs : Vec Ideal S512x2048 .bf16)

/-- A branch's contribution to one channel: its projection, gated by the logistic of the channel's gate. -/
def gated (h wg : Fin 2048 → EReal) (y wb : Fin 1024 → EReal) : EReal :=
  Ideal.div 1 (1 + Ideal.exp (0 - ∑ k, h k * wg k)) * ∑ k, y k * wb k

/-- Branch `j`'s weights of the block. -/
def branchW (j : Fin 3) : Vec Ideal S1x1x1024x512 .bf16 := fun y => x8 (ix4 0 j (y 2) (y 3))

/-- What a point leaves in the output block that held `xo`. -/
def added (xs : Vec Ideal S512x2048 .bf16) (xo : Vec Ideal S512x2048 .f32) : Vec Ideal S512x2048 .f32 :=
  k0_pay6 xs (k0_pay4 xs x5 x2 (branchW x8 0)) (k0_pay5 xs x6) x3 (branchW x8 1) x7 x4 (branchW x8 2) xo x9

theorem added_at (a : Fin 512) (d : Fin 2048) : added x2 x3 x4 x5 x6 x7 x8 x9 xs xo (ix2 a d) = xo (ix2 a d)
    + ∑ x : Fin 512, (gated (fun k => xs (ix2 a k)) (fun k => x5 (ix3 0 k x)) (fun k => x2 (ix2 a k)) (fun k => x8 (ix4 0 0 k x))
      + gated (fun k => xs (ix2 a k)) (fun k => x6 (ix3 0 k x)) (fun k => x3 (ix2 a k)) (fun k => x8 (ix4 0 1 k x))
      + gated (fun k => xs (ix2 a k)) (fun k => x7 (ix3 0 k x)) (fun k => x4 (ix2 a k)) (fun k => x8 (ix4 0 2 k x))) * x9 (ix3 0 x d) := by
  pointwise [added, k0_pay6, k0_pay4, k0_pay5, gated, branchW]

/-- The block's rows, each divided by its root mean square. -/
def normed : Vec Ideal S512x2048 .bf16 := fun y => rms (fun j => x0 (ix2 (y 0) j)) (fun j => x1 (ix2 0 j)) (y 1)

theorem pay2_eq : k0_pay2 x0 x1 = normed x0 x1 := by
  funext y
  obtain ⟨a, d, rfl⟩ : ∃ a d, y = ix2 a d := ⟨y 0, y 1, eq_ix2 y⟩
  pointwise [k0_pay2, normed, rms]

/-- A load of one branch's weights. -/
theorem ld_branch (j : Fin 3) (off : Fin 4 → ℕ) (ho : off = ![0, j.val, 0, 0]) (inb) :
    View.ld x8 (Rect.unit (s := S1x3x1024x512) off ![1, 1, 1024, 512] inb) = branchW x8 j := by
  subst ho
  funext y
  refine congrArg x8 (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show j.val + 1 * (y 1).val = j.val; omega
  | ⟨2, _⟩ => show 0 + 1 * (y 2).val = (y 2).val; omega
  | ⟨3, _⟩ => show 0 + 1 * (y 3).val = (y 3).val; omega

/-- The body's sum, its loads of the branch weights as they stand. -/
theorem pay6_eq (xs : Vec Ideal S512x2048 .bf16) (xo : Vec Ideal S512x2048 .f32) (i0 i1 i2) :
    k0_pay6 xs (k0_pay4 xs x5 x2 (View.ld x8 (Rect.unit (s := S1x3x1024x512) ![0, 0, 0, 0] ![1, 1, 1024, 512] i0))) (k0_pay5 xs x6) x3
      (View.ld x8 (Rect.unit (s := S1x3x1024x512) ![0, 1, 0, 0] ![1, 1, 1024, 512] i1)) x7 x4
      (View.ld x8 (Rect.unit (s := S1x3x1024x512) ![0, 2, 0, 0] ![1, 1, 1024, 512] i2)) xo x9 = added x2 x3 x4 x5 x6 x7 x8 x9 xs xo := by
  rw [ld_branch x8 0 ![0, 0, 0, 0] rfl i0, ld_branch x8 1 ![0, 1, 0, 0] rfl i1, ld_branch x8 2 ![0, 2, 0, 0] rfl i2]
  rfl

theorem pay3_eq : k0_pay3 (F := Ideal) = fun _ => (0 : EReal) := by
  funext y
  pointwise [k0_pay3]

theorem scratch_A (hc0) (hc1) : sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = normed x0 x1 := by
  frame_out
  exact pay2_eq x0 x1

theorem step_A (hc0) (hc1) : out0_A_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9
    = added x2 x3 x4 x5 x6 x7 x8 x9 (normed x0 x1) (fun _ => (0 : EReal)) := by
  frame_out
  rw [pay2_eq, pay3_eq]
  exact pay6_eq ..

theorem step_B (hc0) (hc1) : out0_B_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo xs = added x2 x3 x4 x5 x6 x7 x8 x9 xs xo := by
  frame_out
  exact pay6_eq ..

theorem step_C (hc0) (hc1) : out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xo xs
    = fun y => (x0 y : EReal) + (added x2 x3 x4 x5 x6 x7 x8 x9 xs xo y : EReal) := by
  frame_out
  rw [pay6_eq]
  funext y
  pointwise [k0_pay1]

end Cert.Proof.Merge

end
-- ==== Proof.MergeBlocks.lean ====
/- The merge call's input blocks, read at an index of the call's arguments. -/
module

public import proofs.«01_k».proof.Proof.MergeStep
public import Idealize.ShloMosaic.Lib.Tactic.CleanTypes

@[expose] public section

set_option maxRecDepth 16384

noncomputable section

namespace Cert.Proof.Merge

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- The gain, as a row. -/
theorem entry_gain (d : Fin 2048) : V m c main_v0 (ix2 0 d) = m (c.tc.loc main_arg1) (ix1 d) := by
  simp only [V, hostOps0, List.flatten_cons, List.flatten_nil, List.append_nil, List.cons_append, List.nil_append]
  entry_read
  pointwise

/-- The gates' columns of the combined projection's weights. -/
theorem entry_gates (k : Fin 2048) (n : Fin 6144) : V m c main_v3 (ix3 0 k n) = m (c.tc.loc main_arg5) (ix2 k ⟨4932 + n.val, by omega⟩) := by
  simp only [V, hostOps0, List.flatten_cons, List.flatten_nil, List.append_nil, List.cons_append, List.nil_append]
  entry_read
  pointwise

/-- The branch weights. -/
theorem entry_branch (j : Fin 3) (k : Fin 1024) (n : Fin 2048) : V m c main_v5 (ix4 0 j k n) = m (c.tc.loc main_arg6) (ix3 j k n) := by
  simp only [V, hostOps0, List.flatten_cons, List.flatten_nil, List.append_nil, List.cons_append, List.nil_append]
  entry_read
  pointwise

/-- The output weights. -/
theorem entry_out (n d : Fin 2048) : V m c main_v7 (ix3 0 n d) = m (c.tc.loc main_arg7) (ix2 n d) := by
  simp only [V, hostOps0, List.flatten_cons, List.flatten_nil, List.append_nil, List.cons_append, List.nil_append]
  entry_read
  pointwise

/-- The windows' block indices at a point. -/
theorem idx : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = 0
    ∧ win0_4.index t (0 : Fin 2) = t.val / 4 ∧ win0_4.index t (1 : Fin 2) = 0
    ∧ win0_5.index t (0 : Fin 3) = 0 ∧ win0_5.index t (1 : Fin 3) = 0 ∧ win0_5.index t (2 : Fin 3) = t.val % 4
    ∧ win0_6.index t (0 : Fin 3) = 0 ∧ win0_6.index t (1 : Fin 3) = 0 ∧ win0_6.index t (2 : Fin 3) = 4 + t.val % 4
    ∧ win0_7.index t (0 : Fin 3) = 0 ∧ win0_7.index t (1 : Fin 3) = 0 ∧ win0_7.index t (2 : Fin 3) = 8 + t.val % 4
    ∧ win0_8.index t (0 : Fin 4) = 0 ∧ win0_8.index t (1 : Fin 4) = 0 ∧ win0_8.index t (2 : Fin 4) = 0 ∧ win0_8.index t (3 : Fin 4) = t.val % 4
    ∧ win0_9.index t (0 : Fin 3) = 0 ∧ win0_9.index t (1 : Fin 3) = t.val % 4 ∧ win0_9.index t (2 : Fin 3) = 0 := by decide +kernel

theorem blk_x (t : Fin cfg0.N) (a : Fin 512) (j : Fin 2048) (R : Fin 16384) (hR : R.val = 512 * (t.val / 4) + a.val) :
    iblk m c 0 t (ix2 a j) = m (c.tc.loc main_arg0) (ix2 R j) := by
  blk_ext [iblk, V, idx t]

theorem blk_a (t : Fin cfg0.N) (a : Fin 512) (j : Fin 1024) (R : Fin 16384) (hR : R.val = 512 * (t.val / 4) + a.val) :
    iblk m c 2 t (ix2 a j) = m (c.tc.loc main_arg2) (ix2 R j) := by
  blk_ext [iblk, V, idx t]

theorem blk_b (t : Fin cfg0.N) (a : Fin 512) (j : Fin 1024) (R : Fin 16384) (hR : R.val = 512 * (t.val / 4) + a.val) :
    iblk m c 3 t (ix2 a j) = m (c.tc.loc main_arg3) (ix2 R j) := by
  blk_ext [iblk, V, idx t]

theorem blk_c (t : Fin cfg0.N) (a : Fin 512) (j : Fin 1024) (R : Fin 16384) (hR : R.val = 512 * (t.val / 4) + a.val) :
    iblk m c 4 t (ix2 a j) = m (c.tc.loc main_arg4) (ix2 R j) := by
  blk_ext [iblk, V, idx t]

theorem blk_gain (t : Fin cfg0.N) (j : Fin 2048) : iblk m c 1 t (ix2 0 j) = m (c.tc.loc main_arg1) (ix1 j) := by
  refine (show _ = V m c main_v0 (ix2 0 j) from ?_).trans (entry_gain m c j)
  blk_ext [iblk, idx t]

theorem blk_gate0 (t : Fin cfg0.N) (k : Fin 2048) (x : Fin 512) (n : Fin 2048) (hn : n.val = 512 * (t.val % 4) + x.val) :
    (iblk m c 5 t (ix3 0 k x) : EReal) = m (c.tc.loc main_arg5) (ix2 k ⟨4932 + (0 + n.val), by omega⟩) := by
  refine (show _ = V m c main_v3 (ix3 0 k ⟨0 + n.val, by omega⟩) from ?_).trans (entry_gates m c k ⟨0 + n.val, by omega⟩)
  blk_ext [iblk, idx t]

theorem blk_gate1 (t : Fin cfg0.N) (k : Fin 2048) (x : Fin 512) (n : Fin 2048) (hn : n.val = 512 * (t.val % 4) + x.val) :
    (iblk m c 6 t (ix3 0 k x) : EReal) = m (c.tc.loc main_arg5) (ix2 k ⟨4932 + (2048 + n.val), by omega⟩) := by
  refine (show _ = V m c main_v3 (ix3 0 k ⟨2048 + n.val, by omega⟩) from ?_).trans (entry_gates m c k ⟨2048 + n.val, by omega⟩)
  blk_ext [iblk, idx t]

theorem blk_gate2 (t : Fin cfg0.N) (k : Fin 2048) (x : Fin 512) (n : Fin 2048) (hn : n.val = 512 * (t.val % 4) + x.val) :
    (iblk m c 7 t (ix3 0 k x) : EReal) = m (c.tc.loc main_arg5) (ix2 k ⟨4932 + (4096 + n.val), by omega⟩) := by
  refine (show _ = V m c main_v3 (ix3 0 k ⟨4096 + n.val, by omega⟩) from ?_).trans (entry_gates m c k ⟨4096 + n.val, by omega⟩)
  blk_ext [iblk, idx t]

theorem blk_branch (t : Fin cfg0.N) (j : Fin 3) (k : Fin 1024) (x : Fin 512) (n : Fin 2048) (hn : n.val = 512 * (t.val % 4) + x.val) :
    (iblk m c 8 t (ix4 0 j k x) : EReal) = m (c.tc.loc main_arg6) (ix3 j k n) := by
  refine (show _ = V m c main_v5 (ix4 0 j k n) from ?_).trans (entry_branch m c j k n)
  blk_ext [iblk, idx t]

theorem blk_out (t : Fin cfg0.N) (x : Fin 512) (d : Fin 2048) (n : Fin 2048) (hn : n.val = 512 * (t.val % 4) + x.val) :
    (iblk m c 9 t (ix3 0 x d) : EReal) = m (c.tc.loc main_arg7) (ix2 n d) := by
  refine (show _ = V m c main_v7 (ix3 0 n d) from ?_).trans (entry_out m c n d)
  blk_ext [iblk, idx t]

end Cert.Proof.Merge

end
-- ==== Proof.MergeSum.lean ====
/- The merge call over its grid: the points of one block of rows sum the merged channels' products with the output weights. -/
module

public import proofs.«01_k».proof.Proof.MergeBlocks

@[expose] public section

set_option maxRecDepth 16384

noncomputable section

namespace Cert.Proof.Merge

open Cert.Kernel4Ideal Cert.Kernel4Ideal.Gen
open Idealize.ShloMosaic Idealize.ShloMosaic.TcCoe Idealize.ShloMosaic.Tactic

variable (m : (ℓ : Loc nD τ sig) → Buf (Elt Ideal) ℓ) (c : Dev nD)

/-- Row `R`, normalised. -/
def nrm (R : Fin 16384) : Fin 2048 → EReal :=
  rms (fun j => m (c.tc.loc main_arg0) (ix2 R j)) (fun j => m (c.tc.loc main_arg1) (ix1 j))

/-- Gate `j` of channel `n`, times branch `j`'s value `y` there. -/
def gateOf (R : Fin 16384) (j : Fin 3) (y : Fin 1024 → EReal) (n : Fin 2048) : EReal :=
  gated (nrm m c R) (fun k => m (c.tc.loc main_arg5) (ix2 k ⟨4932 + (j.val * 2048 + n.val), by omega⟩)) y
    (fun k => m (c.tc.loc main_arg6) (ix3 j k n))

/-- Channel `n` of the merged branches of row `R`. -/
def merged (R : Fin 16384) (n : Fin 2048) : EReal :=
  gateOf m c R 0 (fun k => m (c.tc.loc main_arg2) (ix2 R k)) n + gateOf m c R 1 (fun k => m (c.tc.loc main_arg3) (ix2 R k)) n
    + gateOf m c R 2 (fun k => m (c.tc.loc main_arg4) (ix2 R k)) n

/-- Channel `n`'s contribution to row `R`, column `d`. -/
def part (R : Fin 16384) (d : Fin 2048) (n : Fin 2048) : EReal := merged m c R n * m (c.tc.loc main_arg7) (ix2 n d)

/-- The same for a number that counts a channel. -/
def partN (R : Fin 16384) (d : Fin 2048) (n : ℕ) : EReal := if h : n < 2048 then part m c R d ⟨n, h⟩ else 0

theorem sum_part (R : Fin 16384) (d : Fin 2048) :
    ∑ f ∈ Finset.range 4, ∑ x : Fin 512, partN m c R d (512 * f + x.val) = ∑ n, part m c R d n := by
  have h : ∀ f, ∑ x : Fin 512, partN m c R d (512 * f + x.val) = ∑ x ∈ Finset.range 512, partN m c R d (f * 512 + x) := fun f => by
    rw [Finset.sum_range, mul_comm f]
  simp only [h]
  rw [← Finset.sum_range_mul_split 4 512, show 4 * 512 = 2048 by norm_num, Finset.sum_range]
  exact Finset.sum_congr rfl fun n _ => dif_pos n.isLt

/-- A row's element and what is added to it. -/
def plus (x y : EReal) : EReal := x + y

/-- The call's result. -/
def result (R : Fin 16384) (d : Fin 2048) : EReal := plus (m (c.tc.loc main_arg0) (ix2 R d)) (∑ n, part m c R d n)

/-- One point's share of the sum. -/
theorem point (t : Fin cfg0.N) (xs : Vec Ideal S512x2048 .bf16) (xo : Vec Ideal S512x2048 .f32) (a : Fin 512) (d : Fin 2048)
    (R : Fin 16384) (hR : R.val = 512 * (t.val / 4) + a.val) (hs : ∀ y, xs (ix2 a y) = nrm m c R y) :
    added (iblk m c 2 t) (iblk m c 3 t) (iblk m c 4 t) (iblk m c 5 t) (iblk m c 6 t) (iblk m c 7 t) (iblk m c 8 t) (iblk m c 9 t) xs xo (ix2 a d)
      = xo (ix2 a d) + ∑ x : Fin 512, partN m c R d (512 * (t.val % 4) + x.val) := by
  refine (added_at _ _ _ _ _ _ _ _ xo xs a d).trans (congrArg (xo (ix2 a d) + ·) (Finset.sum_congr rfl fun x _ => ?_))
  have hn : 512 * (t.val % 4) + x.val < 2048 := by omega
  simp only [hs, blk_a m c t a _ R hR, blk_b m c t a _ R hR, blk_c m c t a _ R hR, blk_gate0 m c t _ x ⟨_, hn⟩ rfl,
    blk_gate1 m c t _ x ⟨_, hn⟩ rfl, blk_gate2 m c t _ x ⟨_, hn⟩ rfl, blk_branch m c t _ _ x ⟨_, hn⟩ rfl, blk_out m c t x _ ⟨_, hn⟩ rfl]
  unfold partN
  rw [dif_pos hn]
  rfl

theorem normed_at (t : Fin cfg0.N) (a : Fin 512) (y : Fin 2048) (R : Fin 16384) (hR : R.val = 512 * (t.val / 4) + a.val) :
    normed (iblk m c 0 t) (iblk m c 1 t) (ix2 a y) = nrm m c R y := by
  show rms (fun j => iblk m c 0 t (ix2 a j)) (fun j => iblk m c 1 t (ix2 0 j)) y = _
  simp only [blk_x m c t a _ R hR, blk_gain]
  rfl

/-- The scratch holds the block's normalised rows throughout, and before the last point of the block the output holds the
    channels summed so far. -/
theorem held (n : ℕ) (hn : n < cfg0.N) (a : Fin 512) (R : Fin 16384) (hR : R.val = 512 * (n / 4) + a.val) :
    (∀ y, (outsAt0 m c n hn).2 (ix2 a y) = nrm m c R y) ∧ (n % 4 < 3 → ∀ d, (outsAt0 m c n hn).1 (ix2 a d)
      = ∑ f ∈ Finset.range (n % 4 + 1), ∑ x : Fin 512, partN m c R d (512 * f + x.val)) := by
  have first : ∀ (n : ℕ) (hn : n < cfg0.N), n % 4 = 0 → R.val = 512 * (n / 4) + a.val →
      (∀ y, (outsAt0 m c n hn).2 (ix2 a y) = nrm m c R y) ∧ (n % 4 < 3 → ∀ d, (outsAt0 m c n hn).1 (ix2 a d)
        = ∑ f ∈ Finset.range (n % 4 + 1), ∑ x : Fin 512, partN m c R d (512 * f + x.val)) := by
    intro n hn h0 hR
    have e := outsAt0_A m c ⟨n, hn⟩ h0 (by dsimp only; omega)
    rw [scratch_A, step_A] at e
    dsimp only at e
    rw [e]
    refine ⟨fun y => normed_at m c ⟨n, hn⟩ a y R hR, fun _ d => ?_⟩
    refine (point m c ⟨n, hn⟩ _ _ a d R hR (fun y => normed_at m c ⟨n, hn⟩ a y R hR)).trans ?_
    simp [h0]
  induction n with
  | zero => exact first 0 hn rfl hR
  | succ n ih =>
    by_cases h0 : (n + 1) % 4 = 0
    · exact first (n + 1) hn h0 hR
    · obtain ⟨ihs, iho⟩ := ih (by omega) (by omega)
      by_cases h1 : (n + 1) % 4 = 3
      · have e := outsAt0_C m c ⟨n + 1, hn⟩ h0 h1
        dsimp only at e
        rw [e]
        exact ⟨ihs, fun h => absurd h (by omega)⟩
      · have e := outsAt0_B m c ⟨n + 1, hn⟩ h0 h1
        rw [step_B] at e
        dsimp only at e
        rw [e]
        refine ⟨ihs, fun _ d => ?_⟩
        refine (point m c ⟨n + 1, hn⟩ _ _ a d R hR ihs).trans ?_
        refine (congrArg (· + _) (iho (by omega) d)).trans ?_
        dsimp only
        rw [show (n + 1) % 4 = n % 4 + 1 by omega, Finset.sum_range_succ _ (n % 4 + 1)]

/-- The last point of a block leaves the finished rows. -/
theorem last (t : Fin cfg0.N) (h1 : t.val % 4 = 3) (a : Fin 512) (d : Fin 2048) (R : Fin 16384) (hR : R.val = 512 * (t.val / 4) + a.val) :
    (outsAt0 m c t.val t.isLt).1 (ix2 a d) = result m c R d := by
  have h0 : ¬t.val % 4 = 0 := by omega
  have e := outsAt0_C m c t h0 h1
  rw [step_C] at e
  rw [e]
  obtain ⟨ihs, iho⟩ := held m c (t.val - 1) (by have := t.isLt; omega) a R (by omega)
  dsimp only
  refine (congrArg _ (point m c t _ _ a d R hR ihs)).trans ?_
  rw [iho (by omega), blk_x m c t a d R hR]
  unfold result plus
  rw [← sum_part, show (t.val - 1) % 4 + 1 = 3 by omega, h1, Finset.sum_range_succ _ 3]

/-- The array after the run. -/
theorem final (R : Fin 16384) (d : Fin 2048) : Value.G10 m c (ix2 R d) = result m c R d := by
  have hp : Value.pt10Of (ix2 R d) = 4 * (R.val / 512) + 3 := by
    simp only [Value.pt10Of, Value.run10Of]
    show 4 * (1 * (R.val / 512 - 0) + 1 * (d.val / 2048 - 0)) + 3 = _
    have := d.isLt
    omega
  have hl : Value.loc10Of (ix2 R d) = ix2 ⟨R.val % 512, Nat.mod_lt _ (by decide)⟩ d := by
    rw [eq_ix2 (Value.loc10Of (ix2 R d))]
    exact congrArg (ix2 _) (Fin.ext (Nat.mod_eq_of_lt d.isLt))
  have hN : 4 * (R.val / 512) + 3 < cfg0.N := lt_of_lt_of_eq (by omega) N_0.symm
  unfold Value.G10
  rw [dif_pos (lt_of_eq_of_lt hp hN), ← Value.outsAt0_sweep m c _ (lt_of_eq_of_lt hp hN)]
  simp only [hp, hl]
  exact last m c ⟨_, hN⟩ (by dsimp only; omega) ⟨R.val % 512, Nat.mod_lt _ (by decide)⟩ d R (by dsimp only; omega)

end Cert.Proof.Merge

end
-- ==== Proof.MergeRef.lean ====
/- The merge call computes its reference. -/
module

public import proofs.«01_k».proof.Defs
public import proofs.«01_k».proof.Proof.MergeSum
public import proofs.«01_k».proof.Proof.Gen.Reference4Ideal.Run
public import Idealize.ShloMosaic.Lib.Tactic.CleanTypes

@[expose] public section

set_option maxRecDepth 16384

noncomputable section

namespace Cert.Proof.Merge

open Idealize.ShloMosaic Idealize.ShloMosaic.TcCoe Idealize.ShloMosaic.Tactic Idealize.SL.Sem

/-- On memories that agree on the arguments, the call and the reference leave one array. -/
theorem algebraic : algebraic_Kernel4Ideal_Reference4Ideal := by
  intro m ρ m' ρ' _ hagree
  refine ⟨_, Cert.Kernel4Ideal.Value.run (F := Ideal) m ρ, ?_⟩
  refine (θ_run Cert.Reference4Ideal.defs _ _).mono (fun _ h c => ⟨(h c).1.trans ?_, (h c).2⟩) (Cert.Reference4Ideal.Value.run (F := Ideal) m' ρ')
  obtain ⟨h0, h1, h2, h3, h4, h5, h6, h7⟩ := hagree c
  funext i
  obtain ⟨R, d, rfl⟩ : ∃ R d, i = ix2 R d := ⟨i 0, i 1, eq_ix2 i⟩
  rw [final m c R d]
  clean_types
  rw [h0, h1, h2, h3, h4, h5, h6, h7]
  pointwise
  simp only [result, plus, rms, part, merged, gateOf, gated, nrm, zero_sub]
  congr 1
  refine Finset.sum_congr rfl fun n _ => ?_
  congr 1
  rw [Fin.sum_univ_three]
  refine congrArg₂ (· + ·) (congrArg₂ (· + ·) ?_ ?_) ?_ <;> refine congrArg (_ * ·) (Finset.sum_congr rfl fun x _ => ?_) <;>
    exact mul_comm (G := EReal) _ _

end Cert.Proof.Merge

end
-- ==== Proof.ProjBlocks.lean ====
/- The projection call's input blocks, read at an index of the call's arguments. -/
module

public import proofs.«01_k».proof.Proof.Gen.Kernel5Ideal.Value
public import proofs.«01_k».proof.Proof.FfnMath
public import Idealize.ShloMosaic.Lib.StableHlo.ReadAt

@[expose] public section

set_option maxRecDepth 16384

noncomputable section

namespace Cert.Proof.Proj

open Cert.Kernel5Ideal Cert.Kernel5Ideal.Gen
open Idealize.ShloMosaic Idealize.ShloMosaic.TcCoe Idealize.ShloMosaic.Tactic

variable (m : (ℓ : Loc nD τ sig) → Buf (Elt Ideal) ℓ) (c : Dev nD)

/-- The gain, as a row. -/
theorem entry_gain (d : Fin 2048) : V m c main_v24 (ix2 0 d) = m (c.tc.loc main_arg1) (ix1 d) := by
  simp only [V, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  entry_read
  pointwise

/-- A bf16 result's columns by those of the combined projection: the queries and the memory's queries, scaled, and the
    keys and values. -/
def pick16 (f : Fin 11076 → EReal) (n : Fin 2560) : EReal :=
  if h : n.val < 1024 then f ⟨n.val, by omega⟩ * Ideal.ofBits .f32 0x3E0293EE#32
  else if h' : n.val - 1024 < 1024 then f ⟨3908 + (n.val - 1024), by omega⟩ * Ideal.ofBits .f32 0x3D800000#32
  else f ⟨1024 + (n.val - 1024 - 1024), by omega⟩

/-- A head's columns, padded to the lanes. -/
def wide (w : ℕ) (f : (n : ℕ) → n < w → EReal) (n : ℕ) : EReal := if h : n < w then f n h else 0

/-- An f32 result's columns by those of the combined projection: the recurrence's, the index queries' heads, the index
    keys and the index weights. -/
def pick32 (f : Fin 11076 → EReal) (n : Fin 2816) : EReal :=
  if h : n.val < 2048 then f ⟨1860 + n.val, by omega⟩
  else if n.val - 2048 < 128 then wide 64 (fun n h => f ⟨1536 + n, by omega⟩) (n.val - 2048)
  else if n.val - 2048 - 128 < 128 then wide 64 (fun n h => f ⟨1600 + n, by omega⟩) (n.val - 2048 - 128)
  else if n.val - 2048 - 128 - 128 < 128 then wide 64 (fun n h => f ⟨1664 + n, by omega⟩) (n.val - 2048 - 128 - 128)
  else if n.val - 2048 - 128 - 128 - 128 < 128 then wide 64 (fun n h => f ⟨1728 + n, by omega⟩) (n.val - 2048 - 128 - 128 - 128)
  else if n.val - 2048 - 128 - 128 - 128 - 128 < 128 then wide 64 (fun n h => f ⟨1792 + n, by omega⟩) (n.val - 2048 - 128 - 128 - 128 - 128)
  else wide 4 (fun n h => f ⟨1856 + n, by omega⟩) (n.val - 2048 - 128 - 128 - 128 - 128 - 128)

theorem entry16 (k : Fin 2048) (n : Fin 2560) : V m c main_v25 (ix3 0 k n) = pick16 (fun j => m (c.tc.loc main_arg2) (ix2 k j)) n := by
  unfold V
  after_reads_at
  unfold pick16
  after_reads_at

set_option maxHeartbeats 1000000 in
theorem entry32 (k : Fin 2048) (n : Fin 2816) : V m c main_v26 (ix3 0 k n) = pick32 (fun j => m (c.tc.loc main_arg2) (ix2 k j)) n := by
  unfold V
  after_reads_at
  have z : (FloatOps.sitofp FTy.f32 0#32 : Ideal FTy.f32) = (0 : EReal) := by simp [FloatOps.sitofp]
  after_reads_at
  simp only [z]
  rfl

theorem out4_eq (x0 x1 x2 x3) : out0_4 (F := Ideal) x0 x1 x2 x3 = k0_pay2 x0 x1 x2 := by
  frame_out

theorem pay2_at (x0 : Vec Ideal S256x2048 .f32) (x1 : Vec Ideal S1x2048 .f32) (x2 : Vec Ideal S1x2048x2560 .bf16) (a : Fin 256) (n : Fin 2560) :
    (k0_pay2 x0 x1 x2 (ix2 a n) : EReal) = ∑ k, rms (fun j => x0 (ix2 a j)) (fun j => x1 (ix2 0 j)) k * x2 (ix3 0 k n) := by
  pointwise [k0_pay2, k0_pay1, rms]

theorem scale_q : ∃ r : ℝ, 0 ≤ r ∧ Ideal.ofBits FTy.f32 0x3E0293EE#32 = (r : EReal) := by
  refine ⟨_, ?_, by simp [Ideal.ofBits, Ideal.ieee, -EReal.coe_mul]; rfl⟩
  norm_num

theorem scale_x : ∃ r : ℝ, 0 ≤ r ∧ Ideal.ofBits FTy.f32 0x3D800000#32 = (r : EReal) := by
  refine ⟨_, ?_, by simp [Ideal.ofBits, Ideal.ieee, -EReal.coe_mul]; rfl⟩
  norm_num

/-- A nonnegative real factor moves out of a sum. -/
theorem sum_scale {n : ℕ} (h w : Fin n → EReal) (s : EReal) (hs : ∃ r : ℝ, 0 ≤ r ∧ s = (r : EReal)) : ∑ k, h k * (w k * s) = (∑ k, h k * w k) * s := by
  obtain ⟨r, hr, rfl⟩ := hs
  simp only [← mul_assoc]
  induction (Finset.univ : Finset (Fin n)) using Finset.induction with
  | empty => simp
  | insert a S ha ih =>
    rw [Finset.sum_insert ha, Finset.sum_insert ha, ih, EReal.right_distrib_of_nonneg_of_ne_top (EReal.coe_nonneg.2 hr) (EReal.coe_ne_top r)]

theorem sum16 (h : Fin 2048 → EReal) (w : Fin 2048 → Fin 11076 → EReal) (n : Fin 2560) :
    ∑ k, h k * pick16 (w k) n = pick16 (fun j => ∑ k, h k * w k j) n := by
  unfold pick16
  split_ifs
  · exact sum_scale h _ _ scale_q
  · exact sum_scale h _ _ scale_x
  · rfl

theorem sum32 (h : Fin 2048 → EReal) (w : Fin 2048 → Fin 11076 → EReal) (n : Fin 2816) :
    ∑ k, h k * pick32 (w k) n = pick32 (fun j => ∑ k, h k * w k j) n := by
  unfold pick32 wide
  split_ifs <;> simp only [mul_zero, Finset.sum_const_zero]

theorem out5_eq (x0 x1 x2 x3) : out0_5 (F := Ideal) x0 x1 x2 x3 = k0_pay3 x0 x1 x3 := by
  frame_out

theorem pay3_at (x0 : Vec Ideal S256x2048 .f32) (x1 : Vec Ideal S1x2048 .f32) (x3 : Vec Ideal S1x2048x2816 .bf16) (a : Fin 256) (n : Fin 2816) :
    (k0_pay3 x0 x1 x3 (ix2 a n) : EReal) = ∑ k, rms (fun j => x0 (ix2 a j)) (fun j => x1 (ix2 0 j)) k * x3 (ix3 0 k n) := by
  pointwise [k0_pay3, k0_pay1, rms]

/-- The windows' block indices at a point. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 2) = t.val ∧ win0_4.index t (1 : Fin 2) = 0
    ∧ win0_5.index t (0 : Fin 2) = t.val ∧ win0_5.index t (1 : Fin 2) = 0 := by decide +kernel

theorem blk_x (t : Fin cfg0.N) (a : Fin 256) (j : Fin 2048) (R : Fin 16384) (hR : R.val = 256 * t.val + a.val) :
    iblk m c 0 t (ix2 a j) = m (c.tc.loc main_arg0) (ix2 R j) := by
  blk_ext [iblk, V, idx t]

theorem blk_gain (t : Fin cfg0.N) (j : Fin 2048) : iblk m c 1 t (ix2 0 j) = m (c.tc.loc main_arg1) (ix1 j) := by
  refine (show _ = V m c main_v24 (ix2 0 j) from ?_).trans (entry_gain m c j)
  blk_ext [iblk, idx t]

theorem blk_16 (t : Fin cfg0.N) (k : Fin 2048) (n : Fin 2560) :
    iblk m c 2 t (ix3 0 k n) = pick16 (fun j => m (c.tc.loc main_arg2) (ix2 k j)) n := by
  refine (show _ = V m c main_v25 (ix3 0 k n) from ?_).trans (entry16 m c k n)
  blk_ext [iblk, idx t]

theorem blk_32 (t : Fin cfg0.N) (k : Fin 2048) (n : Fin 2816) :
    iblk m c 3 t (ix3 0 k n) = pick32 (fun j => m (c.tc.loc main_arg2) (ix2 k j)) n := by
  refine (show _ = V m c main_v26 (ix3 0 k n) from ?_).trans (entry32 m c k n)
  blk_ext [iblk, idx t]

end Cert.Proof.Proj

end
-- ==== Proof.ProjRun.lean ====
/- The projection call over its grid: its two arrays after the run. -/
module

public import proofs.«01_k».proof.Proof.ProjBlocks

@[expose] public section

set_option maxRecDepth 16384

noncomputable section

namespace Cert.Proof.Proj

open Cert.Kernel5Ideal Cert.Kernel5Ideal.Gen
open Idealize.ShloMosaic Idealize.ShloMosaic.TcCoe Idealize.ShloMosaic.Tactic

variable (m : (ℓ : Loc nD τ sig) → Buf (Elt Ideal) ℓ) (c : Dev nD)

/-- Column `j` of the combined projection of row `R`, normalised. -/
def proj (R : Fin 16384) (j : Fin 11076) : EReal :=
  ∑ k, rms (fun j => m (c.tc.loc main_arg0) (ix2 R j)) (fun j => m (c.tc.loc main_arg1) (ix1 j)) k * m (c.tc.loc main_arg2) (ix2 k j)

theorem point16 (t : Fin cfg0.N) (a : Fin 256) (n : Fin 2560) (R : Fin 16384) (hR : R.val = 256 * t.val + a.val) :
    out0_4 (iblk m c 0 t) (iblk m c 1 t) (iblk m c 2 t) (iblk m c 3 t) (ix2 a n) = pick16 (proj m c R) n := by
  rw [out4_eq]
  refine (pay2_at _ _ _ a n).trans ?_
  simp only [blk_x m c t a _ R hR, blk_gain, blk_16]
  exact sum16 _ _ n

theorem point32 (t : Fin cfg0.N) (a : Fin 256) (n : Fin 2816) (R : Fin 16384) (hR : R.val = 256 * t.val + a.val) :
    out0_5 (iblk m c 0 t) (iblk m c 1 t) (iblk m c 2 t) (iblk m c 3 t) (ix2 a n) = pick32 (proj m c R) n := by
  rw [out5_eq]
  refine (pay3_at _ _ _ a n).trans ?_
  simp only [blk_x m c t a _ R hR, blk_gain, blk_32]
  exact sum32 _ _ n

/-- The bf16 array after the run. -/
theorem final16 : (dats m 0 c).arrAt 4 cfg0.N = fun i => pick16 (proj m c (i 0)) (i 1) := by
  refine (dats m 0 c).arrAt_eq_of_covers 4 _ (by decide +kernel) fun t hf y => ?_
  rw [after0_4]
  blk_simp
  obtain ⟨a, n, rfl⟩ : ∃ (a : Fin 256) (n : Fin 2560), y = ix2 a n := ⟨y 0, y 1, eq_ix2 y⟩
  have e := idx t
  have hn : (win0_4.blk t).view.emb (ix2 a n) 1 = n := Fin.ext (by blk_simp [e])
  have ha : ((win0_4.blk t).view.emb (ix2 a n) 0).val = 256 * t.val + a.val := by blk_simp [e]; simp [mul_comm]
  rw [hn]
  exact point16 m c t a n _ ha

/-- The f32 array after the run. -/
theorem final32 : (dats m 0 c).arrAt 5 cfg0.N = fun i => pick32 (proj m c (i 0)) (i 1) := by
  refine (dats m 0 c).arrAt_eq_of_covers 5 _ (by decide +kernel) fun t hf y => ?_
  rw [after0_5]
  blk_simp
  obtain ⟨a, n, rfl⟩ : ∃ (a : Fin 256) (n : Fin 2816), y = ix2 a n := ⟨y 0, y 1, eq_ix2 y⟩
  have e := idx t
  have hn : (win0_5.blk t).view.emb (ix2 a n) 1 = n := Fin.ext (by blk_simp [e])
  have ha : ((win0_5.blk t).view.emb (ix2 a n) 0).val = 256 * t.val + a.val := by blk_simp [e]; simp [mul_comm]
  rw [hn]
  exact point32 m c t a n _ ha

end Cert.Proof.Proj

end
-- ==== Proof.ProjRef.lean ====
/- The projection call computes its reference. -/
module

public import proofs.«01_k».proof.Defs
public import proofs.«01_k».proof.Proof.ProjRun
public import proofs.«01_k».proof.Proof.Gen.Reference5Ideal.Run
public import Idealize.ShloMosaic.Lib.Tactic.CleanTypes

@[expose] public section

set_option maxRecDepth 16384

noncomputable section

namespace Cert.Proof.Proj

open Idealize.ShloMosaic Idealize.ShloMosaic.TcCoe Idealize.ShloMosaic.Tactic Idealize.SL.Sem

/-- On memories that agree on the arguments, the call and the reference leave the same two arrays. -/
theorem algebraic : algebraic_Kernel5Ideal_Reference5Ideal := by
  intro m ρ m' ρ' _ hagree
  refine ⟨_, _, Cert.Kernel5Ideal.Value.run_blocks (F := Ideal) m ρ, ?_⟩
  refine (θ_run Cert.Reference5Ideal.defs _ _).mono (fun _ h c => ⟨(h c).1.trans ?_, (h c).2.1.trans ?_, (h c).2.2⟩) (Cert.Reference5Ideal.Value.run (F := Ideal) m' ρ')
  · obtain ⟨h0, h1, h2⟩ := hagree c
    rw [final16 m c]
    funext i
    obtain ⟨R, d, rfl⟩ : ∃ R d, i = ix2 R d := ⟨i 0, i 1, eq_ix2 i⟩
    clean_types
    rw [h0, h1, h2]
    pointwise
    rfl
  · obtain ⟨h0, h1, h2⟩ := hagree c
    rw [final32 m c]
    funext i
    obtain ⟨R, d, rfl⟩ : ∃ R d, i = ix2 R d := ⟨i 0, i 1, eq_ix2 i⟩
    unfold Cert.Reference5Ideal.Value.res_main_v37
    clean_types
    rw [h0, h1, h2]
    pointwise
    have z : (FloatOps.sitofp FTy.f32 0#32 : Ideal FTy.f32) = (0 : EReal) := by simp [FloatOps.sitofp]
    simp only [z, ← Nat.add_assoc, Nat.reduceAdd]
    rfl

end Cert.Proof.Proj

end
-- ==== Proof.MemKvBlocks.lean ====
/- The memory's keys and values: what each grid point of the call leaves, and the array after the run. -/
module

public import proofs.«01_k».proof.Proof.Gen.Kernel7Ideal.Value
public import proofs.«01_k».proof.Proof.FfnMath
public import Idealize.ShloMosaic.Lib.Tactic.CleanTypes

@[expose] public section

set_option maxRecDepth 16384

noncomputable section

namespace Cert.Proof.MemKv

open Cert.Kernel7Ideal Cert.Kernel7Ideal.Gen
open Idealize.ShloMosaic Idealize.ShloMosaic.TcCoe Idealize.ShloMosaic.Tactic

section Step

variable (c : Dev nD) (i : grid0.Coords) (arg2 : Memref sig .tc .vmem S256x2048 .f32) (harg2 : arg2.IsWhole) (arg3 : Memref sig .tc .vmem S1x2048 .f32) (harg3 : arg3.IsWhole) (arg4 : Memref sig .tc .vmem S1x2048x256 .bf16) (harg4 : arg4.IsWhole) (arg5 : Memref sig .tc .vmem S256x256 .bf16) (harg5 : arg5.IsWhole) (arg6 : Memref sig .tc .vmem S256x2048 .bf16) (harg6 : arg6.IsWhole)
  (x0 : Vec Ideal S256x2048 .f32) (x1 : Vec Ideal S1x2048 .f32) (x2 : Vec Ideal S1x2048x256 .bf16) (xs : Vec Ideal S256x2048 .bf16)

/-- The block's rows, each divided by its root mean square. -/
def normed : Vec Ideal S256x2048 .bf16 := fun y => rms (fun j => x0 (ix2 (y 0) j)) (fun j => x1 (ix2 0 j)) (y 1)

theorem pay1_eq : k0_pay1 x0 x1 = normed x0 x1 := by
  funext y
  obtain ⟨a, d, rfl⟩ : ∃ a d, y = ix2 a d := ⟨y 0, y 1, eq_ix2 y⟩
  pointwise [k0_pay1, normed, rms]

theorem pay2_at (a n : Fin 256) : k0_pay2 xs x2 (ix2 a n) = ∑ k : Fin 2048, xs (ix2 a k) * x2 (ix3 0 k n) := by
  pointwise [k0_pay2]

theorem scratch_A (hc0) : sout0_A_0 c i arg2 harg2 arg3 harg3 arg4 harg4 arg5 harg5 arg6 harg6 hc0 x0 x1 x2 = normed x0 x1 := by
  frame_out
  exact pay1_eq x0 x1

theorem step_A (hc0) : out0_A_3 c i arg2 harg2 arg3 harg3 arg4 harg4 arg5 harg5 arg6 harg6 hc0 x0 x1 x2 = k0_pay2 (normed x0 x1) x2 := by
  frame_out
  rw [pay1_eq]

theorem step_B (hc0) : out0_B_3 c i arg2 harg2 arg3 harg3 arg4 harg4 arg5 harg5 arg6 harg6 hc0 x0 x1 x2 xs = k0_pay2 xs x2 := by
  frame_out

end Step

variable (m : (ℓ : Loc nD τ sig) → Buf (Elt Ideal) ℓ) (c : Dev nD)

/-- The gain, as a row. -/
theorem entry_gain (d : Fin 2048) : V m c main_v0 (ix2 0 d) = m (c.tc.loc main_arg1) (ix1 d) := by
  simp only [V, hostOps0, List.flatten_cons, List.flatten_nil, List.append_nil, List.cons_append, List.nil_append]
  entry_read
  pointwise

/-- The weights. -/
theorem entry_w (k n : Fin 2048) : V m c main_v2 (ix3 0 k n) = m (c.tc.loc main_arg2) (ix2 k n) := by
  simp only [V, hostOps0, List.flatten_cons, List.flatten_nil, List.append_nil, List.cons_append, List.nil_append]
  entry_read
  pointwise

/-- The windows' block indices at a point. -/
theorem idx : ∀ t : Fin cfg0.N, win0_0.index t (0 : Fin 2) = t.val / 8 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 8 := by decide +kernel

theorem blk_x (t : Fin cfg0.N) (a : Fin 256) (j : Fin 2048) (R : Fin 512) (hR : R.val = 256 * (t.val / 8) + a.val) :
    iblk m c 0 t (ix2 a j) = m (c.tc.loc main_arg0) (ix2 R j) := by
  blk_ext [iblk, V, idx t]

theorem blk_gain (t : Fin cfg0.N) (j : Fin 2048) : iblk m c 1 t (ix2 0 j) = m (c.tc.loc main_arg1) (ix1 j) := by
  refine (show _ = V m c main_v0 (ix2 0 j) from ?_).trans (entry_gain m c j)
  blk_ext [iblk, idx t]

theorem blk_w (t : Fin cfg0.N) (k : Fin 2048) (x : Fin 256) (n : Fin 2048) (hn : n.val = 256 * (t.val % 8) + x.val) :
    (iblk m c 2 t (ix3 0 k x) : EReal) = m (c.tc.loc main_arg2) (ix2 k n) := by
  refine (show _ = V m c main_v2 (ix3 0 k n) from ?_).trans (entry_w m c k n)
  blk_ext [iblk, idx t]

/-- Row `R`, normalised. -/
def nrm (R : Fin 512) : Fin 2048 → EReal :=
  rms (fun j => m (c.tc.loc main_arg0) (ix2 R j)) (fun j => m (c.tc.loc main_arg1) (ix1 j))

/-- The call's result. -/
def result (R : Fin 512) (n : Fin 2048) : EReal := ∑ k, nrm m c R k * m (c.tc.loc main_arg2) (ix2 k n)

theorem normed_at (t : Fin cfg0.N) (a : Fin 256) (y : Fin 2048) (R : Fin 512) (hR : R.val = 256 * (t.val / 8) + a.val) :
    normed (iblk m c 0 t) (iblk m c 1 t) (ix2 a y) = nrm m c R y := by
  show rms (fun j => iblk m c 0 t (ix2 a j)) (fun j => iblk m c 1 t (ix2 0 j)) y = _
  simp only [blk_x m c t a _ R hR, blk_gain]
  rfl

/-- What a point stores, over the rows the scratch holds. -/
theorem point (t : Fin cfg0.N) (xs : Vec Ideal S256x2048 .bf16) (a x : Fin 256) (R : Fin 512) (n : Fin 2048)
    (hn : n.val = 256 * (t.val % 8) + x.val) (hs : ∀ y, xs (ix2 a y) = nrm m c R y) :
    k0_pay2 xs (iblk m c 2 t) (ix2 a x) = result m c R n := by
  refine (pay2_at _ _ a x).trans (Finset.sum_congr rfl fun k _ => ?_)
  rw [hs, blk_w m c t k x n hn]

/-- Every point keeps the block's normalised rows in the scratch and stores its columns of the product. -/
theorem held (n : ℕ) (hn : n < cfg0.N) (a : Fin 256) (R : Fin 512) (hR : R.val = 256 * (n / 8) + a.val) :
    (∀ y, (outsAt0 m c n hn).2 (ix2 a y) = nrm m c R y)
      ∧ ∀ (x : Fin 256) (d : Fin 2048), d.val = 256 * (n % 8) + x.val → (outsAt0 m c n hn).1 (ix2 a x) = result m c R d := by
  have first : ∀ (n : ℕ) (hn : n < cfg0.N), n % 8 = 0 → R.val = 256 * (n / 8) + a.val →
      (∀ y, (outsAt0 m c n hn).2 (ix2 a y) = nrm m c R y)
        ∧ ∀ (x : Fin 256) (d : Fin 2048), d.val = 256 * (n % 8) + x.val → (outsAt0 m c n hn).1 (ix2 a x) = result m c R d := by
    intro n hn h0 hR
    have e := outsAt0_A m c ⟨n, hn⟩ h0
    rw [scratch_A, step_A] at e
    dsimp only at e
    rw [e]
    exact ⟨fun y => normed_at m c ⟨n, hn⟩ a y R hR,
      fun x d hd => point m c ⟨n, hn⟩ _ a x R d hd fun y => normed_at m c ⟨n, hn⟩ a y R hR⟩
  induction n with
  | zero => exact first 0 hn rfl hR
  | succ n ih =>
    by_cases h0 : (n + 1) % 8 = 0
    · exact first (n + 1) hn h0 hR
    · obtain ⟨ihs, -⟩ := ih (by omega) (by omega)
      have e := outsAt0_B m c ⟨n + 1, hn⟩ h0
      rw [step_B] at e
      dsimp only at e
      rw [e]
      exact ⟨ihs, fun x d hd => point m c ⟨n + 1, hn⟩ _ a x R d hd ihs⟩

/-- The array after the run. -/
theorem final (R : Fin 512) (d : Fin 2048) : Value.G3 m c (ix2 R d) = result m c R d := by
  have hp : Value.pt3Of (ix2 R d) = 8 * (R.val / 256) + d.val / 256 := by
    simp only [Value.pt3Of, Value.run3Of]
    show 8 * (R.val / 256 - 0) + 1 * (d.val / 256 - 0) = _
    omega
  have hl : Value.loc3Of (ix2 R d) = ix2 ⟨R.val % 256, Nat.mod_lt _ (by decide)⟩ ⟨d.val % 256, Nat.mod_lt _ (by decide)⟩ :=
    eq_ix2 (Value.loc3Of (ix2 R d))
  have hN : 8 * (R.val / 256) + d.val / 256 < cfg0.N := lt_of_lt_of_eq (by omega) N_0.symm
  unfold Value.G3
  rw [dif_pos (lt_of_eq_of_lt hp hN), ← Value.outsAt0_sweep m c _ (lt_of_eq_of_lt hp hN)]
  simp only [hp, hl]
  exact (held m c _ hN ⟨R.val % 256, Nat.mod_lt _ (by decide)⟩ R (by dsimp only; omega)).2 _ d (by dsimp only; omega)

end Cert.Proof.MemKv

end
-- ==== Proof.MemKvRef.lean ====
/- The memory's keys and values: the call computes its reference. -/
module

public import proofs.«01_k».proof.Defs
public import proofs.«01_k».proof.Proof.MemKvBlocks
public import proofs.«01_k».proof.Proof.Gen.Reference7Ideal.Run
public import Idealize.ShloMosaic.Lib.Tactic.CleanTypes

@[expose] public section

set_option maxRecDepth 16384

noncomputable section

namespace Cert.Proof.MemKv

open Idealize.ShloMosaic Idealize.ShloMosaic.TcCoe Idealize.ShloMosaic.Tactic Idealize.SL.Sem

/-- On memories that agree on the arguments, the call and the reference leave one array. -/
theorem algebraic : algebraic_Kernel7Ideal_Reference7Ideal := by
  intro m ρ m' ρ' _ hagree
  refine ⟨_, Cert.Kernel7Ideal.Value.run (F := Ideal) m ρ, ?_⟩
  refine (θ_run Cert.Reference7Ideal.defs _ _).mono (fun _ h c => ⟨(h c).1.trans ?_, (h c).2⟩) (Cert.Reference7Ideal.Value.run (F := Ideal) m' ρ')
  obtain ⟨h0, h1, h2⟩ := hagree c
  funext i
  obtain ⟨R, d, rfl⟩ : ∃ R d, i = ix2 R d := ⟨i 0, i 1, eq_ix2 i⟩
  rw [final m c R d]
  clean_types
  rw [h0, h1, h2]
  pointwise
  simp only [result, rms, nrm]

end Cert.Proof.MemKv

end
-- ==== Proof.MemAttnMath.lean ====
/- The memory attention's arithmetic on one row of scores: dividing the weighted sum by the sum of the weights is summing
   with each weight divided, as long as the scores are finite. -/
module

public import Idealize.ShloMosaic.Lib.Pipeline.ValueKit
public import Idealize.ShloMosaic.Lib.Pointwise

@[expose] public section

noncomputable section

namespace Cert.Proof.MemAttn

open Idealize.ShloMosaic

/-- The largest of a row of scores. -/
def top (s : Fin 256 → EReal) : EReal := Finset.fold max (Ideal.ofBits FTy.f32 4286578688#32) s Finset.univ

/-- A row of scores' weights, each the exponential of its distance to the largest. -/
def wt (s : Fin 256 → EReal) (j : Fin 256) : EReal := Ideal.exp (s j - top s)

/-- The weighted sum of `v`, over the sum of the weights. -/
def attend (s v : Fin 256 → EReal) : EReal := Ideal.div (∑ j, wt s j * v j) (∑ j, wt s j)

/-- A finite value: neither infinity. -/
def Finite (x : EReal) : Prop := x ≠ ⊥ ∧ x ≠ ⊤

theorem fin_coe (r : ℝ) : Finite (r : EReal) := ⟨EReal.coe_ne_bot r, EReal.coe_ne_top r⟩

theorem Finite.coe {x : EReal} (h : Finite x) : ∃ r : ℝ, x = r := ⟨x.toReal, (EReal.coe_toReal h.2 h.1).symm⟩

theorem Finite.mul {x y : EReal} (hx : Finite x) (hy : Finite y) : Finite (x * y) := by
  obtain ⟨r, rfl⟩ := hx.coe
  obtain ⟨t, rfl⟩ := hy.coe
  exact EReal.coe_mul r t ▸ fin_coe _

theorem Finite.sum {ι : Type} (S : Finset ι) {f : ι → EReal} (h : ∀ i ∈ S, Finite (f i)) : Finite (∑ i ∈ S, f i) := by
  classical
  induction S using Finset.induction_on with
  | empty => exact fin_coe 0
  | insert a S ha ih =>
    rw [Finset.sum_insert ha]
    obtain ⟨r, hr⟩ := (h a (Finset.mem_insert_self a S)).coe
    obtain ⟨t, ht⟩ := (ih fun i hi => h i (Finset.mem_insert_of_mem hi)).coe
    rw [hr, ht, ← EReal.coe_add]
    exact fin_coe _

theorem bot_bits : Ideal.ofBits FTy.f32 4286578688#32 = (⊥ : EReal) := by
  simp [Ideal.ofBits, Ideal.ieee]

/-- The largest of finite scores is finite. -/
theorem top_fin {s : Fin 256 → EReal} (hs : ∀ j, Finite (s j)) : Finite (top s) := by
  unfold top
  constructor
  · exact ne_of_gt ((Finset.lt_fold_max (s := Finset.univ) (f := s) ⊥).mpr (Or.inr ⟨0, Finset.mem_univ _, bot_lt_iff_ne_bot.mpr (hs 0).1⟩))
  · refine ne_of_lt ((Finset.fold_max_lt (s := Finset.univ) (f := s) ⊤).mpr ⟨?_, fun j _ => lt_top_iff_ne_top.mpr (hs j).2⟩)
    rw [bot_bits]
    exact bot_lt_top

/-- Every weight of finite scores is a positive number. -/
theorem wt_pos {s : Fin 256 → EReal} (hs : ∀ j, Finite (s j)) (j : Fin 256) : 0 < wt s j ∧ Finite (wt s j) := by
  unfold wt
  obtain ⟨r, hr⟩ := (hs j).coe
  obtain ⟨t, ht⟩ := (top_fin hs).coe
  rw [hr, ht, ← EReal.coe_sub]
  exact ⟨EReal.coe_pos.mpr (Real.exp_pos _), fin_coe _⟩

/-- A finite factor that is not negative goes into a sum. -/
theorem sum_mul {ι : Type} (S : Finset ι) (f : ι → EReal) {c : EReal} (h0 : 0 ≤ c) (hc : c ≠ ⊤) : (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 hc, ih]

/-- The weighted sum over the sum of the weights is the sum with each weight divided. -/
theorem attend_eq {s : Fin 256 → EReal} (hs : ∀ j, Finite (s j)) (v : Fin 256 → EReal) :
    attend s v = ∑ j, v j * Ideal.div (wt s j) (∑ j, wt s j) := by
  unfold attend
  have hp : 0 < ∑ j, wt s j := lt_of_lt_of_le (wt_pos hs 0).1
    (Finset.single_le_sum (f := wt s) (fun j _ => le_of_lt (wt_pos hs j).1) (Finset.mem_univ 0))
  obtain ⟨l, hl⟩ := (Finite.sum Finset.univ fun j _ => (wt_pos hs j).2).coe
  simp only [Ideal.div, if_neg hp.ne']
  rw [hl] at hp ⊢
  rw [← EReal.coe_inv, sum_mul _ _ (EReal.coe_nonneg.mpr (inv_nonneg.mpr (le_of_lt (EReal.coe_pos.mp hp)))) (EReal.coe_ne_top _)]
  refine Finset.sum_congr rfl fun j _ => ?_
  rw [mul_comm (G := EReal) (wt s j) (v j), mul_assoc (G := EReal)]

end Cert.Proof.MemAttn

end
-- ==== Proof.MemAttnBlocks.lean ====
/- The memory attention, one grid point at a time: each head of a block of queries attends over the memory. -/
module

public import proofs.«01_k».proof.Proof.Gen.Kernel6Ideal.Value
public import proofs.«01_k».proof.Proof.MemAttnMath
public import Idealize.ShloMosaic.Lib.Tactic.CleanTypes

@[expose] public section

set_option maxRecDepth 16384

noncomputable section

namespace Cert.Proof.MemAttn

open Cert.Kernel6Ideal Cert.Kernel6Ideal.Gen
open Idealize.ShloMosaic Idealize.ShloMosaic.TcCoe Idealize.ShloMosaic.Tactic

section Step

variable (q : Vec Ideal S1x512x256 .bf16) (k v : Vec Ideal S1x256x256 .bf16) (a : Fin 512) (d : Fin 256)

/-- One head's result: its queries' scores against its keys, attended over its values. -/
def head : EReal := attend (fun j => ∑ x, q (ix3 0 a x) * k (ix3 0 j x)) (fun j => v (ix3 0 j d))

theorem pay1_at : k0_pay1 q k v (ix3 0 a d) = head q k v a d := by
  pointwise [k0_pay1, head, attend, wt, top]

theorem pay2_at : k0_pay2 q k v (ix3 0 a d) = head q k v a d := by
  pointwise [k0_pay2, head, attend, wt, top]

theorem pay6_at : k0_pay6 (k0_pay3 v) (k0_pay4 q k) (k0_pay5 q k) (ix3 0 a d) = head q k v a d := by
  pointwise [k0_pay6, k0_pay3, k0_pay4, k0_pay5, head, attend, wt, top]

theorem pay7_at : k0_pay7 q k v (ix3 0 a d) = head q k v a d := by
  pointwise [k0_pay7, head, attend, wt, top]

variable (c : Dev nD) (i : grid0.Coords) (arg2 : Memref sig .tc .vmem S1x512x1024 .bf16) (harg2 : arg2.IsWhole) (arg3 : Memref sig .tc .vmem S1x256x2048 .bf16) (harg3 : arg3.IsWhole) (arg4 : Memref sig .tc .vmem S1x512x1024 .bf16) (harg4 : arg4.IsWhole)
    (x0 : Vec Ideal S1x512x1024 .bf16) (x1 : Vec Ideal S1x256x2048 .bf16)

/-- Column `n` of a row of queries `Q` attending over the memory `K`: the keys of the column's head, the column's values. -/
def column (Q : Fin 1024 → EReal) (K : Fin 256 → Fin 2048 → EReal) (n : Fin 1024) : EReal :=
  attend (fun j => ∑ x : Fin 256, Q ⟨n.val / 256 * 256 + x.val, by omega⟩ * K j ⟨n.val / 256 * 256 + x.val, by omega⟩)
    (fun j => K j ⟨1024 + n.val, by omega⟩)

/-- A head over loads at its columns is the column's value. -/
theorem head_eq (n : Fin 1024) (hq : ∀ x : Fin 256, q (ix3 0 a x) = x0 (ix3 0 a ⟨n.val / 256 * 256 + x.val, by omega⟩))
    (hk : ∀ j x : Fin 256, k (ix3 0 j x) = x1 (ix3 0 j ⟨n.val / 256 * 256 + x.val, by omega⟩))
    (hv : ∀ j : Fin 256, v (ix3 0 j d) = x1 (ix3 0 j ⟨1024 + n.val, by omega⟩)) :
    head q k v a d = column (fun x => x0 (ix3 0 a x)) (fun j x => x1 (ix3 0 j x)) n := by
  unfold head column
  simp only [hq, hk, hv]

theorem step_at (a : Fin 512) (n : Fin 1024) :
    out0_A_2 c i arg2 harg2 arg3 harg3 arg4 harg4 x0 x1 (ix3 0 a n) = column (fun x => x0 (ix3 0 a x)) (fun j x => x1 (ix3 0 j x)) n := by
  frame_out
  canon_tiles x h
  all_goals
    obtain ⟨d, rfl⟩ : ∃ d : Fin 256, x = ix3 0 a d :=
      ⟨x 2, (eq_ix3 x).trans (congrArg₂ (fun u w => ix3 u w (x 2)) (Subsingleton.elim (α := Fin 1) _ _) (Fin.ext h1.symm))⟩
    change n.val = _ at h2
    have hd : (ix3 (0 : Fin 1) a d 2).val = d.val := rfl
    rw [hd] at h2 x2_lt
    first | rw [pay1_at] | rw [pay7_at] | rw [pay6_at] | rw [pay2_at]
    refine head_eq _ _ _ a d x0 x1 n (fun x => ?_) (fun j x => ?_) (fun j => ?_) <;>
      refine View.ld_unit_apply_of _ _ _ _ _ _ fun b => ?_ <;>
      fin_cases b <;> simp <;> omega

end Step

variable (m : (ℓ : Loc nD τ sig) → Buf (Elt Ideal) ℓ) (c : Dev nD)

/-- The windows' block indices at a point. -/
theorem idx : ∀ t : Fin cfg0.N, win0_0.index t (0 : Fin 3) = t.val / 16 ∧ win0_0.index t (1 : Fin 3) = t.val % 16 ∧ win0_0.index t (2 : Fin 3) = 1
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = t.val % 16 ∧ win0_2.index t (2 : Fin 3) = 0 := by decide +kernel

theorem blk_q (t : Fin cfg0.N) (a : Fin 512) (x : Fin 1024) (b : Fin 2) (hb : b.val = t.val / 16) (R : Fin 8192) (hR : R.val = 512 * (t.val % 16) + a.val) :
    (X0_0 m c t (ix3 0 a x) : EReal) = m (c.tc.loc main_arg0) (ix3 b R ⟨1024 + x.val, by omega⟩) := by
  unfold X0_0 Pipeline.Window.fill
  rw [dif_pos (moved0_0 t _)]
  blk_ext [iblk, V, idx t]

theorem blk_kv (t : Fin cfg0.N) (j : Fin 256) (x : Fin 2048) (b : Fin 2) (hb : b.val = t.val / 16) :
    (iblk m c 1 t (ix3 0 j x) : EReal) = m (c.tc.loc main_arg1) (ix3 b j x) := by
  blk_ext [iblk, V, idx t]

/-- The call's result: column `n` of row `R` attends over its batch's memory. -/
def result (b : Fin 2) (R : Fin 8192) (n : Fin 1024) : EReal :=
  column (fun x => m (c.tc.loc main_arg0) (ix3 b R ⟨1024 + x.val, by omega⟩)) (fun j x => m (c.tc.loc main_arg1) (ix3 b j x)) n

theorem point (t : Fin cfg0.N) (a : Fin 512) (n : Fin 1024) (b : Fin 2) (hb : b.val = t.val / 16) (R : Fin 8192)
    (hR : R.val = 512 * (t.val % 16) + a.val) : outsAt0 m c t (ix3 0 a n) = result m c b R n := by
  refine (step_at _ _ _ _ _ _ _ _ _ _ a n).trans ?_
  simp only [blk_q m c t a _ b hb R hR, blk_kv m c t _ _ b hb]
  rfl

/-- The array after the run. -/
theorem final : (dats m 0 c).arrAt 2 cfg0.N = fun i => result m c (i 0) (i 1) (i 2) := by
  refine (dats m 0 c).arrAt_eq_of_covers 2 _ (by decide +kernel) fun t hf y => ?_
  rw [after0_2]
  blk_simp
  obtain ⟨a, n, rfl⟩ : ∃ (a : Fin 512) (n : Fin 1024), y = ix3 0 a n :=
    ⟨y 1, y 2, (eq_ix3 y).trans (congrArg (fun u => ix3 u (y 1) (y 2)) (Subsingleton.elim (α := Fin 1) _ _))⟩
  have e := idx t
  have hb : ((win0_2.blk t).view.emb (ix3 0 a n) 0).val = t.val / 16 := by blk_simp [e]; rfl
  have ha : ((win0_2.blk t).view.emb (ix3 0 a n) 1).val = 512 * (t.val % 16) + a.val := by blk_simp [e]; simp [mul_comm]
  have hn : (win0_2.blk t).view.emb (ix3 0 a n) 2 = n := Fin.ext (by blk_simp [e])
  rw [hn]
  exact point m c t a n _ hb _ ha

end Cert.Proof.MemAttn

end
-- ==== Proof.MemAttnHost.lean ====
/- The memory attention's reference, read at an index: its scores, their weights, and the result of the weights and the
   memory. -/
module

public import proofs.«01_k».proof.Proof.MemAttnMath
public import proofs.«01_k».proof.Proof.Gen.Reference6Ideal.Run
public import Idealize.ShloMosaic.Lib.Tactic.CleanTypes

@[expose] public section

set_option maxRecDepth 16384

noncomputable section

namespace Cert.Proof.MemAttn

open Cert.Reference6Ideal Cert.Reference6Ideal.Gen
open Idealize.ShloMosaic Idealize.ShloMosaic.TcCoe Idealize.ShloMosaic.Tactic

/-- The reference's scores: every head's queries against its keys. -/
def scores (p : FVec Ideal S2x8192x2560 .bf16) (kv : FVec Ideal S2x256x2048 .bf16) : FVec Ideal S2x4x8192x256 .f32 :=
  Host.dotGeneral dot_S2x8192x4x256_S2x256x4x256_S2x4x8192x256_3_3_1_1_02_02 none (extf .f32 (shapeCast _ (extractStridedSlice S2x8192x1024 ![0, 0, 1024] p slices_S2x8192x2560_S2x8192x1024_0_0_1024) shapeCasts_S2x8192x1024_S2x8192x4x256) bitsLt_bf16_f32) (shapeCast _ (extractStridedSlice S2x256x1024 ![0, 0, 0] (extf .f32 kv bitsLt_bf16_f32) slices_S2x256x2048_S2x256x1024_0_0_0) shapeCasts_S2x256x1024_S2x256x4x256)

/-- Its weights over the largest scores `M`, each the exponential of a score's distance to the largest of its row. -/
def weightsOf (s : FVec Ideal S2x4x8192x256 .f32) (M : FVec Ideal S2x4x8192 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) M))))

/-- The largest score of each row. -/
def largest (s : FVec Ideal S2x4x8192x256 .f32) : FVec Ideal S2x4x8192 .f32 :=
  Host.reduce FloatOps.maximumf s (constant S_ .f32 0xFF800000#32) reducesTo_S2x4x8192x256_S2x4x8192_d3 h_S_

/-- Each weight over the sum of its row's. -/
def shares (w : FVec Ideal S2x4x8192x256 .f32) : FVec Ideal S2x4x8192x256 .f32 :=
  Host.divf w (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd w (constant S_ .f32 0x00000000#32) reducesTo_S2x4x8192x256_S2x4x8192_d3 h_S_)))

/-- The memory's values summed with the shares, the heads side by side. -/
def outcome (q : FVec Ideal S2x4x8192x256 .f32) (kv : FVec Ideal S2x256x2048 .bf16) : FVec Ideal S2x8192x1024 .bf16 :=
  truncf .bf16 (shapeCast _ (transpose S2x8192x4x256 [0, 3, 1, 2] (Host.dotGeneral dot_S2x256x4x256_S2x4x8192x256_S2x4x256x8192_1_3_3_2_02_01 none (shapeCast _ (extractStridedSlice S2x256x1024 ![0, 0, 1024] (extf .f32 kv bitsLt_bf16_f32) slices_S2x256x2048_S2x256x1024_0_0_1024) shapeCasts_S2x256x1024_S2x256x4x256) q) transposes_S2x4x256x8192_S2x8192x4x256_0_3_1_2) shapeCasts_S2x8192x4x256_S2x8192x1024) bitsLt_bf16_f32

theorem scores_at (p : FVec Ideal S2x8192x2560 .bf16) (kv : FVec Ideal S2x256x2048 .bf16) (b : Fin 2) (h : Fin 4) (R : Fin 8192) (j : Fin 256) :
    scores p kv (ix4 b h R j)
      = ∑ x : Fin 256, p (ix3 b R ⟨1024 + (h.val * 256 + x.val), by omega⟩) * kv (ix3 b j ⟨h.val * 256 + x.val, by omega⟩) := by
  pointwise [scores]

theorem largest_at (s : FVec Ideal S2x4x8192x256 .f32) (b : Fin 2) (h : Fin 4) (R : Fin 8192) :
    largest s (ix3 b h R) = top (fun j => s (ix4 b h R j)) := by
  unfold largest
  rw [Host.reduce_eq_fold]
  exact Shape.ReducesTo.fold_fiber_r4_a3 _ _ _ _ _

theorem weightsOf_at (s : FVec Ideal S2x4x8192x256 .f32) (M : FVec Ideal S2x4x8192 .f32) (b : Fin 2) (h : Fin 4) (R : Fin 8192) (j : Fin 256) :
    weightsOf s M (ix4 b h R j) = Ideal.exp (s (ix4 b h R j) - max (Ideal.ofBits FTy.f32 4286578688#32) (M (ix3 b h R))) := by
  pointwise [weightsOf]

/-- Its weights. -/
def weights (s : FVec Ideal S2x4x8192x256 .f32) : FVec Ideal S2x4x8192x256 .f32 := weightsOf s (largest s)

theorem weights_at (s : FVec Ideal S2x4x8192x256 .f32) (b : Fin 2) (h : Fin 4) (R : Fin 8192) (j : Fin 256) :
    weights s (ix4 b h R j) = wt (fun j => s (ix4 b h R j)) j := by
  refine (weightsOf_at s (largest s) b h R j).trans ?_
  rw [largest_at, max_eq_right (bot_bits.trans_le bot_le)]
  rfl

theorem shares_at (w : FVec Ideal S2x4x8192x256 .f32) (b : Fin 2) (h : Fin 4) (R : Fin 8192) (j : Fin 256) :
    shares w (ix4 b h R j) = Ideal.div (w (ix4 b h R j)) (∑ j : Fin 256, w (ix4 b h R j)) := by
  pointwise [shares]

theorem outcome_at (q : FVec Ideal S2x4x8192x256 .f32) (kv : FVec Ideal S2x256x2048 .bf16) (b : Fin 2) (R : Fin 8192) (n : Fin 1024) :
    outcome q kv (ix3 b R n)
      = ∑ j : Fin 256, kv (ix3 b j ⟨1024 + n.val, by omega⟩) * q (ix4 b ⟨n.val / 256, by omega⟩ R j) := by
  pointwise [outcome]

/-- The scores of finite arrays are finite. -/
theorem scores_fin {p : FVec Ideal S2x8192x2560 .bf16} {kv : FVec Ideal S2x256x2048 .bf16} (hp : ∀ i, Finite (p i)) (hk : ∀ i, Finite (kv i))
    (b : Fin 2) (h : Fin 4) (R : Fin 8192) (j : Fin 256) : Finite (scores p kv (ix4 b h R j)) :=
  scores_at p kv b h R j ▸ Finite.sum _ fun _ _ => (hp _).mul (hk _)

/-- The reference's result at an index: its column attends over the memory. -/
theorem reference_at {p : FVec Ideal S2x8192x2560 .bf16} {kv : FVec Ideal S2x256x2048 .bf16} (hp : ∀ i, Finite (p i)) (hk : ∀ i, Finite (kv i))
    (b : Fin 2) (R : Fin 8192) (n : Fin 1024) :
    outcome (shares (weights (scores p kv))) kv (ix3 b R n)
      = attend (fun j => ∑ x : Fin 256, p (ix3 b R ⟨1024 + (n.val / 256 * 256 + x.val), by omega⟩) * kv (ix3 b j ⟨n.val / 256 * 256 + x.val, by omega⟩))
          (fun j => kv (ix3 b j ⟨1024 + n.val, by omega⟩)) := by
  rw [outcome_at]
  simp only [shares_at, weights_at]
  rw [← attend_eq (scores_fin hp hk b _ R)]
  simp only [scores_at]

end Cert.Proof.MemAttn

end
-- ==== Proof.MemAttnRef.lean ====
/- The memory attention: on finite arrays the call computes its reference. -/
module

public import proofs.«01_k».proof.Defs
public import proofs.«01_k».proof.Proof.MemAttnBlocks
public import proofs.«01_k».proof.Proof.MemAttnHost
public import proofs.«01_k».proof.Proof.Gen.Pre_finite_entries
public import Idealize.ShloMosaic.Lib.ReduceAll

@[expose] public section

set_option maxRecDepth 16384

noncomputable section

namespace Cert.Proof.MemAttn

open Idealize.ShloMosaic Idealize.ShloMosaic.TcCoe Idealize.ShloMosaic.Tactic Idealize.SL.Sem

/-- A value whose absolute value is below infinity is finite. -/
theorem finite_of_abs {x : EReal} (h : BitVec.ofBool (decide (max x (-x) < Ideal.ofBits FTy.f32 2139095040#32)) = 1#1) : Finite x := by
  have hx : max x (-x) < Ideal.ofBits FTy.f32 2139095040#32 := by
    by_contra hn
    rw [decide_eq_false hn] at h
    exact absurd h (by decide)
  constructor
  · rintro rfl
    exact absurd (lt_of_lt_of_le hx le_top) (by simp)
  · rintro rfl
    exact absurd (lt_of_lt_of_le hx le_top) (by simp)

/-- What the precondition says of the entries. -/
theorem pre_at (p : FVec Ideal Cert.Pre_finite_entries.S2x8192x2560 .bf16) (k : FVec Ideal Cert.Pre_finite_entries.S2x256x2048 .bf16)
    (h : Cert.Pre_finite_entries.fn p k = fun _ => 1#1) : (∀ i, Finite (p i)) ∧ ∀ i, Finite (k i) := by
  have e := congrFun h ix0
  dsimp only [Cert.Pre_finite_entries.fn] at e
  obtain ⟨e0, e1⟩ := IntOp.andi_eq_one.mp (show IntOp.andi _ _ = 1#1 from e)
  refine ⟨fun i => ?_, fun i => ?_⟩
  · have := Host.reduce_andi_all _ _ _ _ _ e0 i
    simp only [pointwise] at this
    exact finite_of_abs this
  · have := Host.reduce_andi_all _ _ _ _ _ e1 i
    simp only [pointwise] at this
    exact finite_of_abs this

/-- On finite arrays, and memories that agree on them, the call and the reference leave one array. -/
theorem algebraic : algebraic_Kernel6Ideal_Reference6Ideal_pre_finite_entries := by
  intro m ρ m' ρ' hpre hagree
  refine ⟨_, Cert.Kernel6Ideal.Value.run_blocks (F := Ideal) m ρ, ?_⟩
  refine (θ_run Cert.Reference6Ideal.defs _ _).mono (fun _ h c => ⟨(h c).1.trans ?_, (h c).2⟩) (Cert.Reference6Ideal.Value.run (F := Ideal) m' ρ')
  obtain ⟨h0, h1⟩ := hagree c
  obtain ⟨hp, hk⟩ := pre_at _ _ (hpre c)
  rw [final m c, h0, h1]
  funext i
  obtain ⟨b, R, n, rfl⟩ : ∃ b R n, i = ix3 b R n := ⟨i 0, i 1, i 2, eq_ix3 i⟩
  exact reference_at hp hk b R n

end Cert.Proof.MemAttn

end
-- ==== Proof.lean ====
/- The claims: the sparse attention call runs quiescently and keeps its arguments; the feed-forward calls, the merge, the
   projection and the memory's calls compute their references. -/
module

public import proofs.«01_k».proof.Defs
public import proofs.«01_k».proof.Proof.Gen.Kernel
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Pre_finite_entries
public import proofs.«01_k».proof.Proof.Dsa
public import proofs.«01_k».proof.Proof.FfnRef
public import proofs.«01_k».proof.Proof.MacRef
public import proofs.«01_k».proof.Proof.MergeRef
public import proofs.«01_k».proof.Proof.ProjRef
public import proofs.«01_k».proof.Proof.MemKvRef
public import proofs.«01_k».proof.Proof.MemAttnRef
public import Idealize.ShloMosaic.Lib.Quiescent

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem quiescent_Reference6Ideal_pre : quiescent_Reference6Ideal_pre_finite_entries := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  obtain ⟨h0, h1, h2, h3, h4⟩ := hagree c
  rw [(h c).1]
  funext i
  obtain ⟨R, d, rfl⟩ : ∃ R d, i = ix2 R d := ⟨i 0, i 1, eq_ix2 i⟩
  exact (Ffn.reference_at m m' c h0 h1 h2 h3 h4 R d).trans (Ffn.final m c R d).symm

theorem claim : Cert.Claim := ⟨Cert.Kernel.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel7.Gen.facts, Cert.Kernel7Ideal.Gen.facts, Cert.Reference7Ideal.Gen.facts, Cert.Kernel6.Gen.facts, Cert.Kernel6Ideal.Gen.facts, Cert.Reference6Ideal.Gen.facts, Cert.Pre_finite_entries.Gen.facts,
  fun m ρ _ => @Dsa.run _ _ Cert.Kernel.Gen.facts m ρ,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel7.Gen.frame m ρ, fun m ρ _ => Cert.Kernel7Ideal.Gen.frame m ρ, quiescent_Reference7Ideal,
  fun m ρ _ => Cert.Kernel6.Gen.frame m ρ, fun m ρ _ => Cert.Kernel6Ideal.Gen.frame m ρ, fun m ρ _ => Cert.Kernel6Ideal.Gen.frame m ρ, quiescent_Reference6Ideal, quiescent_Reference6Ideal_pre,
  (trivial : preserves_Kernel2_Kernel2Ideal), algebraic_Kernel2Ideal_Reference2Ideal,
  (trivial : preserves_Kernel3_Kernel3Ideal), Mac.algebraic,
  (trivial : preserves_Kernel4_Kernel4Ideal), Merge.algebraic,
  (trivial : preserves_Kernel5_Kernel5Ideal), Proj.algebraic,
  (trivial : preserves_Kernel7_Kernel7Ideal), MemKv.algebraic,
  (trivial : preserves_Kernel6_Kernel6Ideal), MemAttn.algebraic⟩

end Cert.Proof

end
